-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .bf16 0x3DB5#16 (((Real.sqrt 128)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨4, ![8, 1024, 16, 128]⟩ ⟨4, ![8, 4096, 16, 128]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![8, 1024, 16, 128]⟩ ⟨4, ![8, 4096, 16, 128]⟩ 1 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S8x8x16x128 : Shape := ⟨4, ![8, 8, 16, 128]⟩
abbrev S8x1024x16x128 : Shape := ⟨4, ![8, 1024, 16, 128]⟩
abbrev S_ : Shape := ⟨0, ![]⟩

class Facts : Prop where
  bcast_S_S8x8x16x128 : S_.BroadcastsInDim S8x8x16x128 (![] : Fin 0 → Fin S8x8x16x128.rank)
  bcast_S_S8x1024x16x128 : S_.BroadcastsInDim S8x1024x16x128 (![] : Fin 0 → Fin S8x1024x16x128.rank)

variable [Facts]

def fn {F : FTy → Type} [FloatOps F] (main_arg0 : FVec F S8x8x16x128 .bf16) (main_arg1 : FVec F S8x1024x16x128 .bf16) (main_arg2 : FVec F S8x1024x16x128 .bf16) : IVec S8x8x16x128 1 × IVec S8x1024x16x128 1 :=
  let main_v0 : FVec F S8x8x16x128 .bf16 := Host.absf main_arg0
  let main_cst : FVec F S_ .bf16 := constant S_ .bf16 0x7F80#16
  let main_v1 : FVec F S8x8x16x128 .bf16 := broadcastInDim S8x8x16x128 ![] bcast_S_S8x8x16x128 main_cst
  let main_v2 : IVec S8x8x16x128 1 := cmpf .olt main_v0 main_v1
  let main_v3 : FVec F S8x1024x16x128 .bf16 := Host.absf main_arg1
  let main_cst_0 : FVec F S_ .bf16 := constant S_ .bf16 0x7F80#16
  let main_v4 : FVec F S8x1024x16x128 .bf16 := broadcastInDim S8x1024x16x128 ![] bcast_S_S8x1024x16x128 main_cst_0
  let main_v5 : IVec S8x1024x16x128 1 := cmpf .olt main_v3 main_v4
  (main_v2, main_v5)
-- ==== Pre_finite_scores_ReferenceIdeal.lean ====
abbrev S8x8x16x128 : Shape := ⟨4, ![8, 8, 16, 128]⟩
abbrev S8x4096x16x128 : Shape := ⟨4, ![8, 4096, 16, 128]⟩
abbrev S_ : Shape := ⟨0, ![]⟩

class Facts : Prop where
  bcast_S_S8x8x16x128 : S_.BroadcastsInDim S8x8x16x128 (![] : Fin 0 → Fin S8x8x16x128.rank)
  bcast_S_S8x4096x16x128 : S_.BroadcastsInDim S8x4096x16x128 (![] : Fin 0 → Fin S8x4096x16x128.rank)

variable [Facts]

def fn {F : FTy → Type} [FloatOps F] (main_arg0 : FVec F S8x8x16x128 .bf16) (main_arg1 : FVec F S8x4096x16x128 .bf16) (main_arg2 : FVec F S8x4096x16x128 .bf16) : IVec S8x8x16x128 1 × IVec S8x4096x16x128 1 :=
  let main_v0 : FVec F S8x8x16x128 .bf16 := Host.absf main_arg0
  let main_cst : FVec F S_ .bf16 := constant S_ .bf16 0x7F80#16
  let main_v1 : FVec F S8x8x16x128 .bf16 := broadcastInDim S8x8x16x128 ![] bcast_S_S8x8x16x128 main_cst
  let main_v2 : IVec S8x8x16x128 1 := cmpf .olt main_v0 main_v1
  let main_v3 : FVec F S8x4096x16x128 .bf16 := Host.absf main_arg1
  let main_cst_0 : FVec F S_ .bf16 := constant S_ .bf16 0x7F80#16
  let main_v4 : FVec F S8x4096x16x128 .bf16 := broadcastInDim S8x4096x16x128 ![] bcast_S_S8x4096x16x128 main_cst_0
  let main_v5 : IVec S8x4096x16x128 1 := cmpf .olt main_v3 main_v4
  (main_v2, main_v5)
-- ==== Kernel.lean ====
abbrev S8x8x16x128 : Shape := ⟨4, ![8, 8, 16, 128]⟩
abbrev S8x1024x16x128 : Shape := ⟨4, ![8, 1024, 16, 128]⟩
abbrev S1x8x8x128 : Shape := ⟨4, ![1, 8, 8, 128]⟩
abbrev S1x1024x8x128 : Shape := ⟨4, ![1, 1024, 8, 128]⟩
abbrev S8192x64 : Shape := ⟨2, ![8192, 64]⟩
abbrev S8x16x8x128 : Shape := ⟨4, ![8, 16, 8, 128]⟩
abbrev S8x16x8 : Shape := ⟨3, ![8, 16, 8]⟩
abbrev S8 : Shape := ⟨1, ![8]⟩
abbrev S_ : Shape := ⟨0, ![]⟩
abbrev S1024x8x128 : Shape := ⟨3, ![1024, 8, 128]⟩
abbrev S8192x128 : Shape := ⟨2, ![8192, 128]⟩
abbrev S8x8x128 : Shape := ⟨3, ![8, 8, 128]⟩
abbrev S64x128 : Shape := ⟨2, ![64, 128]⟩
abbrev S8x8x1 : Shape := ⟨3, ![8, 8, 1]⟩
abbrev S8x8 : Shape := ⟨2, ![8, 8]⟩
abbrev S1x8x8 : Shape := ⟨3, ![1, 8, 8]⟩
abbrev S1 : Shape := ⟨1, ![1]⟩
abbrev S1x16x8x128 : Shape := ⟨4, ![1, 16, 8, 128]⟩
abbrev S16x8x128 : Shape := ⟨3, ![16, 8, 128]⟩
abbrev S1x16x8 : Shape := ⟨3, ![1, 16, 8]⟩
abbrev S16x8 : Shape := ⟨2, ![16, 8]⟩
abbrev S8x16x128 : Shape := ⟨3, ![8, 16, 128]⟩
abbrev S8x16 : Shape := ⟨2, ![8, 16]⟩
abbrev S8x16x1 : Shape := ⟨3, ![8, 16, 1]⟩
abbrev S1x8x16x128 : Shape := ⟨4, ![1, 8, 16, 128]⟩

abbrev nBuf : Space → Nat
  | .hbm => 4
  | .vmem => 16
  | .smem => 0
  | _ => 0

abbrev bufTy : (tb : Table) → Fin (tcTables nBuf tb) → BufTy
  | .hbm, ⟨0, _⟩ => ⟨S8x8x16x128, .bf16⟩
  | .hbm, ⟨1, _⟩ => ⟨S8x1024x16x128, .bf16⟩
  | .hbm, ⟨2, _⟩ => ⟨S8x1024x16x128, .bf16⟩
  | .hbm, ⟨3, _⟩ => ⟨S8x8x16x128, .f32⟩
  | .local _ .vmem, ⟨0, _⟩ => ⟨S1x8x8x128, .bf16⟩
  | .local _ .vmem, ⟨1, _⟩ => ⟨S1x8x8x128, .bf16⟩
  | .local _ .vmem, ⟨2, _⟩ => ⟨S1x1024x8x128, .bf16⟩
  | .local _ .vmem, ⟨3, _⟩ => ⟨S1x1024x8x128, .bf16⟩
  | .local _ .vmem, ⟨4, _⟩ => ⟨S1x1024x8x128, .bf16⟩
  | .local _ .vmem, ⟨5, _⟩ => ⟨S1x1024x8x128, .bf16⟩
  | .local _ .vmem, ⟨6, _⟩ => ⟨S8x8x16x128, .f32⟩
  | .local _ .vmem, ⟨7, _⟩ => ⟨S8192x64, .f32⟩
  | .local _ .vmem, ⟨8, _⟩ => ⟨S8x16x8x128, .bf16⟩
  | .local _ .vmem, ⟨9, _⟩ => ⟨S8x16x8, .f32⟩
  | .local _ .vmem, ⟨10, _⟩ => ⟨S8x16x8x128, .bf16⟩
  | .local _ .vmem, ⟨11, _⟩ => ⟨S8x16x8x128, .bf16⟩
  | .local _ .vmem, ⟨12, _⟩ => ⟨S8x16x8x128, .bf16⟩
  | .local _ .vmem, ⟨13, _⟩ => ⟨S8x16x8, .f32⟩
  | .local _ .vmem, ⟨14, _⟩ => ⟨S8x16x8, .f32⟩
  | .local _ .vmem, ⟨15, _⟩ => ⟨S8x16x8, .f32⟩
  | _, _ => ⟨S8x8x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev barrier0 : Sem sig := 0

abbrev nD : Nat := 4
abbrev τ : Topo := Topo.v7x

variable {F : FTy → Type} [FloatOps F]

abbrev grid0 : Pipeline.Grid := ⟨2, ![8, 2], ![false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def k0_dev1 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_34 : BitVec 32 := 1#32
  let v65 : BitVec 32 := Scalar.muli v3 c1_i32_34
  let v66 : BitVec 32 := Scalar.addi c0_i32_35 v65
  v66.toNat
def k0_dev2 (d0 : Dev nD) : Nat :=
  let c0_i32_38 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_37 : BitVec 32 := 1#32
  let v67 : BitVec 32 := Scalar.muli v4 c1_i32_37
  let v68 : BitVec 32 := Scalar.addi c0_i32_38 v67
  v68.toNat
def k0_off1 (i : grid0.Coords) : Fin 4 → Nat :=
  let arg0 : BitVec 32 := BitVec.ofNat 32 (i 0).val
  let v32 : Index := Scalar.indexCast arg0
  let arg1 : BitVec 32 := BitVec.ofNat 32 (i 1).val
  let c8_i32 : BitVec 32 := 8#32
  let v31 : BitVec 32 := Scalar.muli arg1 c8_i32
  let v33 : Index := Scalar.indexCast v31
  let c0_20 : Index := 0#32
  let c0_21 : Index := 0#32
  ![v32.toNat, v33.toNat, 0, 0]
def k0_off2 (i : grid0.Coords) : Fin 3 → Nat :=
  let arg0 : BitVec 32 := BitVec.ofNat 32 (i 0).val
  let v41 : Index := Scalar.indexCast arg0
  let arg1 : BitVec 32 := BitVec.ofNat 32 (i 1).val
  let c8_i32_22 : BitVec 32 := 8#32
  let v40 : BitVec 32 := Scalar.muli arg1 c8_i32_22
  let v42 : Index := Scalar.indexCast v40
  let c0_23 : Index := 0#32
  ![v41.toNat, v42.toNat, 0]
def k0_cond2 (i : grid0.Coords) : BitVec 1 :=
  let arg1 : BitVec 32 := BitVec.ofNat 32 (i 1).val
  let c1_i32_24 : BitVec 32 := 1#32
  let v46 : BitVec 1 := Scalar.cmpi .eq arg1 c1_i32_24
  let v47 : BitVec 32 := Scalar.extui v46
  let c0_i32_25 : BitVec 32 := 0#32
  let v48 : BitVec 1 := Scalar.cmpi .ne v47 c0_i32_25
  v48

def k0_off3 (i : grid0.Coords) : Fin 1 → Nat :=
  let arg0 : BitVec 32 := BitVec.ofNat 32 (i 0).val
  ![arg0.toNat]
def k0_off4 (i : grid0.Coords) : Fin 4 → Nat :=
  let arg0 : BitVec 32 := BitVec.ofNat 32 (i 0).val
  let c0_i32_35 : BitVec 32 := 0#32
  let c0_i32_36 : BitVec 32 := 0#32
  let c0_i32_37 : BitVec 32 := 0#32
  ![arg0.toNat, 0, 0, 0]
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_33 : BitVec 32 := 1#32
  let v64 : BitVec 32 := Scalar.muli v3 c1_i32_33
  let v65 : BitVec 32 := Scalar.addi c0_i32_34 v64
  v65.toNat
def k0_off5 (i : grid0.Coords) : Fin 3 → Nat :=
  let arg0 : BitVec 32 := BitVec.ofNat 32 (i 0).val
  let c0_i32_43 : BitVec 32 := 0#32
  let c0_i32_44 : BitVec 32 := 0#32
  ![arg0.toNat, 0, 0]
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_41 : BitVec 32 := 1#32
  let v74 : BitVec 32 := Scalar.muli v3 c1_i32_41
  let v75 : BitVec 32 := Scalar.addi c0_i32_42 v74
  v75.toNat
def k0_cond3 (i : grid0.Coords) : BitVec 1 :=
  let arg1 : BitVec 32 := BitVec.ofNat 32 (i 1).val
  let c1_i32_26 : BitVec 32 := 1#32
  let v49 : BitVec 1 := Scalar.cmpi .eq arg1 c1_i32_26
  let arg0 : BitVec 32 := BitVec.ofNat 32 (i 0).val
  let c1_i32_27 : BitVec 32 := 1#32
  let v50 : BitVec 1 := Scalar.cmpi .sge arg0 c1_i32_27
  let v51 : BitVec 1 := Scalar.andi v49 v50
  let v52 : BitVec 32 := Scalar.extui v51
  let c0_i32_28 : BitVec 32 := 0#32
  let v53 : BitVec 1 := Scalar.cmpi .ne v52 c0_i32_28
  v53

def k0_off6 (i : grid0.Coords) : Fin 1 → Nat :=
  let arg0 : BitVec 32 := BitVec.ofNat 32 (i 0).val
  let c1_i32_33 : BitVec 32 := 1#32
  let v64 : BitVec 32 := Scalar.subi arg0 c1_i32_33
  ![v64.toNat]
def k0_off7 (i : grid0.Coords) : Fin 4 → Nat :=
  let arg0 : BitVec 32 := BitVec.ofNat 32 (i 0).val
  let c1_i32_33 : BitVec 32 := 1#32
  let v64 : BitVec 32 := Scalar.subi arg0 c1_i32_33
  let c0_i32_36 : BitVec 32 := 0#32
  let c0_i32_37 : BitVec 32 := 0#32
  let c0_i32_38 : BitVec 32 := 0#32
  ![v64.toNat, 0, 0, 0]
def k0_off8 (i : grid0.Coords) : Fin 3 → Nat :=
  let arg0 : BitVec 32 := BitVec.ofNat 32 (i 0).val
  let c1_i32_33 : BitVec 32 := 1#32
  let v64 : BitVec 32 := Scalar.subi arg0 c1_i32_33
  let c0_i32_44 : BitVec 32 := 0#32
  let c0_i32_45 : BitVec 32 := 0#32
  ![v64.toNat, 0, 0]
def k0_off9 (i : grid0.Coords) : Fin 4 → Nat :=
  let arg0 : BitVec 32 := BitVec.ofNat 32 (i 0).val
  let c1_i32_33 : BitVec 32 := 1#32
  let v64 : BitVec 32 := Scalar.subi arg0 c1_i32_33
  let v81 : Index := Scalar.indexCast v64
  let c0_48 : Index := 0#32
  let c0_49 : Index := 0#32
  let c0_50 : Index := 0#32
  ![v81.toNat, 0, 0, 0]
def k0_off10 (i : grid0.Coords) : Fin 3 → Nat :=
  let arg0 : BitVec 32 := BitVec.ofNat 32 (i 0).val
  let c1_i32_33 : BitVec 32 := 1#32
  let v64 : BitVec 32 := Scalar.subi arg0 c1_i32_33
  let v95 : Index := Scalar.indexCast v64
  let c0_57 : Index := 0#32
  let c0_58 : Index := 0#32
  ![v95.toNat, 0, 0]
def k0_dev5 (d0 : Dev nD) : Nat :=
  let c0_i32_64 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_63 : BitVec 32 := 1#32
  let v106 : BitVec 32 := Scalar.muli v4 c1_i32_63
  let v107 : BitVec 32 := Scalar.addi c0_i32_64 v106
  v107.toNat
def k0_dev6 (d0 : Dev nD) : Nat :=
  let c0_i32_72 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_71 : BitVec 32 := 1#32
  let v116 : BitVec 32 := Scalar.muli v4 c1_i32_71
  let v117 : BitVec 32 := Scalar.addi c0_i32_72 v116
  v117.toNat
def k0_cond4 (i : grid0.Coords) : BitVec 1 :=
  let arg1 : BitVec 32 := BitVec.ofNat 32 (i 1).val
  let c1_i32_29 : BitVec 32 := 1#32
  let v54 : BitVec 1 := Scalar.cmpi .eq arg1 c1_i32_29
  let arg0 : BitVec 32 := BitVec.ofNat 32 (i 0).val
  let c2_i32 : BitVec 32 := 2#32
  let v55 : BitVec 1 := Scalar.cmpi .sge arg0 c2_i32
  let v56 : BitVec 1 := Scalar.andi v54 v55
  let v57 : BitVec 32 := Scalar.extui v56
  let c0_i32_30 : BitVec 32 := 0#32
  let v58 : BitVec 1 := Scalar.cmpi .ne v57 c0_i32_30
  v58

def k0_off11 (i : grid0.Coords) : Fin 1 → Nat :=
  let arg0 : BitVec 32 := BitVec.ofNat 32 (i 0).val
  let c2_i32_33 : BitVec 32 := 2#32
  let v64 : BitVec 32 := Scalar.subi arg0 c2_i32_33
  ![v64.toNat]
def k0_off12 (i : grid0.Coords) : Fin 4 → Nat :=
  let arg0 : BitVec 32 := BitVec.ofNat 32 (i 0).val
  let c2_i32_33 : BitVec 32 := 2#32
  let v64 : BitVec 32 := Scalar.subi arg0 c2_i32_33
  let c0_i32_36 : BitVec 32 := 0#32
  let c0_i32_37 : BitVec 32 := 0#32
  let c0_i32_38 : BitVec 32 := 0#32
  ![v64.toNat, 0, 0, 0]
def k0_off13 (i : grid0.Coords) : Fin 3 → Nat :=
  let arg0 : BitVec 32 := BitVec.ofNat 32 (i 0).val
  let c2_i32_33 : BitVec 32 := 2#32
  let v64 : BitVec 32 := Scalar.subi arg0 c2_i32_33
  let c0_i32_44 : BitVec 32 := 0#32
  let c0_i32_45 : BitVec 32 := 0#32
  ![v64.toNat, 0, 0]
def k0_off14 (i : grid0.Coords) : Fin 4 → Nat :=
  let arg0 : BitVec 32 := BitVec.ofNat 32 (i 0).val
  let c2_i32_33 : BitVec 32 := 2#32
  let v64 : BitVec 32 := Scalar.subi arg0 c2_i32_33
  let v81 : Index := Scalar.indexCast v64
  let c0_48 : Index := 0#32
  let c0_49 : Index := 0#32
  let c0_50 : Index := 0#32
  ![v81.toNat, 0, 0, 0]
def k0_off15 (i : grid0.Coords) : Fin 3 → Nat :=
  let arg0 : BitVec 32 := BitVec.ofNat 32 (i 0).val
  let c2_i32_33 : BitVec 32 := 2#32
  let v64 : BitVec 32 := Scalar.subi arg0 c2_i32_33
  let v90 : Index := Scalar.indexCast v64
  let c0_54 : Index := 0#32
  let c0_55 : Index := 0#32
  ![v90.toNat, 0, 0]
def k0_off16 (i : grid0.Coords) : Fin 4 → Nat :=
  let arg0 : BitVec 32 := BitVec.ofNat 32 (i 0).val
  let c2_i32_33 : BitVec 32 := 2#32
  let v64 : BitVec 32 := Scalar.subi arg0 c2_i32_33
  let v102 : Index := Scalar.indexCast v64
  let c0_58 : Index := 0#32
  let c0_59 : Index := 0#32
  let c0_60 : Index := 0#32
  ![v102.toNat, 0, 0, 0]
def k0_cond5 (i : grid0.Coords) : BitVec 1 :=
  let arg0 : BitVec 32 := BitVec.ofNat 32 (i 0).val
  let c7_i32 : BitVec 32 := 7#32
  let v59 : BitVec 1 := Scalar.cmpi .eq arg0 c7_i32
  let arg1 : BitVec 32 := BitVec.ofNat 32 (i 1).val
  let c1_i32_31 : BitVec 32 := 1#32
  let v60 : BitVec 1 := Scalar.cmpi .eq arg1 c1_i32_31
  let v61 : BitVec 1 := Scalar.andi v59 v60
  let v62 : BitVec 32 := Scalar.extui v61
  let c0_i32_32 : BitVec 32 := 0#32
  let v63 : BitVec 1 := Scalar.cmpi .ne v62 c0_i32_32
  v63

def k0_dev7 (d0 : Dev nD) : Nat :=
  let c0_i32_80 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_79 : BitVec 32 := 1#32
  let v99 : BitVec 32 := Scalar.muli v4 c1_i32_79
  let v100 : BitVec 32 := Scalar.addi c0_i32_80 v99
  v100.toNat
def k0_dev8 (d0 : Dev nD) : Nat :=
  let c0_i32_92 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_91 : BitVec 32 := 1#32
  let v109 : BitVec 32 := Scalar.muli v4 c1_i32_91
  let v110 : BitVec 32 := Scalar.addi c0_i32_92 v109
  v110.toNat
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x8x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x8x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S8x8x16x128 : Shape := ⟨4, ![8, 8, 16, 128]⟩
abbrev S8x4096x16x128 : Shape := ⟨4, ![8, 4096, 16, 128]⟩
abbrev S_ : Shape := ⟨0, ![]⟩
abbrev S8x16x8x4096 : Shape := ⟨4, ![8, 16, 8, 4096]⟩
abbrev S8x16x8 : Shape := ⟨3, ![8, 16, 8]⟩
abbrev S8x16x8x1 : Shape := ⟨4, ![8, 16, 8, 1]⟩
abbrev S8x16x128x8 : Shape := ⟨4, ![8, 16, 128, 8]⟩

abbrev nBuf : Space → Nat
  | .hbm => 26
  | .vmem => 0
  | .smem => 0
  | _ => 0

abbrev bufTy : (tb : Table) → Fin (tcTables nBuf tb) → BufTy
  | .hbm, ⟨0, _⟩ => ⟨S8x8x16x128, .bf16⟩
  | .hbm, ⟨1, _⟩ => ⟨S8x4096x16x128, .bf16⟩
  | .hbm, ⟨2, _⟩ => ⟨S8x4096x16x128, .bf16⟩
  | .hbm, ⟨3, _⟩ => ⟨S8x8x16x128, .f32⟩
  | .hbm, ⟨4, _⟩ => ⟨S8x4096x16x128, .f32⟩
  | .hbm, ⟨5, _⟩ => ⟨S8x4096x16x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x16x8x4096, .f32⟩
  | .hbm, ⟨11, _⟩ => ⟨S8x16x8x4096, .f32⟩
  | .hbm, ⟨12, _⟩ => ⟨S8x16x8x4096, .f32⟩
  | .hbm, ⟨13, _⟩ => ⟨S_, .f32⟩
  | .hbm, ⟨14, _⟩ => ⟨S8x16x8, .f32⟩
  | .hbm, ⟨15, _⟩ => ⟨S8x16x8x1, .f32⟩
  | .hbm, ⟨16, _⟩ => ⟨S8x16x8x4096, .f32⟩
  | .hbm, ⟨17, _⟩ => ⟨S8x16x8x4096, .f32⟩
  | .hbm, ⟨18, _⟩ => ⟨S8x16x8x4096, .f32⟩
  | .hbm, ⟨19, _⟩ => ⟨S_, .f32⟩
  | .hbm, ⟨20, _⟩ => ⟨S8x16x8, .f32⟩
  | .hbm, ⟨21, _⟩ => ⟨S8x16x8x1, .f32⟩
  | .hbm, ⟨22, _⟩ => ⟨S8x16x8x4096, .f32⟩
  | .hbm, ⟨23, _⟩ => ⟨S8x16x8x4096, .f32⟩
  | .hbm, ⟨24, _⟩ => ⟨S8x16x128x8, .f32⟩
  | .hbm, ⟨25, _⟩ => ⟨S8x8x16x128, .f32⟩
  | _, _ => ⟨S8x8x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.KI.Rows.lean ====
/-
  Rows of the kernel's scratch buffers, and one rule per access to a row.

  The kernel works slot by slot: slot `i` (one batch entry) is row `i` of every scratch buffer. A row is owned on its
  own, at contents of the row's shape, so that a row on its way to another device, a row landing from one and a row being
  computed are separate resources. This file fixes the rectangles of the rows and half rows, states the load and the store
  of one as rules on that ownership, cuts a whole buffer into its rows and joins two half rows to a row.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.DatRel
public import Idealize.ShloMosaic.Lib.Tactic
public import Idealize.ShloMosaic.Lib.ValueIdxCore
public import Idealize.ShloMosaic.Lib.StableHlo.CollectiveRules

@[expose] public section

noncomputable section

namespace Cert.KernelIdeal.Proof

open Cert.KernelIdeal Cert.KernelIdeal.Gen Idealize.ShloMosaic.ValueIdx
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The ghost state: the pipeline's cells beside the protocol's, whose duties are named by booleans. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-- Running `p` on device `c` meets `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem elt_nonempty (e : EltTy) : Nonempty (Elt F e) := by
  cases e
  all_goals first
    | exact ⟨(0 : BitVec _)⟩
    | exact ⟨(FloatOps.ofBits _ 0 : F _)⟩

/-! ## Any access through a unit-stride rectangle -/

section Access
variable {s : Shape} {e : EltTy} (c : Dev nD) (m : Memref sig .tc .vmem s e) (r : Rect s) (hr : ∀ a, r.stride a = 1)
variable {α : Type} {Q : α → sProp (MT nD τ sig Unit (Elt F) ℕ UU ℕ)}

/-- A load through `r` of a memref owned on `r` at `Y` reads `Y`. -/
theorem wp_ld {q : PosShare TreeShare} {Y : r.shape.Idx → Elt F e} {hl : m.view.LoadsAt r.toLoadRect}
    {k : (r.shape.Idx → Elt F e) → Prog (TpuEff nD τ sig (Elt F) Λ₀ .tc) α} :
    owns (c : Thread nD τ) (m.slice r hr) q Y
      ⊢ iprop((owns (c : Thread nD τ) (m.slice r hr) q Y -∗ wpc c (k Y) Q) -∗ wpc c (.op (.load m r.toLoadRect hl) k) Q) := by
  unfold owns
  iintro ⟨%f, %hf, H⟩ Hk
  iapply (wp_load_rect 𝒱₀ (c : Thread nD τ) none Set.univ (m := m) (r := r) (S := (m.access r).set) (f := f) subset_rfl) $$ H
  iintro H
  have e : (m.access r).read (Elt F) f = Y := hf
  rw [e]
  iapply Hk
  iexists f
  isplitr; · ipureintro; exact hf
  iexact H

/-- A store of `w` through `r` of a memref owned on `r` leaves it at `w`. -/
theorem wp_st {Y w : r.shape.Idx → Elt F e} {hx : (m.access r).Stores Finset.univ}
    {hm : (Finset.univ : Finset r.shape.Idx) = Finset.univ ∨ ∀ a, r.stride a = 1}
    {k : PUnit → Prog (TpuEff nD τ sig (Elt F) Λ₀ .tc) α} :
    owns (c : Thread nD τ) (m.slice r hr) fullShare Y
      ⊢ iprop((owns (c : Thread nD τ) (m.slice r hr) fullShare w -∗ wpc c (k ⟨⟩) Q)
          -∗ wpc c (.op (.store m r w Finset.univ hx hm) k) Q) := by
  unfold owns
  iintro ⟨%f, %hf, H⟩ Hk
  iapply (wp_store 𝒱₀ (c : Thread nD τ) none Set.univ (m := m) (r := r) (S := (m.access r).set) (f := f)
    (by rw [View.setOn_univ])) $$ H
  iintro H
  iapply Hk
  iexists (m.access r).write (Elt F) f w Finset.univ
  isplitr
  · ipureintro
    exact View.read_write_univ _ _
  iexact H

/-- A load of the whole memref. -/
theorem wp_ld_whole {q : PosShare TreeShare} {X : s.Idx → Elt F e} {off : Fin s.rank → Nat} (h0 : off = fun _ => 0)
    (inb : ∀ a, off a + s.size a ≤ s.size a) {hl : m.view.LoadsAt (Rect.unit off s.size inb).toLoadRect}
    {k : (s.Idx → Elt F e) → Prog (TpuEff nD τ sig (Elt F) Λ₀ .tc) α} :
    owns (c : Thread nD τ) m q X
      ⊢ iprop((owns (c : Thread nD τ) m q X -∗ wpc c (k X) Q)
          -∗ wpc c (.op (.load m (Rect.unit off s.size inb).toLoadRect hl) k) Q) := by
  subst h0
  unfold owns
  iintro ⟨%f, %hf, H⟩ Hk
  iapply (wp_load_rect 𝒱₀ (c : Thread nD τ) none Set.univ (m := m) (r := Rect.unit (fun _ => 0) s.size inb) (S := m.view.set) (f := f)
    (View.set_slice_subset _ _)) $$ H
  iintro H
  have e : (m.access (Rect.unit (fun _ => 0) s.size inb)).read (Elt F) f = X := by
    rw [← hf]
    funext j
    show m.view.read (Elt F) f ((Rect.unit (fun _ => 0) s.size inb).emb j) = m.view.read (Elt F) f j
    congr 1
    funext a
    exact Fin.ext (by rw [Rect.emb_apply]; show 0 + 1 * (j a).val = (j a).val; omega)
  rw [e]
  iapply Hk
  iexists f
  isplitr; · ipureintro; exact hf
  iexact H

/-- A store of the whole memref. -/
theorem wp_st_whole {X w : s.Idx → Elt F e} {off : Fin s.rank → Nat} (h0 : off = fun _ => 0)
    (inb : ∀ a, off a + s.size a ≤ s.size a) {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} :
    owns (c : Thread nD τ) m fullShare X
      ⊢ iprop((owns (c : Thread nD τ) m fullShare w -∗ wpc c (k ⟨⟩) Q)
          -∗ wpc c (.op (.store m (Rect.unit off s.size inb) w Finset.univ hx hm) k) Q) := by
  subst h0
  unfold owns
  iintro ⟨%f, %hf, H⟩ Hk
  iapply (wp_store 𝒱₀ (c : Thread nD τ) none Set.univ (m := m) (r := Rect.unit (fun _ => 0) s.size inb) (S := m.view.set) (f := f)
    (by rw [View.setOn_univ]; exact View.set_slice_subset _ _)) $$ H
  iintro H
  iapply Hk
  iexists (m.access (Rect.unit (fun _ => 0) s.size inb)).write (Elt F) f w Finset.univ
  isplitr
  · ipureintro
    have hr : (m.access (Rect.unit (fun _ => 0) s.size inb)).read (Elt F)
        ((m.access (Rect.unit (fun _ => 0) s.size inb)).write (Elt F) f w Finset.univ) = w := View.read_write_univ _ _
    funext j
    rw [← congrFun hr j]
    show m.view.read (Elt F) _ j = m.view.read (Elt F) _ ((Rect.unit (fun _ => 0) s.size inb).emb j)
    congr 1
    funext a
    exact Fin.ext (by rw [Rect.emb_apply]; show (j a).val = 0 + 1 * (j a).val; omega)
  iexact H

/-- A load through `r` of a memref owned whole. -/
theorem wp_ld_part {q : PosShare TreeShare} {X : s.Idx → Elt F e} {hl : m.view.LoadsAt r.toLoadRect}
    {k : (r.shape.Idx → Elt F e) → Prog (TpuEff nD τ sig (Elt F) Λ₀ .tc) α} :
    owns (c : Thread nD τ) m q X
      ⊢ iprop((owns (c : Thread nD τ) m q X -∗ wpc c (k fun j => X (r.emb j)) Q)
          -∗ wpc c (.op (.load m r.toLoadRect hl) k) Q) := by
  unfold owns
  iintro ⟨%f, %hf, H⟩ Hk
  iapply (wp_load_rect 𝒱₀ (c : Thread nD τ) none Set.univ (m := m) (r := r) (S := m.view.set) (f := f)
    (View.set_slice_subset _ _)) $$ H
  iintro H
  have e : (m.access r).read (Elt F) f = fun j => X (r.emb j) := by rw [← hf]; rfl
  rw [e]
  iapply Hk
  iexists f
  isplitr; · ipureintro; exact hf
  iexact H

/-- A store of `w` through `r` of a memref owned whole replaces its part there. -/
theorem wp_st_part {X : s.Idx → Elt F e} {w : r.shape.Idx → Elt F e} {hx : (m.access r).Stores Finset.univ}
    {hm : (Finset.univ : Finset r.shape.Idx) = Finset.univ ∨ ∀ a, r.stride a = 1}
    {k : PUnit → Prog (TpuEff nD τ sig (Elt F) Λ₀ .tc) α} :
    owns (c : Thread nD τ) m fullShare X
      ⊢ iprop((owns (c : Thread nD τ) m fullShare (r.overlay X w) -∗ wpc c (k ⟨⟩) Q)
          -∗ wpc c (.op (.store m r w Finset.univ hx hm) k) Q) := by
  unfold owns
  iintro ⟨%f, %hf, H⟩ Hk
  iapply (wp_store 𝒱₀ (c : Thread nD τ) none Set.univ (m := m) (r := r) (S := m.view.set) (f := f)
    (by rw [View.setOn_univ]; exact View.set_slice_subset _ _)) $$ H
  iintro H
  iapply Hk
  iexists (m.access r).write (Elt F) f w Finset.univ
  isplitr
  · ipureintro
    funext j
    by_cases hj : j ∈ r.set
    · obtain ⟨i, rfl⟩ := r.exists_idx_of_mem hj
      change m.view.read (Elt F) _ (r.emb i) = r.overlay X w (r.emb i)
      rw [Rect.overlay_emb]
      exact congrFun (View.read_write_univ (v := m.access r) f w) i
    · rw [Rect.overlay_of_not_mem _ _ _ hj, ← hf, View.read_apply, View.read_apply]
      congr 1
      refine View.write_of_not_mem _ _ _ ?_
      rw [View.setOn_univ, View.set_slice, Finset.mem_map' m.view.emb]; exact hj
  iexact H

end Access

/-! ## The rectangles of a row and of half a row -/

theorem inb4 (i : Fin 8) : ∀ a, (![i.val, 0, 0, 0] : Fin 4 → Nat) a + S1x16x8x128.size a ≤ S8x16x8x128.size a := by
  revert i; decide
theorem inb3 (i : Fin 8) : ∀ a, (![i.val, 0, 0] : Fin 3 → Nat) a + S1x16x8.size a ≤ S8x16x8.size a := by
  revert i; decide
theorem inbH4 (i : Fin 8) (h : Fin 2) : ∀ a, (![i.val, 8 * h.val, 0, 0] : Fin 4 → Nat) a + S1x8x8x128.size a ≤ S8x16x8x128.size a := by
  revert i h; decide
theorem inbH3 (i : Fin 8) (h : Fin 2) : ∀ a, (![i.val, 8 * h.val, 0] : Fin 3 → Nat) a + S1x8x8.size a ≤ S8x16x8.size a := by
  revert i h; decide
theorem inbO (i : Fin 8) : ∀ a, (![i.val, 0, 0, 0] : Fin 4 → Nat) a + S1x8x16x128.size a ≤ S8x8x16x128.size a := by
  revert i; decide

/-- Row `i` of a numerator buffer, of a denominator buffer; heads `8h … 8h+7` of it; row `i` of the output. -/
abbrev R4 (i : Fin 8) : Rect S8x16x8x128 := Rect.unit (s := S8x16x8x128) ![i.val, 0, 0, 0] S1x16x8x128.size (inb4 i)
abbrev R3 (i : Fin 8) : Rect S8x16x8 := Rect.unit (s := S8x16x8) ![i.val, 0, 0] S1x16x8.size (inb3 i)
abbrev H4 (i : Fin 8) (h : Fin 2) : Rect S8x16x8x128 := Rect.unit (s := S8x16x8x128) ![i.val, 8 * h.val, 0, 0] S1x8x8x128.size (inbH4 i h)
abbrev H3 (i : Fin 8) (h : Fin 2) : Rect S8x16x8 := Rect.unit (s := S8x16x8) ![i.val, 8 * h.val, 0] S1x8x8.size (inbH3 i h)
abbrev RO (i : Fin 8) : Rect S8x8x16x128 := Rect.unit (s := S8x8x16x128) ![i.val, 0, 0, 0] S1x8x16x128.size (inbO i)

/-! ## Shares of a memref, and a rectangle cut in two -/

section Share
variable {s : Shape} {e : EltTy} (c : Dev nD) (m : Memref sig .tc .vmem s e)

/-- Owned outright is owned at the two half shares. -/
theorem own_halve {Y : s.Idx → Elt F e} :
    (owns (c : Thread nD τ) m fullShare Y : sProp 𝕄)
      ⊢ iprop(owns (c : Thread nD τ) m fullShare.left Y ∗ owns (c : Thread nD τ) m fullShare.right Y) :=
  (owns_share (c : Thread nD τ) m (PosShare.mem_left_op_right fullShare) Y).1

theorem own_unhalve {Y : s.Idx → Elt F e} :
    iprop(owns (c : Thread nD τ) m fullShare.left Y ∗ owns (c : Thread nD τ) m fullShare.right Y)
      ⊢ (owns (c : Thread nD τ) m fullShare Y : sProp 𝕄) :=
  (owns_share (c : Thread nD τ) m (PosShare.mem_left_op_right fullShare) Y).2

variable (r r₀ r₁ : Rect s) (hr : ∀ a, r.stride a = 1) (h₀ : ∀ a, r₀.stride a = 1) (h₁ : ∀ a, r₁.stride a = 1)
  (hd : Disjoint r₀.set r₁.set) (hu : r₀.set ∪ r₁.set = r.set)
include hd hu

theorem slice_union : (m.view.slice r₀).set ∪ (m.view.slice r₁).set = (m.view.slice r).set := by
  rw [View.set_slice, View.set_slice, View.set_slice, ← Finset.map_union, hu]

theorem slice_disj : Disjoint (m.view.slice r₀).set (m.view.slice r₁).set := by
  rw [View.set_slice, View.set_slice]; exact (Finset.disjoint_map _).mpr hd

/-- A rectangle cut in two, whatever it holds. -/
theorem own_cut {q : PosShare TreeShare} {Y : r.shape.Idx → Elt F e} :
    (owns (c : Thread nD τ) (m.slice r hr) q Y : sProp 𝕄)
      ⊢ iprop((∃ Z, owns (c : Thread nD τ) (m.slice r₀ h₀) q Z) ∗ ∃ Z, owns (c : Thread nD τ) (m.slice r₁ h₁) q Z) := by
  unfold owns
  iintro ⟨%f, %hf, H⟩
  have hs : (m.slice r hr).view.set = (m.view.slice r₀).set ∪ (m.view.slice r₁).set := (slice_union m r r₀ r₁ hd hu).symm
  rw [hs]
  ihave H' := (pointsTo_union (slice_disj m r r₀ r₁ hd hu)).1 $$ H
  icases H' with ⟨H0, H1⟩
  isplitl [H0]
  · iexists _; iexists f; isplitr; · ipureintro; rfl
    iexact H0
  · iexists _; iexists f; isplitr; · ipureintro; rfl
    iexact H1

/-- Its two parts, each at its part of `X`, are the rectangle at its part of `X`. -/
theorem own_glue {q : PosShare TreeShare} (X : s.Idx → Elt F e) :
    iprop(owns (c : Thread nD τ) (m.slice r₀ h₀) q (fun j => X (r₀.emb j)) ∗ owns (c : Thread nD τ) (m.slice r₁ h₁) q (fun j => X (r₁.emb j)))
      ⊢ (owns (c : Thread nD τ) (m.slice r hr) q (fun j => X (r.emb j)) : sProp 𝕄) := by
  unfold owns
  iintro ⟨⟨%f, %hf, H0⟩, ⟨%g, %hg, H1⟩⟩
  have hdj : Disjoint (m.slice r₀ h₀).view.set (m.slice r₁ h₁).view.set := slice_disj m r r₀ r₁ hd hu
  ihave H := (pointsTo_join (ℓ := m.view.loc (c : Thread nD τ)) (q := q) (f := f) (g := g) hdj) $$ [H0 H1]
  · isplitl [H0]; · iexact H0
    iexact H1
  have hs : (m.slice r₀ h₀).view.set ∪ (m.slice r₁ h₁).view.set = (m.slice r hr).view.set := slice_union m r r₀ r₁ hd hu
  rw [hs]
  iexists (m.view.slice r₁).set.piecewise g f
  isplitr
  · ipureintro
    funext j
    have hj : r.emb j ∈ r₀.set ∪ r₁.set := by
      rw [hu, ← Rect.map_emb_univ]; exact Finset.mem_map_of_mem _ (Finset.mem_univ j)
    show m.view.read (Elt F) _ (r.emb j) = X (r.emb j)
    by_cases hj1 : r.emb j ∈ r₁.set
    · obtain ⟨i, hi⟩ := r₁.exists_idx_of_mem hj1
      have hi' : r.emb j = r₁.emb i := hi.symm
      rw [hi', ← congrFun hg i, View.read_apply, Finset.piecewise_eq_of_mem]
      · rfl
      · rw [View.set_slice]; exact Finset.mem_map_of_mem _ (hi' ▸ hj1)
    · have hj0 : r.emb j ∈ r₀.set := (Finset.mem_union.mp hj).resolve_right hj1
      obtain ⟨i, hi⟩ := r₀.exists_idx_of_mem hj0
      have hi' : r.emb j = r₀.emb i := hi.symm
      rw [View.read_apply, Finset.piecewise_eq_of_notMem]
      · rw [hi', ← congrFun hf i]; rfl
      · rw [View.set_slice, Finset.mem_map' m.view.emb]; exact hj1
  iexact H

end Share

/-! ## Rows and half rows of the scratch buffers -/

theorem stride1 {s : Shape} (off size : Fin s.rank → Nat) (inb) (a : Fin s.rank) : (Rect.unit off size inb).stride a = 1 := rfl

/-- Row `i` of a numerator buffer of device `c`, at contents `Y`. -/
abbrev row4 (m : Memref sig .tc .vmem S8x16x8x128 .bf16) (c : Dev nD) (i : Fin 8) (q : PosShare TreeShare)
    (Y : S1x16x8x128.Idx → Elt F .bf16) : sProp 𝕄 :=
  owns (c : Thread nD τ) (m.slice (R4 i) (fun _ => rfl)) q Y
/-- Row `i` of a denominator buffer. -/
abbrev row3 (m : Memref sig .tc .vmem S8x16x8 .f32) (c : Dev nD) (i : Fin 8) (q : PosShare TreeShare)
    (Y : S1x16x8.Idx → Elt F .f32) : sProp 𝕄 :=
  owns (c : Thread nD τ) (m.slice (R3 i) (fun _ => rfl)) q Y
/-- The heads of half `h` of row `i`, of a numerator and of a denominator buffer. -/
abbrev half4 (m : Memref sig .tc .vmem S8x16x8x128 .bf16) (c : Dev nD) (i : Fin 8) (h : Fin 2)
    (Y : S1x8x8x128.Idx → Elt F .bf16) : sProp 𝕄 :=
  owns (c : Thread nD τ) (m.slice (H4 i h) (fun _ => rfl)) fullShare Y
abbrev half3 (m : Memref sig .tc .vmem S8x16x8 .f32) (c : Dev nD) (i : Fin 8) (h : Fin 2)
    (Y : S1x8x8.Idx → Elt F .f32) : sProp 𝕄 :=
  owns (c : Thread nD τ) (m.slice (H3 i h) (fun _ => rfl)) fullShare Y

/-- Two half rows side by side. -/
def glue4 {α : Type} (A B : S1x8x8x128.Idx → α) : S1x16x8x128.Idx → α := fun j =>
  if h : (j 1).val < 8 then A (ix4 (j 0) ⟨(j 1).val, h⟩ (j 2) (j 3))
  else B (ix4 (j 0) ⟨(j 1).val - 8, by have : (j 1).val < 16 := (j 1).isLt; omega⟩ (j 2) (j 3))
def glue3 {α : Type} (A B : S1x8x8.Idx → α) : S1x16x8.Idx → α := fun j =>
  if h : (j 1).val < 8 then A (ix3 (j 0) ⟨(j 1).val, h⟩ (j 2))
  else B (ix3 (j 0) ⟨(j 1).val - 8, by have : (j 1).val < 16 := (j 1).isLt; omega⟩ (j 2))

/-- A row's contents as contents of the buffer, the same in every row. -/
def spread4 {α : Type} (Y : S1x16x8x128.Idx → α) : S8x16x8x128.Idx → α := fun x => Y (ix4 0 (x 1) (x 2) (x 3))
def spread3 {α : Type} (Y : S1x16x8.Idx → α) : S8x16x8.Idx → α := fun x => Y (ix3 0 (x 1) (x 2))

theorem spread4_emb {α : Type} (Y : S1x16x8x128.Idx → α) (i : Fin 8) (j : S1x16x8x128.Idx) : spread4 Y ((R4 i).emb j) = Y j := by
  unfold spread4
  congr 1
  refine (eq_ix4 _).trans ?_ |>.trans (eq_ix4 j).symm
  have h0 : (j 0).val < 1 := (j 0).isLt
  have e (a : Fin 4) : ((R4 i).emb j a).val = (![i.val, 0, 0, 0] : Fin 4 → Nat) a + 1 * (j a).val := rfl
  congr 1
  · exact Fin.ext (by show 0 = (j 0).val; omega)
  · exact Fin.ext ((e 1).trans (by simp))
  · exact Fin.ext ((e 2).trans (by simp))
  · exact Fin.ext ((e 3).trans (by simp))
theorem spread3_emb {α : Type} (Y : S1x16x8.Idx → α) (i : Fin 8) (j : S1x16x8.Idx) : spread3 Y ((R3 i).emb j) = Y j := by
  unfold spread3
  congr 1
  refine (eq_ix3 _).trans ?_ |>.trans (eq_ix3 j).symm
  have h0 : (j 0).val < 1 := (j 0).isLt
  have e (a : Fin 3) : ((R3 i).emb j a).val = (![i.val, 0, 0] : Fin 3 → Nat) a + 1 * (j a).val := rfl
  congr 1
  · exact Fin.ext (by show 0 = (j 0).val; omega)
  · exact Fin.ext ((e 1).trans (by simp))
  · exact Fin.ext ((e 2).trans (by simp))

theorem R4_disj (i j : Fin 8) (h : i ≠ j) : Disjoint (R4 i).set (R4 j).set :=
  Rect.unit_disjoint 0 (by
    have h' : i.val ≠ j.val := fun e => h (Fin.ext e)
    show i.val + 1 ≤ j.val ∨ j.val + 1 ≤ i.val; omega)

theorem R4_cover : (Finset.univ.biUnion fun i => (R4 i).set) = (Finset.univ : Finset S8x16x8x128.Idx) := by
  refine Finset.eq_univ_iff_forall.mpr fun x => Finset.mem_biUnion.mpr ⟨x 0, Finset.mem_univ _, Rect.mem_set_unit.mpr fun a => ?_⟩
  have ha : (x a).val < S8x16x8x128.size a := (x a).isLt
  refine ⟨?_, ?_⟩
  · revert a; intro a; fin_cases a <;> simp
  · revert ha; fin_cases a <;> simp <;> omega

/-- The buffer is its eight rows, at whatever contents. -/
theorem rows4_of_whole (m : Memref sig .tc .vmem S8x16x8x128 .bf16) (c : Dev nD) {X : S8x16x8x128.Idx → Elt F .bf16} :
    (owns (c : Thread nD τ) m fullShare X : sProp 𝕄) ⊢ bigSep Finset.univ fun i : Fin 8 => iprop(∃ Y, row4 m c i fullShare Y) :=
  (owns_rects (c : Thread nD τ) m fullShare R4 (fun _ _ => rfl) (fun i j h => R4_disj i j h) R4_cover X).trans
    (BI.bigSep_mono fun i _ => exists_intro (Φ := fun Y => row4 m c i fullShare Y) (fun j => X ((R4 i).emb j)))

theorem whole_of_rows4 (m : Memref sig .tc .vmem S8x16x8x128 .bf16) (c : Dev nD) :
    (bigSep Finset.univ fun i : Fin 8 => iprop(∃ Y, row4 m c i fullShare Y))
      ⊢ (iprop(∃ X, owns (c : Thread nD τ) m fullShare X) : sProp 𝕄) := by
  haveI : Nonempty (S1x16x8x128.Idx → Elt F .bf16) := ⟨fun _ => (elt_nonempty .bf16).some⟩
  refine (BI.bigSep_exists_pi Finset.univ (fun i Y => row4 m c i fullShare Y)).trans ?_
  iintro ⟨%Ys, H⟩
  have hYs : (bigSep Finset.univ fun i => row4 m c i fullShare (Ys i) : sProp 𝕄)
      = bigSep Finset.univ fun i => row4 m c i fullShare (fun j => spread4 (Ys ((R4 i).emb j 0)) ((R4 i).emb j)) := by
    refine BI.bigSep_congr fun i _ => congrArg (owns (c : Thread nD τ) (m.slice (R4 i) _) fullShare) (funext fun j => ?_)
    have h0 : (R4 i).emb j 0 = i := Fin.ext (by have : (j 0).val < 1 := (j 0).isLt; show i.val + 1 * (j 0).val = i.val; omega)
    rw [h0, spread4_emb]
  iexists (fun x => spread4 (Ys (x 0)) x)
  haveI := elt_nonempty (F := F)
  iapply (owns_of_rects (c : Thread nD τ) m fullShare R4 (fun _ _ => rfl) (fun i j h => R4_disj i j h) R4_cover (fun x => spread4 (Ys (x 0)) x))
  iapply (Entails.of_eq hYs) $$ H

theorem H4_disj (i : Fin 8) : Disjoint (H4 i 0).set (H4 i 1).set :=
  Rect.unit_disjoint 1 (by show 8 * 0 + 8 ≤ 8 * 1 ∨ 8 * 1 + 8 ≤ 8 * 0; omega)

theorem H4_union (i : Fin 8) : (H4 i 0).set ∪ (H4 i 1).set = (R4 i).set := by
  ext x
  rw [Finset.mem_union, Rect.mem_set_unit, Rect.mem_set_unit, Rect.mem_set_unit]
  have h1 : (x 1).val < 16 := (x 1).isLt
  constructor
  · rintro (h | h) a <;> [have := h a; have := h a] <;> revert this <;> fin_cases a <;> simp <;> omega
  · intro h
    by_cases h8 : (x 1).val < 8
    · refine Or.inl fun a => ?_
      have := h a; revert this; fin_cases a <;> simp <;> omega
    · refine Or.inr fun a => ?_
      have := h a; revert this; fin_cases a <;> simp <;> omega

/-- A row is its two halves, at whatever contents. -/
theorem halves4_of_row (m : Memref sig .tc .vmem S8x16x8x128 .bf16) (c : Dev nD) (i : Fin 8) {Y : S1x16x8x128.Idx → Elt F .bf16} :
    (row4 m c i fullShare Y : sProp 𝕄) ⊢ iprop((∃ Z, half4 m c i 0 Z) ∗ ∃ Z, half4 m c i 1 Z) :=
  own_cut c m (R4 i) (H4 i 0) (H4 i 1) (fun _ => rfl) (fun _ => rfl) (fun _ => rfl) (H4_disj i) (H4_union i)

/-- Two halves computed at the two grid points of a slot are the row with the one beside the other. -/
theorem row4_of_halves (m : Memref sig .tc .vmem S8x16x8x128 .bf16) (c : Dev nD) (i : Fin 8) {A B : S1x8x8x128.Idx → Elt F .bf16} :
    iprop(half4 m c i 0 A ∗ half4 m c i 1 B) ⊢ (row4 m c i fullShare (glue4 A B) : sProp 𝕄) := by
  have hA : A = fun j => spread4 (glue4 A B) ((H4 i 0).emb j) := by
    funext j
    have h1 : (j 1).val < 8 := (j 1).isLt
    have h0 : (j 0).val < 1 := (j 0).isLt
    have e (a : Fin 4) : ((H4 i 0).emb j a).val = (![i.val, 8 * 0, 0, 0] : Fin 4 → Nat) a + 1 * (j a).val := rfl
    have e1 : ((H4 i 0).emb j 1).val = (j 1).val := (e 1).trans (by simp)
    unfold spread4 glue4
    have hlt : (((H4 i 0).emb j) 1).val < 8 := by omega
    rw [dif_pos (show ((ix4 0 ((H4 i 0).emb j 1) ((H4 i 0).emb j 2) ((H4 i 0).emb j 3) : S1x16x8x128.Idx) 1 : Fin 16).val < 8 from hlt)]
    congr 1
    refine (eq_ix4 j).trans ?_
    congr 1
    · exact Fin.ext (by show (j 0).val = 0; omega)
    · exact Fin.ext e1.symm
    · exact Fin.ext ((e 2).trans (by simp)).symm
    · exact Fin.ext ((e 3).trans (by simp)).symm
  have hB : B = fun j => spread4 (glue4 A B) ((H4 i 1).emb j) := by
    funext j
    have h1 : (j 1).val < 8 := (j 1).isLt
    have h0 : (j 0).val < 1 := (j 0).isLt
    have e (a : Fin 4) : ((H4 i 1).emb j a).val = (![i.val, 8 * 1, 0, 0] : Fin 4 → Nat) a + 1 * (j a).val := rfl
    have e1 : ((H4 i 1).emb j 1).val = 8 + (j 1).val := (e 1).trans (by simp)
    unfold spread4 glue4
    have hlt : ¬ (((H4 i 1).emb j) 1).val < 8 := by omega
    rw [dif_neg (show ¬ ((ix4 0 ((H4 i 1).emb j 1) ((H4 i 1).emb j 2) ((H4 i 1).emb j 3) : S1x16x8x128.Idx) 1 : Fin 16).val < 8 from hlt)]
    congr 1
    refine (eq_ix4 j).trans ?_
    congr 1
    · exact Fin.ext (by show (j 0).val = 0; omega)
    · exact Fin.ext (by show (j 1).val = ((H4 i 1).emb j 1).val - 8; omega)
    · exact Fin.ext ((e 2).trans (by simp)).symm
    · exact Fin.ext ((e 3).trans (by simp)).symm
  have hY : glue4 A B = fun j => spread4 (glue4 A B) ((R4 i).emb j) := funext fun j => (spread4_emb _ i j).symm
  have := own_glue (F := F) c m (R4 i) (H4 i 0) (H4 i 1) (fun _ => rfl) (fun _ => rfl) (fun _ => rfl) (H4_disj i) (H4_union i)
    (q := fullShare) (spread4 (glue4 A B))
  rw [← hA, ← hB, ← hY] at this
  exact this

theorem R3_disj (i j : Fin 8) (h : i ≠ j) : Disjoint (R3 i).set (R3 j).set :=
  Rect.unit_disjoint 0 (by
    have h' : i.val ≠ j.val := fun e => h (Fin.ext e)
    show i.val + 1 ≤ j.val ∨ j.val + 1 ≤ i.val; omega)

theorem R3_cover : (Finset.univ.biUnion fun i => (R3 i).set) = (Finset.univ : Finset S8x16x8.Idx) := by
  refine Finset.eq_univ_iff_forall.mpr fun x => Finset.mem_biUnion.mpr ⟨x 0, Finset.mem_univ _, Rect.mem_set_unit.mpr fun a => ?_⟩
  have ha : (x a).val < S8x16x8.size a := (x a).isLt
  refine ⟨?_, ?_⟩
  · revert a; intro a; fin_cases a <;> simp
  · revert ha; fin_cases a <;> simp <;> omega

/-- The buffer is its eight rows, at whatever contents. -/
theorem rows3_of_whole (m : Memref sig .tc .vmem S8x16x8 .f32) (c : Dev nD) {X : S8x16x8.Idx → Elt F .f32} :
    (owns (c : Thread nD τ) m fullShare X : sProp 𝕄) ⊢ bigSep Finset.univ fun i : Fin 8 => iprop(∃ Y, row3 m c i fullShare Y) :=
  (owns_rects (c : Thread nD τ) m fullShare R3 (fun _ _ => rfl) (fun i j h => R3_disj i j h) R3_cover X).trans
    (BI.bigSep_mono fun i _ => exists_intro (Φ := fun Y => row3 m c i fullShare Y) (fun j => X ((R3 i).emb j)))

theorem whole_of_rows3 (m : Memref sig .tc .vmem S8x16x8 .f32) (c : Dev nD) :
    (bigSep Finset.univ fun i : Fin 8 => iprop(∃ Y, row3 m c i fullShare Y))
      ⊢ (iprop(∃ X, owns (c : Thread nD τ) m fullShare X) : sProp 𝕄) := by
  haveI : Nonempty (S1x16x8.Idx → Elt F .f32) := ⟨fun _ => (elt_nonempty .f32).some⟩
  refine (BI.bigSep_exists_pi Finset.univ (fun i Y => row3 m c i fullShare Y)).trans ?_
  iintro ⟨%Ys, H⟩
  have hYs : (bigSep Finset.univ fun i => row3 m c i fullShare (Ys i) : sProp 𝕄)
      = bigSep Finset.univ fun i => row3 m c i fullShare (fun j => spread3 (Ys ((R3 i).emb j 0)) ((R3 i).emb j)) := by
    refine BI.bigSep_congr fun i _ => congrArg (owns (c : Thread nD τ) (m.slice (R3 i) _) fullShare) (funext fun j => ?_)
    have h0 : (R3 i).emb j 0 = i := Fin.ext (by have : (j 0).val < 1 := (j 0).isLt; show i.val + 1 * (j 0).val = i.val; omega)
    rw [h0, spread3_emb]
  iexists (fun x => spread3 (Ys (x 0)) x)
  haveI := elt_nonempty (F := F)
  iapply (owns_of_rects (c : Thread nD τ) m fullShare R3 (fun _ _ => rfl) (fun i j h => R3_disj i j h) R3_cover (fun x => spread3 (Ys (x 0)) x))
  iapply (Entails.of_eq hYs) $$ H

theorem H3_disj (i : Fin 8) : Disjoint (H3 i 0).set (H3 i 1).set :=
  Rect.unit_disjoint 1 (by show 8 * 0 + 8 ≤ 8 * 1 ∨ 8 * 1 + 8 ≤ 8 * 0; omega)

theorem H3_union (i : Fin 8) : (H3 i 0).set ∪ (H3 i 1).set = (R3 i).set := by
  ext x
  rw [Finset.mem_union, Rect.mem_set_unit, Rect.mem_set_unit, Rect.mem_set_unit]
  have h1 : (x 1).val < 16 := (x 1).isLt
  constructor
  · rintro (h | h) a <;> [have := h a; have := h a] <;> revert this <;> fin_cases a <;> simp <;> omega
  · intro h
    by_cases h8 : (x 1).val < 8
    · refine Or.inl fun a => ?_
      have := h a; revert this; fin_cases a <;> simp <;> omega
    · refine Or.inr fun a => ?_
      have := h a; revert this; fin_cases a <;> simp <;> omega

/-- A row is its two halves, at whatever contents. -/
theorem halves3_of_row (m : Memref sig .tc .vmem S8x16x8 .f32) (c : Dev nD) (i : Fin 8) {Y : S1x16x8.Idx → Elt F .f32} :
    (row3 m c i fullShare Y : sProp 𝕄) ⊢ iprop((∃ Z, half3 m c i 0 Z) ∗ ∃ Z, half3 m c i 1 Z) :=
  own_cut c m (R3 i) (H3 i 0) (H3 i 1) (fun _ => rfl) (fun _ => rfl) (fun _ => rfl) (H3_disj i) (H3_union i)

/-- Two halves computed at the two grid points of a slot are the row with the one beside the other. -/
theorem row3_of_halves (m : Memref sig .tc .vmem S8x16x8 .f32) (c : Dev nD) (i : Fin 8) {A B : S1x8x8.Idx → Elt F .f32} :
    iprop(half3 m c i 0 A ∗ half3 m c i 1 B) ⊢ (row3 m c i fullShare (glue3 A B) : sProp 𝕄) := by
  have hA : A = fun j => spread3 (glue3 A B) ((H3 i 0).emb j) := by
    funext j
    have h1 : (j 1).val < 8 := (j 1).isLt
    have h0 : (j 0).val < 1 := (j 0).isLt
    have e (a : Fin 3) : ((H3 i 0).emb j a).val = (![i.val, 8 * 0, 0] : Fin 3 → Nat) a + 1 * (j a).val := rfl
    have e1 : ((H3 i 0).emb j 1).val = (j 1).val := (e 1).trans (by simp)
    unfold spread3 glue3
    have hlt : (((H3 i 0).emb j) 1).val < 8 := by omega
    rw [dif_pos (show ((ix3 0 ((H3 i 0).emb j 1) ((H3 i 0).emb j 2) : S1x16x8.Idx) 1 : Fin 16).val < 8 from hlt)]
    congr 1
    refine (eq_ix3 j).trans ?_
    congr 1
    · exact Fin.ext (by show (j 0).val = 0; omega)
    · exact Fin.ext e1.symm
    · exact Fin.ext ((e 2).trans (by simp)).symm
  have hB : B = fun j => spread3 (glue3 A B) ((H3 i 1).emb j) := by
    funext j
    have h1 : (j 1).val < 8 := (j 1).isLt
    have h0 : (j 0).val < 1 := (j 0).isLt
    have e (a : Fin 3) : ((H3 i 1).emb j a).val = (![i.val, 8 * 1, 0] : Fin 3 → Nat) a + 1 * (j a).val := rfl
    have e1 : ((H3 i 1).emb j 1).val = 8 + (j 1).val := (e 1).trans (by simp)
    unfold spread3 glue3
    have hlt : ¬ (((H3 i 1).emb j) 1).val < 8 := by omega
    rw [dif_neg (show ¬ ((ix3 0 ((H3 i 1).emb j 1) ((H3 i 1).emb j 2) : S1x16x8.Idx) 1 : Fin 16).val < 8 from hlt)]
    congr 1
    refine (eq_ix3 j).trans ?_
    congr 1
    · exact Fin.ext (by show (j 0).val = 0; omega)
    · exact Fin.ext (by show (j 1).val = ((H3 i 1).emb j 1).val - 8; omega)
    · exact Fin.ext ((e 2).trans (by simp)).symm
  have hY : glue3 A B = fun j => spread3 (glue3 A B) ((R3 i).emb j) := funext fun j => (spread3_emb _ i j).symm
  have := own_glue (F := F) c m (R3 i) (H3 i 0) (H3 i 1) (fun _ => rfl) (fun _ => rfl) (fun _ => rfl) (H3_disj i) (H3_union i)
    (q := fullShare) (spread3 (glue3 A B))
  rw [← hA, ← hB, ← hY] at this
  exact this

end Cert.KernelIdeal.Proof
-- ==== Proof.KI.Proto.lean ====
/-
  The protocol between the devices: cells, contents, schedule, levels.

  Device `c` has two peers: `p1 c` (its index with the lowest bit flipped) and `p2 c` (`3 - c`); each is an involution.
  Per slot `i` (batch entry) there are eight transfer cells on every device, numbered by the pair of an array number and
  `i`: arrays 0–3 carry numerators, 4–7 denominators, and within each four: the send and receive cells of the exchange
  with `p1`, then those of the exchange with `p2`.

    cell of `c`            credited by                          what its one landing hands over to `c`
    barrier                a unit from `p1 c`, one from `p2 c`    the peers' receive buffers, at whatever contents
    array 0 / 4 (send)     `c`'s own transfer to `p1 c`          the half share of row `i` lent to the transfer
    array 1 / 5 (receive)  `p1 c`'s transfer                     row `i` of the landing buffer at `p1 c`'s partial sum
    array 2 / 6 (send)     `c`'s own transfer to `p2 c`          the half share of row `i` lent to the transfer
    array 3 / 7 (receive)  `p2 c`'s transfer                     row `i` of the landing buffer at `p2 c`'s pair sum

  Every cell has one round only. `c` waits on the barrier at the first grid point, on slot `i`'s receive cells of the
  first exchange one batch entry later and of the second exchange two entries later, and on all send cells at the end.
-/
module

public import Mathlib.Tactic.Abel
public import proofs.«01_k».proof.Proof.KI.Rows

@[expose] public section

noncomputable section

namespace Cert.KernelIdeal.Proof

open Cert.KernelIdeal Cert.KernelIdeal.Gen Idealize.ShloMosaic.ValueIdx
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Devices, buffers, cells -/

/-- The peer of the first exchange: the lowest bit flipped. -/
def p1 (c : Dev nD) : Dev nD := ⟨if c.val % 2 = 0 then c.val + 1 else c.val - 1, by revert c; decide⟩
/-- The peer of the second exchange. -/
def p2 (c : Dev nD) : Dev nD := ⟨3 - c.val, by revert c; decide⟩

theorem p1_p1 (c : Dev nD) : p1 (p1 c) = c := by revert c; decide
theorem p2_p2 (c : Dev nD) : p2 (p2 c) = c := by revert c; decide

abbrev bM : Memref sig .tc .vmem S8192x64 .f32 := Memref.whole cc0_scratch0
abbrev bO : Memref sig .tc .vmem S8x16x8x128 .bf16 := Memref.whole cc0_scratch1
abbrev bL : Memref sig .tc .vmem S8x16x8 .f32 := Memref.whole cc0_scratch2
abbrev bCo0 : Memref sig .tc .vmem S8x16x8x128 .bf16 := Memref.whole cc0_scratch3
abbrev bC1 : Memref sig .tc .vmem S8x16x8x128 .bf16 := Memref.whole cc0_scratch4
abbrev bCo2 : Memref sig .tc .vmem S8x16x8x128 .bf16 := Memref.whole cc0_scratch5
abbrev bCl0 : Memref sig .tc .vmem S8x16x8 .f32 := Memref.whole cc0_scratch6
abbrev bCl1 : Memref sig .tc .vmem S8x16x8 .f32 := Memref.whole cc0_scratch7
abbrev bCl2 : Memref sig .tc .vmem S8x16x8 .f32 := Memref.whole cc0_scratch8

abbrev barS : Sem sig := (SemArray.scalar (sig.barrier 0 rfl) : Sems sig S_).sem

/-- The semaphore of array `a`, slot `i`. -/
def dsem (a i : Fin 8) : DmaSem sig := ⟨7 + 8 * a.val + i.val, by
  have ha := a.isLt; have hi := i.isLt; show 7 + 8 * a.val + i.val < 71; omega⟩
/-- The array and the slot of a semaphore. -/
def arrOf (s : DmaSem sig) : Fin 8 := ⟨(s.val - 7) / 8 % 8, Nat.mod_lt _ (by decide)⟩
def slotOf (s : DmaSem sig) : Fin 8 := ⟨(s.val - 7) % 8, Nat.mod_lt _ (by decide)⟩

theorem arrOf_dsem (a i : Fin 8) : arrOf (dsem a i) = a := by
  have ha := a.isLt; have hi := i.isLt; apply Fin.ext; show (7 + 8 * a.val + i.val - 7) / 8 % 8 = a.val; omega
theorem slotOf_dsem (a i : Fin 8) : slotOf (dsem a i) = i := by
  have ha := a.isLt; have hi := i.isLt; apply Fin.ext; show (7 + 8 * a.val + i.val - 7) % 8 = i.val; omega
theorem dsem_inj {a i b j : Fin 8} (h : dsem a i = dsem b j) : a = b ∧ i = j :=
  ⟨by rw [← arrOf_dsem a i, h, arrOf_dsem], by rw [← slotOf_dsem a i, h, slotOf_dsem]⟩
theorem dsem_ge (a i : Fin 8) : 7 ≤ (dsem a i).val := by show 7 ≤ 7 + 8 * a.val + i.val; omega

abbrev barCell (c : Dev nD) : GSem nD τ sig := ((c : Thread nD τ), .reg barS)
abbrev dcell (c : Dev nD) (a i : Fin 8) : GSem nD τ sig := ((c : Thread nD τ), .dma (dsem a i))

/-- The view a transfer or a wait names: a row with its leading axis dropped. -/
abbrev sq4 (m : Memref sig .tc .vmem S8x16x8x128 .bf16) (i : Fin 8) : Memref sig .tc .vmem S16x8x128 .bf16 :=
  (m.slice (R4 i) (fun _ => rfl)).squeeze S16x8x128 squeezes_S1x16x8x128_S16x8x128
abbrev sq3 (m : Memref sig .tc .vmem S8x16x8 .f32) (i : Fin 8) : Memref sig .tc .vmem S16x8 .f32 :=
  (m.slice (R3 i) (fun _ => rfl)).squeeze S16x8 squeezes_S1x16x8_S16x8

/-- The credit of one numerator row and of one denominator row. -/
def NB : ℕ := (sq4 bO 0).view.dmaCredit
def NL : ℕ := (sq3 bL 0).view.dmaCredit
theorem NB_pos : 0 < NB := View.dmaCredit_pos _ (by decide)
theorem NL_pos : 0 < NL := View.dmaCredit_pos _ (by decide)

/-! ## Contents

`om c i` and `lm c i` are device `c`'s own partial numerator and denominator of slot `i`; the rest of the protocol's
contents are computed from them by the body's own arithmetic. -/

section Contents
variable (om : Dev nD → Fin 8 → S1x16x8x128.Idx → Elt F .bf16) (lm : Dev nD → Fin 8 → S1x16x8.Idx → Elt F .f32)

/-- The pair sums `c` sends in the second exchange. -/
def c1 (c : Dev nD) (i : Fin 8) : S1x16x8x128.Idx → Elt F .bf16 := k0_pay9 (om c i) (om (p1 c) i)
def cl1 (c : Dev nD) (i : Fin 8) : S1x16x8.Idx → Elt F .f32 := k0_pay3 (lm c i) (lm (p1 c) i)
/-- The result rows. -/
def outRow (c : Dev nD) (i : Fin 8) : S1x8x16x128.Idx → Elt F .f32 :=
  k0_pay4 (k0_pay10 (c1 om c i) (c1 om (p2 c) i)) (k0_pay11 (cl1 lm c i) (cl1 lm (p2 c) i))

/-- What the landing on a transfer cell hands over. -/
def dPay (c : Dev nD) (a i : Fin 8) : sProp 𝕄 :=
  match a with
  | 0 => row4 bO c i fullShare.left (om c i)
  | 1 => row4 bCo0 c i fullShare (om (p1 c) i)
  | 2 => row4 bC1 c i fullShare.left (c1 om c i)
  | 3 => row4 bCo2 c i fullShare (c1 om (p2 c) i)
  | 4 => row3 bL c i fullShare.left (lm c i)
  | 5 => row3 bCl0 c i fullShare (lm (p1 c) i)
  | 6 => row3 bCl1 c i fullShare.left (cl1 lm c i)
  | 7 => row3 bCl2 c i fullShare (cl1 lm (p2 c) i)

/-- The receive buffers of device `c` for the first and for the second exchange, row `i` of each, at whatever contents. -/
def land1 (c : Dev nD) (i : Fin 8) : sProp 𝕄 := iprop((∃ Y, row4 bCo0 c i fullShare Y) ∗ ∃ Y, row3 bCl0 c i fullShare Y)
def land2 (c : Dev nD) (i : Fin 8) : sProp 𝕄 := iprop((∃ Y, row4 bCo2 c i fullShare Y) ∗ ∃ Y, row3 bCl2 c i fullShare Y)

/-- What the barrier unit from `p1 c` (`false`) and the one from `p2 c` (`true`) hand over: their receive buffers. -/
def barPay (c : Dev nD) (d : Bool) : sProp 𝕄 :=
  bigSep Finset.univ fun i : Fin 8 => if d then land2 (F := F) (p2 c) i else land1 (F := F) (p1 c) i

instance land1_storable (c : Dev nD) (i : Fin 8) : BI.Storable (upEmb : UEmb _ 𝕄) (land1 (F := F) c i) := by unfold land1; infer_instance
instance land2_storable (c : Dev nD) (i : Fin 8) : BI.Storable (upEmb : UEmb _ 𝕄) (land2 (F := F) c i) := by unfold land2; infer_instance
instance barPay_storable (c : Dev nD) (d : Bool) : BI.Storable (upEmb : UEmb _ 𝕄) (barPay (F := F) c d) := by
  cases d
  · show BI.Storable (upEmb : UEmb _ 𝕄) (bigSep Finset.univ fun i : Fin 8 => land1 (F := F) (p1 c) i); infer_instance
  · show BI.Storable (upEmb : UEmb _ 𝕄) (bigSep Finset.univ fun i : Fin 8 => land2 (F := F) (p2 c) i); infer_instance
instance dPay_storable (c : Dev nD) (a i : Fin 8) : BI.Storable (upEmb : UEmb _ 𝕄) (dPay om lm c a i) := by
  unfold dPay; split <;> infer_instance

/-- The credit of a transfer on array `a`. -/
def amt (a : Fin 8) : ℕ := if a.val < 4 then NB else NL
theorem amt_pos (a : Fin 8) : 0 < amt a := by unfold amt; split; exacts [NB_pos, NL_pos]

/-! ## The schedule -/

/-- One round, round 0: a barrier cell has the duties `false` and `true` of one unit each, a transfer cell the one duty
    `false` of its row's credit. -/
def rd : Rounds.Schedule (GSem nD τ sig) Bool 𝕄 where
  duties g r := if r = 0 ∧ g.1.2 = .tc then (match g.2 with
    | .reg s => if s = barS then Finset.univ else ∅
    | .dma s => if 7 ≤ s.val then {false} else ∅) else ∅
  unitless _ := False
  amount g _ _ := match g.2 with
    | .reg _ => 1
    | .dma s => amt (arrOf s)
  payload g _ d := match g.2 with
    | .reg _ => barPay g.1.1 d
    | .dma s => dPay om lm g.1.1 (arrOf s) (slotOf s)
  amount_pos g _ _ _ := by
    rcases g with ⟨th, s | s⟩
    · exact Nat.one_pos
    · exact amt_pos _

instance rd_payload_storable (g : GSem nD τ sig) (r : ℕ) (d : Bool) :
    BI.Storable (upEmb : UEmb _ 𝕄) ((rd om lm).payload g r d) := by
  rcases g with ⟨th, s | s⟩
  · exact barPay_storable th.1 d
  · exact dPay_storable om lm th.1 (arrOf s) (slotOf s)

variable (c : Dev nD) (a i : Fin 8)

theorem duties_bar : (rd om lm).duties (barCell c) 0 = Finset.univ := by
  dsimp only [rd]; rw [if_pos ⟨rfl, rfl⟩]; exact if_pos rfl
theorem duties_d : (rd om lm).duties (dcell c a i) 0 = {false} := by
  dsimp only [rd]; rw [if_pos ⟨rfl, rfl⟩]; exact if_pos (dsem_ge a i)
theorem duties_later (g : GSem nD τ sig) : ∀ r, 1 ≤ r → (rd om lm).duties g r = ∅ :=
  fun r hr => by dsimp only [rd]; exact if_neg fun h => by omega
theorem amount_bar (d : Bool) : (rd om lm).amount (barCell c) 0 d = 1 := rfl
theorem amount_d (d : Bool) : (rd om lm).amount (dcell c a i) 0 d = amt a := by
  show amt (arrOf (dsem a i)) = _; rw [arrOf_dsem]
theorem expect_bar : (rd om lm).expect (barCell c) 0 = 2 := by
  unfold Schedule.expect Schedule.amountOf
  rw [duties_bar, Finset.sum_congr rfl fun d _ => amount_bar om lm c d, Finset.sum_const, Finset.card_univ, Fintype.card_bool, smul_eq_mul]
theorem expect_d : (rd om lm).expect (dcell c a i) 0 = amt a := by
  unfold Schedule.expect Schedule.amountOf; rw [duties_d, Finset.sum_singleton, amount_d]
theorem payload_bar (d : Bool) : (rd om lm).payload (barCell c) 0 d = barPay c d := rfl
theorem payload_d (d : Bool) : (rd om lm).payload (dcell c a i) 0 d = dPay om lm c a i := by
  show dPay om lm c (arrOf (dsem a i)) (slotOf (dsem a i)) = _; rw [arrOf_dsem, slotOf_dsem]
theorem rest_bar : bigSep ((rd om lm).duties (barCell c) 0 \ ∅) (fun d => (rd om lm).payload (barCell c) 0 d)
    = (iprop(barPay c false ∗ barPay c true) : sProp 𝕄) := by
  rw [Finset.sdiff_empty, duties_bar, bigSep_univ_eq_bigSepL [false, true] (by decide) (by decide), bigSepL_cons_cons, bigSepL_singleton]
  rfl
theorem rest_d : bigSep ((rd om lm).duties (dcell c a i) 0 \ ∅) (fun d => (rd om lm).payload (dcell c a i) 0 d) = dPay om lm c a i := by
  rw [Finset.sdiff_empty, duties_d, bigSep_singleton, payload_d]

end Contents

/-! ## What a device owes, and the levels -/

/-- What `c` still owes for slots `A` of the first exchange, and for slots `B` of the second. -/
def due1 (c : Dev nD) (i : Fin 8) : CellTallies nD τ sig Unit :=
  tallyAt (dcell (p1 c) 5 i) () NL + tallyAt (dcell (p1 c) 1 i) () NB
def due2 (c : Dev nD) (i : Fin 8) : CellTallies nD τ sig Unit :=
  tallyAt (dcell (p2 c) 7 i) () NL + tallyAt (dcell (p2 c) 3 i) () NB
def dueS (c : Dev nD) (A B : Finset (Fin 8)) : CellTallies nD τ sig Unit := (∑ i ∈ A, due1 c i) + ∑ i ∈ B, due2 c i
/-- At launch: everything, and a unit to the barrier of either peer. -/
def due0 (c : Dev nD) : CellTallies nD τ sig Unit :=
  dueS c Finset.univ Finset.univ + tallyAt (barCell (p2 c)) () 1 + tallyAt (barCell (p1 c)) () 1

theorem dueS_peel1 (c : Dev nD) {A B : Finset (Fin 8)} {i : Fin 8} (h : i ∈ A) :
    dueS c A B = dueS c (A.erase i) B + tallyAt (dcell (p1 c) 5 i) () NL + tallyAt (dcell (p1 c) 1 i) () NB := by
  unfold dueS; rw [← Finset.sum_erase_add A _ h]; unfold due1; abel
theorem dueS_peel2 (c : Dev nD) {A B : Finset (Fin 8)} {i : Fin 8} (h : i ∈ B) :
    dueS c A B = dueS c A (B.erase i) + tallyAt (dcell (p2 c) 7 i) () NL + tallyAt (dcell (p2 c) 3 i) () NB := by
  unfold dueS; rw [← Finset.sum_erase_add B _ h]; unfold due2; abel

def L (g : GSem nD τ sig) : Finset Unit := if g.1.2 = .tc then {()} else ∅
/-- Barrier cells at 1, the receive cells of slot `i` at `2i + 2` (first exchange) and `2i + 3` (second), the rest at 0. -/
def lv (g : GSem nD τ sig) (_ : Unit) : ℕ := match g.2 with
  | .reg s => if s = barS then 1 else 0
  | .dma s => if 7 ≤ s.val then (match arrOf s with
      | 1 | 5 => 2 * (slotOf s).val + 2
      | 3 | 7 => 2 * (slotOf s).val + 3
      | _ => 0) else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; exact if_pos rfl
theorem lv_d (c : Dev nD) (a i : Fin 8) : lv (dcell c a i) () = (match a with
      | 1 | 5 => 2 * i.val + 2
      | 3 | 7 => 2 * i.val + 3
      | _ => 0) := by
  show (if 7 ≤ (dsem a i).val then _ else 0) = _
  rw [if_pos (dsem_ge a i), arrOf_dsem, slotOf_dsem]

theorem tallyAt_pos {g g' : GSem nD τ sig} {n : ℕ} {u : Unit} (h : 0 < tallyAt g () n g' u) : g' = g := by
  rw [tallyAt_apply] at h
  by_contra hn
  rw [if_neg (fun h' => hn h'.1)] at h
  exact Nat.lt_irrefl 0 h

/-- A cell `c` owes to after the barrier is a receive cell of a peer, for a slot not yet sent. -/
theorem dueS_pos {c : Dev nD} {A B : Finset (Fin 8)} {g : GSem nD τ sig} {u : Unit} (h : 0 < dueS c A B g u) :
    (∃ i ∈ A, g = dcell (p1 c) 5 i ∨ g = dcell (p1 c) 1 i) ∨ ∃ i ∈ B, g = dcell (p2 c) 7 i ∨ g = dcell (p2 c) 3 i := by
  unfold dueS at h
  rw [Pi.add_apply, Finsupp.add_apply, Finset.sum_apply, Finset.sum_apply, Finsupp.finset_sum_apply, Finsupp.finset_sum_apply] at h
  rcases Nat.eq_zero_or_pos (∑ i ∈ A, due1 c i g u) with h1 | h1
  · rw [h1, Nat.zero_add] at h
    obtain ⟨i, hi, hp⟩ := Finset.exists_ne_zero_of_sum_ne_zero (Nat.pos_iff_ne_zero.mp h)
    refine Or.inr ⟨i, hi, ?_⟩
    unfold due2 at hp
    rw [Pi.add_apply, Finsupp.add_apply] at hp
    rcases Nat.eq_zero_or_pos (tallyAt (dcell (p2 c) 7 i) () NL g u) with h2 | h2
    · rw [h2, Nat.zero_add] at hp
      exact Or.inr (tallyAt_pos (Nat.pos_of_ne_zero hp))
    · exact Or.inl (tallyAt_pos h2)
  · obtain ⟨i, hi, hp⟩ := Finset.exists_ne_zero_of_sum_ne_zero (Nat.pos_iff_ne_zero.mp h1)
    refine Or.inl ⟨i, hi, ?_⟩
    unfold due1 at hp
    rw [Pi.add_apply, Finsupp.add_apply] at hp
    rcases Nat.eq_zero_or_pos (tallyAt (dcell (p1 c) 5 i) () NL g u) with h2 | h2
    · rw [h2, Nat.zero_add] at hp
      exact Or.inr (tallyAt_pos (Nat.pos_of_ne_zero hp))
    · exact Or.inl (tallyAt_pos h2)

theorem due0_pos {c : Dev nD} {g : GSem nD τ sig} {u : Unit} (h : 0 < due0 c g u) :
    0 < dueS c Finset.univ Finset.univ g u ∨ g = barCell (p2 c) ∨ g = barCell (p1 c) := by
  unfold due0 at h
  rw [Pi.add_apply, Finsupp.add_apply, Pi.add_apply, Finsupp.add_apply] at h
  rcases Nat.eq_zero_or_pos (dueS c Finset.univ Finset.univ g u) with h1 | h1
  · rcases Nat.eq_zero_or_pos (tallyAt (barCell (p2 c)) () 1 g u) with h2 | h2
    · rw [h1, h2, Nat.zero_add] at h
      exact Or.inr (Or.inr (tallyAt_pos h))
    · exact Or.inr (Or.inl (tallyAt_pos h2))
  · exact Or.inl h1

/-- A cell whose level is below the receive cells still owed to may be waited on. -/
theorem mayWait_dueS (c : Dev nD) (sm : SemLoc sig) (A B : Finset (Fin 8)) (n : ℕ) (hn : lv ((c : Thread nD τ), sm) () ≤ n)
    (hA : ∀ i ∈ A, n < 2 * i.val + 2) (hB : ∀ i ∈ B, n < 2 * i.val + 3) :
    (levAts L lv : sProp 𝕄) ⊢ MayWait (c : Thread nD τ) sm () (dueS c A B) :=
  MayOwe.of_cut (L := L) (lev := lv) n (fun p hp => by rw [Finset.mem_singleton.mp hp, L_tc]; exact Finset.mem_singleton_self _)
    (fun g u hg => by rcases dueS_pos hg with ⟨i, _, rfl | rfl⟩ | ⟨i, _, rfl | rfl⟩ <;> exact Finset.mem_singleton_self _)
    (fun p hp => by rw [Finset.mem_singleton.mp hp]; exact hn)
    (fun g u hg => by
      rcases dueS_pos hg with ⟨i, hi, rfl | rfl⟩ | ⟨i, hi, rfl | rfl⟩ <;> rw [lv_d]
      exacts [hA i hi, hA i hi, hB i hi, hB i hi])

theorem mayWait_due0 (c : Dev nD) (sm : SemLoc sig) (hn : lv ((c : Thread nD τ), sm) () ≤ 0) :
    (levAts L lv : sProp 𝕄) ⊢ MayWait (c : Thread nD τ) sm () (due0 c) :=
  MayOwe.of_cut (L := L) (lev := lv) 0 (fun p hp => by rw [Finset.mem_singleton.mp hp, L_tc]; exact Finset.mem_singleton_self _)
    (fun g u hg => by
      rcases due0_pos hg with hg | rfl | rfl
      · rcases dueS_pos hg with ⟨i, _, rfl | rfl⟩ | ⟨i, _, rfl | rfl⟩ <;> exact Finset.mem_singleton_self _
      · exact Finset.mem_singleton_self _
      · exact Finset.mem_singleton_self _)
    (fun p hp => by rw [Finset.mem_singleton.mp hp]; exact hn)
    (fun g u hg => by
      rcases due0_pos hg with hg | rfl | rfl
      · rcases dueS_pos hg with ⟨i, hi, rfl | rfl⟩ | ⟨i, hi, rfl | rfl⟩ <;> rw [lv_d] <;> exact Nat.succ_pos _
      · rw [lv_bar]; decide
      · rw [lv_bar]; decide)

end Cert.KernelIdeal.Proof
-- ==== Proof.KI.Ops.lean ====
/-
  One rule per synchronisation of the body: a transfer of a row, a wait on a transfer cell, the barrier.

  Each rule takes the protocol's persistent facts as one assertion `env` (every cell's invariant at its round 0, and the
  levels), and hides which waits were recorded (`ow`).
-/
module

public import proofs.«01_k».proof.Proof.KI.Proto
public import Idealize.ShloMosaic.Lib.Writes

@[expose] public section

noncomputable section

namespace Cert.KernelIdeal.Proof

open Cert.KernelIdeal Cert.KernelIdeal.Gen Idealize.ShloMosaic.ValueIdx
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Rows as the views a transfer names -/

theorem row4_open (m : Memref sig .tc .vmem S8x16x8x128 .bf16) (c : Dev nD) (i : Fin 8) (q : PosShare TreeShare)
    (Y : S1x16x8x128.Idx → Elt F .bf16) :
    (row4 m c i q Y : sProp 𝕄) ⊢ iprop(∃ f, ⌜(m.slice (R4 i) (fun _ => rfl)).view.read (Elt F) f = Y⌝
      ∗ ((sq4 m i).view.loc (c : Thread nD τ) ↦[(sq4 m i).view.set]{q} f)) := by
  have hs : (sq4 m i).view.set = (m.slice (R4 i) (fun _ => rfl)).view.set := View.set_reshape _ _
  rw [hs]; exact Entails.of_eq rfl
theorem row4_close (m : Memref sig .tc .vmem S8x16x8x128 .bf16) (c : Dev nD) (i : Fin 8) (q : PosShare TreeShare)
    (Y : S1x16x8x128.Idx → Elt F .bf16) (f) (hf : (m.slice (R4 i) (fun _ => rfl)).view.read (Elt F) f = Y) :
    ((sq4 m i).view.loc (c : Thread nD τ) ↦[(sq4 m i).view.set]{q} f : sProp 𝕄) ⊢ row4 m c i q Y := by
  have hs : (sq4 m i).view.set = (m.slice (R4 i) (fun _ => rfl)).view.set := View.set_reshape _ _
  rw [hs]
  iintro H
  unfold row4 owns
  iexists f
  isplitr; · ipureintro; exact hf
  iexact H
theorem row3_open (m : Memref sig .tc .vmem S8x16x8 .f32) (c : Dev nD) (i : Fin 8) (q : PosShare TreeShare)
    (Y : S1x16x8.Idx → Elt F .f32) :
    (row3 m c i q Y : sProp 𝕄) ⊢ iprop(∃ f, ⌜(m.slice (R3 i) (fun _ => rfl)).view.read (Elt F) f = Y⌝
      ∗ ((sq3 m i).view.loc (c : Thread nD τ) ↦[(sq3 m i).view.set]{q} f)) := by
  have hs : (sq3 m i).view.set = (m.slice (R3 i) (fun _ => rfl)).view.set := View.set_reshape _ _
  rw [hs]; exact Entails.of_eq rfl
theorem row3_close (m : Memref sig .tc .vmem S8x16x8 .f32) (c : Dev nD) (i : Fin 8) (q : PosShare TreeShare)
    (Y : S1x16x8.Idx → Elt F .f32) (f) (hf : (m.slice (R3 i) (fun _ => rfl)).view.read (Elt F) f = Y) :
    ((sq3 m i).view.loc (c : Thread nD τ) ↦[(sq3 m i).view.set]{q} f : sProp 𝕄) ⊢ row3 m c i q Y := by
  have hs : (sq3 m i).view.set = (m.slice (R3 i) (fun _ => rfl)).view.set := View.set_reshape _ _
  rw [hs]
  iintro H
  unfold row3 owns
  iexists f
  isplitr; · ipureintro; exact hf
  iexact H

/-- What a landing leaves in a row, read back: the row it carried. -/
theorem landed4 (src dst : Memref sig .tc .vmem S8x16x8x128 .bf16) (i : Fin 8) (fd fs)
    (Y : S1x16x8x128.Idx → Elt F .bf16) (hf : (src.slice (R4 i) (fun _ => rfl)).view.read (Elt F) fs = Y) :
    (dst.slice (R4 i) (fun _ => rfl)).view.read (Elt F) ((sq4 dst i).view.write (Elt F) fd ((sq4 src i).view.read (Elt F) fs) Finset.univ) = Y := by
  subst hf
  show (dst.slice (R4 i) (fun _ => rfl)).view.read (Elt F) (((dst.slice (R4 i) (fun _ => rfl)).view.reshape S16x8x128 _).write (Elt F) fd _ Finset.univ) = _
  rw [View.write_reshape_univ, View.read_write_univ]
  funext x
  show (src.slice (R4 i) (fun _ => rfl)).view.read (Elt F) fs (Shape.reshapeEquiv _ ((Shape.reshapeEquiv _).symm x)) = _
  rw [Equiv.apply_symm_apply]
theorem landed3 (src dst : Memref sig .tc .vmem S8x16x8 .f32) (i : Fin 8) (fd fs)
    (Y : S1x16x8.Idx → Elt F .f32) (hf : (src.slice (R3 i) (fun _ => rfl)).view.read (Elt F) fs = Y) :
    (dst.slice (R3 i) (fun _ => rfl)).view.read (Elt F) ((sq3 dst i).view.write (Elt F) fd ((sq3 src i).view.read (Elt F) fs) Finset.univ) = Y := by
  subst hf
  show (dst.slice (R3 i) (fun _ => rfl)).view.read (Elt F) (((dst.slice (R3 i) (fun _ => rfl)).view.reshape S16x8 _).write (Elt F) fd _ Finset.univ) = _
  rw [View.write_reshape_univ, View.read_write_univ]
  funext x
  show (src.slice (R3 i) (fun _ => rfl)).view.read (Elt F) fs (Shape.reshapeEquiv _ ((Shape.reshapeEquiv _).symm x)) = _
  rw [Equiv.apply_symm_apply]

/-! ## The persistent facts -/

/-- The cells of a device: its barrier cell, and its transfer cells by array and slot. -/
abbrev CK : Type := Option (Fin 8 × Fin 8)
def csem : CK → SemLoc sig
  | none => .reg barS
  | some ai => .dma (dsem ai.1 ai.2)
abbrev kcell (ck : Dev nD × CK) : GSem nD τ sig := ((ck.1 : Thread nD τ), csem ck.2)

/-- What `c` owes, whatever waits are recorded. -/
def ow (c : Dev nD) (O : CellTallies nD τ sig Unit) : sProp 𝕄 := iprop(∃ W, owes (c : Thread nD τ) O W)

section Env
variable (om : Dev nD → Fin 8 → S1x16x8x128.Idx → Elt F .bf16) (lm : Dev nD → Fin 8 → S1x16x8.Idx → Elt F .f32)
variable (K : Dev nD × CK → ℕ)

/-- A cell's invariant and that its round 0 was reached. -/
def recd (ck : Dev nD × CK) : sProp 𝕄 := iprop(cellInv ER (rd om lm) (K ck) (kcell ck) ∗ reached ER (kcell ck) 0)
instance recd_persistent (ck : Dev nD × CK) : BI.Persistent (recd om lm K ck) := by unfold recd; infer_instance

/-- Every cell's, and the levels. -/
def env : sProp 𝕄 := iprop((bigSep Finset.univ fun ck : Dev nD × CK => recd om lm K ck) ∗ levAts L lv)
instance env_persistent : BI.Persistent (env om lm K) := by unfold env; infer_instance

theorem env_lev : env om lm K ⊢ (levAts L lv : sProp 𝕄) := by unfold env; iintro ⟨-, H⟩; iexact H
theorem env_rec (ck : Dev nD × CK) : env om lm K ⊢ recd om lm K ck := by
  unfold env
  iintro ⟨H, -⟩
  ihave H' := (show (bigSep Finset.univ fun ck => recd om lm K ck) ⊢ iprop(recd om lm K ck ∗ bigSep (Finset.univ.erase ck) fun ck => recd om lm K ck)
    from Entails.of_eq (BI.bigSep_erase (Finset.mem_univ ck))) $$ H
  icases H' with ⟨H, -⟩
  iexact H
theorem env_d (c : Dev nD) (a i : Fin 8) :
    env om lm K ⊢ iprop(cellInv ER (rd om lm) (K (c, some (a, i))) (dcell c a i) ∗ reached ER (dcell c a i) 0) :=
  env_rec om lm K (c, some (a, i))
theorem env_b (c : Dev nD) :
    env om lm K ⊢ iprop(cellInv ER (rd om lm) (K (c, none)) (barCell c) ∗ reached ER (barCell c) 0) :=
  env_rec om lm K (c, none)

variable {α : Type} {Q : α → sProp (MT nD τ sig Unit (Elt F) ℕ UU ℕ)}

/-! ## A wait on a transfer cell -/

/-- The wait takes the cell's credit and position and hands over the landing's payload. -/
theorem wp_waitd (c : Dev nD) (a i : Fin 8) {sem : DmaSem sig} (hs : sem = dsem a i) {sp sp' : Space} {s s' : Shape} {e e' : EltTy}
    {src : Memref sig .tc sp s e} {dst : Memref sig .tc sp' s' e'} {h₁ : src.view.WordExact} {h₂ : dst.view.WordExact}
    (hN : dst.view.dmaCredit = amt a) (O : CellTallies nD τ sig Unit)
    (hw : (levAts L lv : sProp 𝕄) ⊢ MayWait (c : Thread nD τ) (.dma (dsem a i)) () O)
    {k : PUnit → Prog (TpuEff nD τ sig (Elt F) Λ₀ .tc) α} :
    iprop(env om lm K ∗ cred (tallyAt (dcell c a i) () (amt a)) ∗ ow c O ∗ atPos ER (dcell c a i) 0 ∅ 0)
      ⊢ iprop((ow c O ∗ atPos ER (dcell c a i) 1 ∅ 0 ∗ dPay om lm c a i -∗ wpc c (k ⟨⟩) Q)
          -∗ wpc c (.op (.waitDma2 sem src dst h₁ h₂) k) Q) := by
  subst hs
  iintro ⟨#He, Hc, Ho, Ha⟩ Hk
  unfold ow
  icases Ho with ⟨%W, HO⟩
  ihave He' := (env_d om lm K c a i) $$ He
  icases He' with ⟨#Hi, #Hr⟩
  ihave #Hl := (env_lev om lm K) $$ He
  iapply (Rounds.wp_wait_rest_token 𝒱₀ ER (rd om lm) (c : Thread nD τ) none (κ := K (c, some (a, i)))
      (wpE_waitDma2_eq 𝒱₀ (c : Thread nD τ) none Set.univ) (Set.mem_univ _) () (O := O) (W := W) (R := 0) (m := 0) (T := ∅)
      (by rw [Nat.zero_add, expect_d, hN])) $$ [Hc HO Ha]
  · isplitr; · iexact Hi
    isplitl [Hc]; · rw [hN]; iexact Hc
    isplitl [HO]; · iexact HO
    isplitr; · iapply hw; iexact Hl
    iexact Ha
  iintro ⟨HO, Ha, -, Hp⟩
  ihave Hp' := (Entails.of_eq (rest_d om lm c a i)) $$ Hp
  iapply Hk
  isplitl [HO]; · iexists _; iexact HO
  isplitl [Ha]; · iexact Ha
  iexact Hp'

/-! ## A transfer of a row -/

set_option maxHeartbeats 400000 in
/-- A numerator row sent to `c'`: the row is lent at its share to the transfer, the peer's row is handed to the landing. -/
theorem wp_send4 (c c' n : Dev nD) (hn : n = c') (src dst : Memref sig .tc .vmem S8x16x8x128 .bf16) (aS aR i : Fin 8)
    (Y : S1x16x8x128.Idx → Elt F .bf16) (hN : (sq4 dst i).view.dmaCredit = NB) (hNS : amt aS = NB) (hNR : amt aR = NB)
    (hpS : (row4 src c i fullShare.left Y : sProp 𝕄) ⊢ dPay om lm c aS i) (hpR : (row4 dst c' i fullShare Y : sProp 𝕄) ⊢ dPay om lm c' aR i)
    {off : Fin 4 → Nat} (ho : off = ![i.val, 0, 0, 0]) {inb₁ inb₂ : ∀ a, off a + S1x16x8x128.size a ≤ S8x16x8x128.size a}
    {sS sR : DmaSem sig} (hsS : sS = dsem aS i) (hsR : sR = dsem aR i)
    {hsc : (((dst.slice (Rect.unit (s := S8x16x8x128) off S1x16x8x128.size inb₂) (fun _ => rfl)).squeeze S16x8x128 squeezes_S1x16x8x128_S16x8x128)
      : Memref sig (Dev.tc n : Thread nD τ).2.kind .vmem S16x8x128 .bf16).view.ref.isScScratch = false}
    {hsrc : ((src.slice (Rect.unit (s := S8x16x8x128) off S1x16x8x128.size inb₁) (fun _ => rfl)).squeeze S16x8x128 squeezes_S1x16x8x128_S16x8x128).view.WordExact}
    {hdst : (((dst.slice (Rect.unit (s := S8x16x8x128) off S1x16x8x128.size inb₂) (fun _ => rfl)).squeeze S16x8x128 squeezes_S1x16x8x128_S16x8x128)
      : Memref sig (Dev.tc n : Thread nD τ).2.kind .vmem S16x8x128 .bf16).view.WordExact}
    {hsem : DmaTarget.Typed .vmem (.dma sR) (.remote (Dev.tc n : Thread nD τ)
      (((dst.slice (Rect.unit (s := S8x16x8x128) off S1x16x8x128.size inb₂) (fun _ => rfl)).squeeze S16x8x128 squeezes_S1x16x8x128_S16x8x128)
        : Memref sig (Dev.tc n : Thread nD τ).2.kind .vmem S16x8x128 .bf16) (.dma sS) hsc)}
    (O : CellTallies nD τ sig Unit) {k : PUnit → Prog (TpuEff nD τ sig (Elt F) Λ₀ .tc) α} :
    iprop(env om lm K ∗ row4 src c i fullShare.left Y ∗ (∃ Z, row4 dst c' i fullShare Z) ∗ ow c (O + tallyAt (dcell c' aR i) () NB)
        ∗ dutyTok ER (dcell c aS i) 0 false ∗ dutyTok ER (dcell c' aR i) 0 false)
      ⊢ iprop((cred (tallyAt (dcell c aS i) () NB) ∗ ow c O -∗ wpc c (k ⟨⟩) Q)
          -∗ wpc c (.op (.enqueueDma ((src.slice (Rect.unit (s := S8x16x8x128) off S1x16x8x128.size inb₁) (fun _ => rfl)).squeeze S16x8x128 squeezes_S1x16x8x128_S16x8x128)
              (.remote (Dev.tc n : Thread nD τ)
                ((dst.slice (Rect.unit (s := S8x16x8x128) off S1x16x8x128.size inb₂) (fun _ => rfl)).squeeze S16x8x128 squeezes_S1x16x8x128_S16x8x128)
                (.dma sS) hsc) (.dma sR) hsrc hdst hsem) k) Q) := by
  subst hn ho hsS hsR
  iintro ⟨#He, Hs, ⟨%Z, Hd⟩, Ho, Ht, Ht'⟩ Hk
  unfold ow
  icases Ho with ⟨%W, HO⟩
  ihave He1 := (env_d om lm K c aS i) $$ He
  icases He1 with ⟨#HiS, #HrS⟩
  ihave He2 := (env_d om lm K n aR i) $$ He
  icases He2 with ⟨#HiR, #HrR⟩
  ihave Hs' := (row4_open src c i _ Y) $$ Hs
  icases Hs' with ⟨%fs, %hfs, Hs⟩
  ihave Hd' := (row4_open dst n i _ Z) $$ Hd
  icases Hd' with ⟨%fd, %hfd, Hd⟩
  iapply (Rounds.wp_send_pointsTo 𝒱₀ ER (rd om lm) (c : Thread nD τ) none (c' := (n : Thread nD τ)) (src := sq4 src i) (dst := sq4 dst i)
    (sS := .dma (dsem aS i)) (sem := .dma (dsem aR i))
    (κ₁ := K (c, some (aS, i))) (κ₂ := K (n, some (aR, i)))
    (r₁ := 0) (r₂ := 0) (d₁ := false) (d₂ := false) (fs := fs) (fd := fd) (q := fullShare.left)
    (by rw [duties_d]; exact Finset.mem_singleton_self _) (by rw [duties_d]; exact Finset.mem_singleton_self _)
    () () NB hN ((amount_d om lm c aS i false).trans hNS) ((amount_d om lm n aR i false).trans hNR) O rfl (W := W)
    (by rw [payload_d]; exact (row4_close src c i _ Y fs hfs).trans hpS)
    (by rw [payload_d]; exact (row4_close dst n i _ Y _ (landed4 src dst i fd fs Y hfs)).trans hpR)) $$ [Hs Hd HO Ht Ht']
  · isplitr; · iexact HiS
    isplitr; · iexact HiR
    isplitl [Hs]; · iexact Hs
    isplitl [Hd]; · iexact Hd
    isplitl [HO]; · iexact HO
    isplitl [Ht]; · iexact Ht
    isplitr; · iexact HrS
    isplitl [Ht']; · iexact Ht'
    iexact HrR
  iintro ⟨Hc, HO⟩
  iapply Hk
  isplitl [Hc]; · iexact Hc
  iexists _; iexact HO

set_option maxHeartbeats 400000 in
/-- A denominator row sent to `c'`: the row is lent at its share to the transfer, the peer's row is handed to the landing. -/
theorem wp_send3 (c c' n : Dev nD) (hn : n = c') (src dst : Memref sig .tc .vmem S8x16x8 .f32) (aS aR i : Fin 8)
    (Y : S1x16x8.Idx → Elt F .f32) (hN : (sq3 dst i).view.dmaCredit = NL) (hNS : amt aS = NL) (hNR : amt aR = NL)
    (hpS : (row3 src c i fullShare.left Y : sProp 𝕄) ⊢ dPay om lm c aS i) (hpR : (row3 dst c' i fullShare Y : sProp 𝕄) ⊢ dPay om lm c' aR i)
    {off : Fin 3 → Nat} (ho : off = ![i.val, 0, 0]) {inb₁ inb₂ : ∀ a, off a + S1x16x8.size a ≤ S8x16x8.size a}
    {sS sR : DmaSem sig} (hsS : sS = dsem aS i) (hsR : sR = dsem aR i)
    {hsc : (((dst.slice (Rect.unit (s := S8x16x8) off S1x16x8.size inb₂) (fun _ => rfl)).squeeze S16x8 squeezes_S1x16x8_S16x8)
      : Memref sig (Dev.tc n : Thread nD τ).2.kind .vmem S16x8 .f32).view.ref.isScScratch = false}
    {hsrc : ((src.slice (Rect.unit (s := S8x16x8) off S1x16x8.size inb₁) (fun _ => rfl)).squeeze S16x8 squeezes_S1x16x8_S16x8).view.WordExact}
    {hdst : (((dst.slice (Rect.unit (s := S8x16x8) off S1x16x8.size inb₂) (fun _ => rfl)).squeeze S16x8 squeezes_S1x16x8_S16x8)
      : Memref sig (Dev.tc n : Thread nD τ).2.kind .vmem S16x8 .f32).view.WordExact}
    {hsem : DmaTarget.Typed .vmem (.dma sR) (.remote (Dev.tc n : Thread nD τ)
      (((dst.slice (Rect.unit (s := S8x16x8) off S1x16x8.size inb₂) (fun _ => rfl)).squeeze S16x8 squeezes_S1x16x8_S16x8)
        : Memref sig (Dev.tc n : Thread nD τ).2.kind .vmem S16x8 .f32) (.dma sS) hsc)}
    (O : CellTallies nD τ sig Unit) {k : PUnit → Prog (TpuEff nD τ sig (Elt F) Λ₀ .tc) α} :
    iprop(env om lm K ∗ row3 src c i fullShare.left Y ∗ (∃ Z, row3 dst c' i fullShare Z) ∗ ow c (O + tallyAt (dcell c' aR i) () NL)
        ∗ dutyTok ER (dcell c aS i) 0 false ∗ dutyTok ER (dcell c' aR i) 0 false)
      ⊢ iprop((cred (tallyAt (dcell c aS i) () NL) ∗ ow c O -∗ wpc c (k ⟨⟩) Q)
          -∗ wpc c (.op (.enqueueDma ((src.slice (Rect.unit (s := S8x16x8) off S1x16x8.size inb₁) (fun _ => rfl)).squeeze S16x8 squeezes_S1x16x8_S16x8)
              (.remote (Dev.tc n : Thread nD τ)
                ((dst.slice (Rect.unit (s := S8x16x8) off S1x16x8.size inb₂) (fun _ => rfl)).squeeze S16x8 squeezes_S1x16x8_S16x8)
                (.dma sS) hsc) (.dma sR) hsrc hdst hsem) k) Q) := by
  subst hn ho hsS hsR
  iintro ⟨#He, Hs, ⟨%Z, Hd⟩, Ho, Ht, Ht'⟩ Hk
  unfold ow
  icases Ho with ⟨%W, HO⟩
  ihave He1 := (env_d om lm K c aS i) $$ He
  icases He1 with ⟨#HiS, #HrS⟩
  ihave He2 := (env_d om lm K n aR i) $$ He
  icases He2 with ⟨#HiR, #HrR⟩
  ihave Hs' := (row3_open src c i _ Y) $$ Hs
  icases Hs' with ⟨%fs, %hfs, Hs⟩
  ihave Hd' := (row3_open dst n i _ Z) $$ Hd
  icases Hd' with ⟨%fd, %hfd, Hd⟩
  iapply (Rounds.wp_send_pointsTo 𝒱₀ ER (rd om lm) (c : Thread nD τ) none (c' := (n : Thread nD τ)) (src := sq3 src i) (dst := sq3 dst i)
    (sS := .dma (dsem aS i)) (sem := .dma (dsem aR i))
    (κ₁ := K (c, some (aS, i))) (κ₂ := K (n, some (aR, i)))
    (r₁ := 0) (r₂ := 0) (d₁ := false) (d₂ := false) (fs := fs) (fd := fd) (q := fullShare.left)
    (by rw [duties_d]; exact Finset.mem_singleton_self _) (by rw [duties_d]; exact Finset.mem_singleton_self _)
    () () NL hN ((amount_d om lm c aS i false).trans hNS) ((amount_d om lm n aR i false).trans hNR) O rfl (W := W)
    (by rw [payload_d]; exact (row3_close src c i _ Y fs hfs).trans hpS)
    (by rw [payload_d]; exact (row3_close dst n i _ Y _ (landed3 src dst i fd fs Y hfs)).trans hpR)) $$ [Hs Hd HO Ht Ht']
  · isplitr; · iexact HiS
    isplitr; · iexact HiR
    isplitl [Hs]; · iexact Hs
    isplitl [Hd]; · iexact Hd
    isplitl [HO]; · iexact HO
    isplitl [Ht]; · iexact Ht
    isplitr; · iexact HrS
    isplitl [Ht']; · iexact Ht'
    iexact HrR
  iintro ⟨Hc, HO⟩
  iapply Hk
  isplitl [Hc]; · iexact Hc
  iexists _; iexact HO

/-! ## The barrier -/

set_option maxHeartbeats 400000 in
/-- The signal to either peer hands over this device's receive buffers; the wait brings the peers'. -/
theorem wp_barrier (c n₁ n₂ : Dev nD) (h₁ : n₁ = p1 c) (h₂ : n₂ = p2 c)
    {k : PUnit → Prog (TpuEff nD τ sig (Elt F) Λ₀ .tc) α} :
    iprop(env om lm K ∗ ow c (due0 c) ∗ dutyTok ER (barCell (p1 c)) 0 false ∗ dutyTok ER (barCell (p2 c)) 0 true
        ∗ (bigSep Finset.univ fun i : Fin 8 => land1 (F := F) c i) ∗ (bigSep Finset.univ fun i : Fin 8 => land2 (F := F) c i)
        ∗ cred (tallyAt (barCell c) () 2) ∗ atPos ER (barCell c) 0 ∅ 0)
      ⊢ iprop((ow c (dueS c Finset.univ Finset.univ) ∗ atPos ER (barCell c) 1 ∅ 0
            ∗ (bigSep Finset.univ fun i : Fin 8 => land1 (F := F) (p1 c) i) ∗ (bigSep Finset.univ fun i : Fin 8 => land2 (F := F) (p2 c) i) -∗ wpc c (k ⟨⟩) Q)
          -∗ wpc c (.op (.semSignal ((n₁, .tc) : Thread nD τ) barS (1#32).toInt) fun _ => .op (.semSignal ((n₂, .tc) : Thread nD τ) barS (1#32).toInt) fun _ =>
              .op (.semWait barS (2#32).toInt) k) Q) := by
  subst h₁ h₂
  iintro ⟨#He, Ho, Ht1, Ht2, Hl1, Hl2, Hc, Ha⟩ Hk
  unfold ow
  icases Ho with ⟨%W, HO⟩
  ihave He0 := (env_b om lm K c) $$ He
  icases He0 with ⟨#Hi, #Hr⟩
  ihave He1 := (env_b om lm K (p1 c)) $$ He
  icases He1 with ⟨#Hi1, #Hr1⟩
  ihave He2 := (env_b om lm K (p2 c)) $$ He
  icases He2 with ⟨#Hi2, #Hr2⟩
  ihave #Hl := (env_lev om lm K) $$ He
  unfold due0
  iapply (Rounds.wp_signal 𝒱₀ ER (rd om lm) (c : Thread nD τ) none (dst := (p1 c : Thread nD τ)) (sem := barS) (κ := K (p1 c, none))
      (d := false) (by rw [duties_bar]; exact Finset.mem_univ _) ((amount_bar om lm (p1 c) false).trans (by decide)) ()
      (dueS c Finset.univ Finset.univ + tallyAt (barCell (p2 c)) () 1) rfl) $$ [HO Ht1 Hl1]
  · isplitr; · iexact Hi1
    isplitl [HO]; · iexact HO
    isplitl [Ht1]; · iexact Ht1
    isplitl [Hl1]; · rw [payload_bar]; unfold barPay; rw [p1_p1]; iexact Hl1
    iexact Hr1
  iintro HO
  iapply (Rounds.wp_signal 𝒱₀ ER (rd om lm) (c : Thread nD τ) none (dst := (p2 c : Thread nD τ)) (sem := barS) (κ := K (p2 c, none))
      (d := true) (by rw [duties_bar]; exact Finset.mem_univ _) ((amount_bar om lm (p2 c) true).trans (by decide)) ()
      (dueS c Finset.univ Finset.univ) rfl) $$ [HO Ht2 Hl2]
  · isplitr; · iexact Hi2
    isplitl [HO]; · iexact HO
    isplitl [Ht2]; · iexact Ht2
    isplitl [Hl2]; · rw [payload_bar]; unfold barPay; rw [p2_p2]; iexact Hl2
    iexact Hr2
  iintro HO
  iapply (Rounds.wp_wait_rest_token 𝒱₀ ER (rd om lm) (c : Thread nD τ) none (κ := K (c, none))
      (wpE_semWait_eq 𝒱₀ (c : Thread nD τ) none Set.univ) (Set.mem_univ _) () (O := dueS c Finset.univ Finset.univ) (W := W) (R := 0) (m := 0) (T := ∅)
      (by rw [expect_bar]; decide)) $$ [Hc HO Ha]
  · isplitr; · iexact Hi
    isplitl [Hc]; · iexact Hc
    isplitl [HO]; · iexact HO
    isplitr
    · iapply (mayWait_dueS c (.reg barS) Finset.univ Finset.univ 1 (le_of_eq (lv_bar c)) (fun i _ => by omega) (fun i _ => by omega)); iexact Hl
    iexact Ha
  iintro ⟨HO, Ha, -, Hp⟩
  ihave Hp' := (Entails.of_eq (rest_bar om lm c)) $$ Hp
  unfold barPay
  icases Hp' with ⟨H1, H2⟩
  iapply Hk
  isplitl [HO]; · iexists _; iexact HO
  isplitl [Ha]; · iexact Ha
  isplitl [H1]; · iexact H1
  iexact H2

/-! ## The end of a cell -/

/-- A transfer cell past its round is closed: its counter stands at zero. -/
theorem close_d (c : Dev nD) (a i : Fin 8) :
    iprop(env om lm K ∗ atPos ER (dcell c a i) 1 ∅ 0) ⊢ (iprop(|={Set.univ}=> semVal (dcell c a i) 0) : sProp 𝕄) := by
  iintro ⟨#He, Ha⟩
  ihave He' := (env_d om lm K c a i) $$ He
  icases He' with ⟨#Hi, -⟩
  imod (Rounds.cell_close ER (rd om lm) (Set.mem_univ (K (c, some (a, i)))) (fun h => h) (R := 0 + 1) (duties_later om lm (dcell c a i))) $$ [Ha] with Hz
  · isplitr; · iexact Hi
    iexact Ha
  imodintro; iexact Hz
theorem close_b (c : Dev nD) :
    iprop(env om lm K ∗ atPos ER (barCell c) 1 ∅ 0) ⊢ (iprop(|={Set.univ}=> semVal (barCell c) 0) : sProp 𝕄) := by
  iintro ⟨#He, Ha⟩
  ihave He' := (env_b om lm K c) $$ He
  icases He' with ⟨#Hi, -⟩
  imod (Rounds.cell_close ER (rd om lm) (Set.mem_univ (K (c, none))) (fun h => h) (R := 0 + 1) (duties_later om lm (barCell c))) $$ [Ha] with Hz
  · isplitr; · iexact Hi
    iexact Ha
  imodintro; iexact Hz

end Env

end Cert.KernelIdeal.Proof
-- ==== Proof.KI.Point.lean ====
/-
  What the body's index arithmetic comes to at grid point `t = 2b + h`: which branches run, which rows are touched, which
  devices are addressed, which semaphore a slice names. Each by evaluation over the sixteen points or the four devices.
-/
module

public import proofs.«01_k».proof.Proof.KI.Ops

@[expose] public section

noncomputable section

namespace Cert.KernelIdeal.Proof

open Cert.KernelIdeal Cert.KernelIdeal.Gen Idealize.ShloMosaic.ValueIdx
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Branches -/

abbrev Pt : Type := Fin 16
abbrev co (t : Pt) : grid0.Coords := grid0.coords t

theorem cond1_iff (t : Pt) : k0_cond1 (co t) = 1#1 ↔ t.val = 0 := by revert t; decide +kernel
theorem cond2_iff (t : Pt) : k0_cond2 (co t) = 1#1 ↔ t.val % 2 = 1 := by revert t; decide +kernel
theorem cond3_iff (t : Pt) : k0_cond3 (co t) = 1#1 ↔ t.val % 2 = 1 ∧ 2 ≤ t.val := by revert t; decide +kernel
theorem cond4_iff (t : Pt) : k0_cond4 (co t) = 1#1 ↔ t.val % 2 = 1 ∧ 4 ≤ t.val := by revert t; decide +kernel
theorem cond5_iff (t : Pt) : k0_cond5 (co t) = 1#1 ↔ t.val = 15 := by revert t; decide +kernel

/-! ## Rows -/

/-- The slot of point `t`, the slot one entry before, the slot two before. -/
def sl0 (t : Pt) : Fin 8 := ⟨t.val / 2, by omega⟩
def sl1 (t : Pt) : Fin 8 := ⟨t.val / 2 - 1, by omega⟩
def sl2 (t : Pt) : Fin 8 := ⟨t.val / 2 - 2, by omega⟩
def hf (t : Pt) : Fin 2 := ⟨t.val % 2, by omega⟩

theorem off1_at (t : Pt) : k0_off1 (co t) = ![(sl0 t).val, 8 * (hf t).val, 0, 0] := by revert t; decide +kernel
theorem off2_at (t : Pt) : k0_off2 (co t) = ![(sl0 t).val, 8 * (hf t).val, 0] := by revert t; decide +kernel
theorem off3_at (t : Pt) : k0_off3 (co t) = ![(sl0 t).val] := by revert t; decide +kernel
theorem off4_at (t : Pt) : k0_off4 (co t) = ![(sl0 t).val, 0, 0, 0] := by revert t; decide +kernel
theorem off5_at (t : Pt) : k0_off5 (co t) = ![(sl0 t).val, 0, 0] := by revert t; decide +kernel
theorem off6_at (t : Pt) : 2 ≤ t.val → k0_off6 (co t) = ![(sl1 t).val] := by revert t; decide +kernel
theorem off7_at (t : Pt) : 2 ≤ t.val → k0_off7 (co t) = ![(sl1 t).val, 0, 0, 0] := by revert t; decide +kernel
theorem off8_at (t : Pt) : 2 ≤ t.val → k0_off8 (co t) = ![(sl1 t).val, 0, 0] := by revert t; decide +kernel
theorem off9_at (t : Pt) : 2 ≤ t.val → k0_off9 (co t) = ![(sl1 t).val, 0, 0, 0] := by revert t; decide +kernel
theorem off10_at (t : Pt) : 2 ≤ t.val → k0_off10 (co t) = ![(sl1 t).val, 0, 0] := by revert t; decide +kernel
theorem off11_at (t : Pt) : 4 ≤ t.val → k0_off11 (co t) = ![(sl2 t).val] := by revert t; decide +kernel
theorem off12_at (t : Pt) : 4 ≤ t.val → k0_off12 (co t) = ![(sl2 t).val, 0, 0, 0] := by revert t; decide +kernel
theorem off13_at (t : Pt) : 4 ≤ t.val → k0_off13 (co t) = ![(sl2 t).val, 0, 0] := by revert t; decide +kernel
theorem off14_at (t : Pt) : 4 ≤ t.val → k0_off14 (co t) = ![(sl2 t).val, 0, 0, 0] := by revert t; decide +kernel
theorem off15_at (t : Pt) : 4 ≤ t.val → k0_off15 (co t) = ![(sl2 t).val, 0, 0] := by revert t; decide +kernel
theorem off16_at (t : Pt) : 4 ≤ t.val → k0_off16 (co t) = ![(sl2 t).val, 0, 0, 0] := by revert t; decide +kernel

/-! ## Devices -/

theorem dev1_at (c : Dev nD) (h) : (⟨k0_dev1 c, h⟩ : Dev nD) = p1 c := by revert h; revert c; decide +kernel
theorem dev2_at (c : Dev nD) (h) : (⟨k0_dev2 c, h⟩ : Dev nD) = p2 c := by revert h; revert c; decide +kernel
theorem dev3_at (c : Dev nD) (h) : (⟨k0_dev3 c, h⟩ : Dev nD) = p1 c := by revert h; revert c; decide +kernel
theorem dev4_at (c : Dev nD) (h) : (⟨k0_dev4 c, h⟩ : Dev nD) = p1 c := by revert h; revert c; decide +kernel
theorem dev5_at (c : Dev nD) (h) : (⟨k0_dev5 c, h⟩ : Dev nD) = p2 c := by revert h; revert c; decide +kernel
theorem dev6_at (c : Dev nD) (h) : (⟨k0_dev6 c, h⟩ : Dev nD) = p2 c := by revert h; revert c; decide +kernel
theorem dev7_at (c : Dev nD) (h) : (⟨k0_dev7 c, h⟩ : Dev nD) = p2 c := by revert h; revert c; decide +kernel
theorem dev8_at (c : Dev nD) (h) : (⟨k0_dev8 c, h⟩ : Dev nD) = p2 c := by revert h; revert c; decide +kernel

/-! ## Semaphores -/

theorem inb1 (i : Fin 8) : ∀ a, (![i.val] : Fin 1 → Nat) a + S1.size a ≤ S8.size a := by revert i; decide
/-- The semaphore a slice of an array names. -/
abbrev semAt (a : DmaSems sig S8) (off : Fin 1 → Nat) (inb : ∀ a, off a + S1.size a ≤ S8.size a) : DmaSem sig :=
  ((a.slice (Rect.unit (s := S8) off S1.size inb)).squeeze S_ squeezes_S1_S_ : DmaSems sig S_).sem

variable {off : Fin 1 → Nat} {i : Fin 8} (h : off = ![i.val]) {inb : ∀ a, off a + S1.size a ≤ S8.size a}
include h
theorem sem_s9 : semAt cc0_scratch9 off inb = dsem 0 i := by
  subst h; exact (show ∀ i : Fin 8, semAt cc0_scratch9 ![i.val] (inb1 i) = dsem 0 i by decide) i
theorem sem_s10 : semAt cc0_scratch10 off inb = dsem 1 i := by
  subst h; exact (show ∀ i : Fin 8, semAt cc0_scratch10 ![i.val] (inb1 i) = dsem 1 i by decide) i
theorem sem_s11 : semAt cc0_scratch11 off inb = dsem 2 i := by
  subst h; exact (show ∀ i : Fin 8, semAt cc0_scratch11 ![i.val] (inb1 i) = dsem 2 i by decide) i
theorem sem_s12 : semAt cc0_scratch12 off inb = dsem 3 i := by
  subst h; exact (show ∀ i : Fin 8, semAt cc0_scratch12 ![i.val] (inb1 i) = dsem 3 i by decide) i
theorem sem_s13 : semAt cc0_scratch13 off inb = dsem 4 i := by
  subst h; exact (show ∀ i : Fin 8, semAt cc0_scratch13 ![i.val] (inb1 i) = dsem 4 i by decide) i
theorem sem_s14 : semAt cc0_scratch14 off inb = dsem 5 i := by
  subst h; exact (show ∀ i : Fin 8, semAt cc0_scratch14 ![i.val] (inb1 i) = dsem 5 i by decide) i
theorem sem_s15 : semAt cc0_scratch15 off inb = dsem 6 i := by
  subst h; exact (show ∀ i : Fin 8, semAt cc0_scratch15 ![i.val] (inb1 i) = dsem 6 i by decide) i
theorem sem_s16 : semAt cc0_scratch16 off inb = dsem 7 i := by
  subst h; exact (show ∀ i : Fin 8, semAt cc0_scratch16 ![i.val] (inb1 i) = dsem 7 i by decide) i

end Cert.KernelIdeal.Proof
-- ==== Proof.KI.Slots.lean ====
/-
  A slot's resources, phase by phase, and the accesses to its rows.

  Slot `i` (batch entry) goes through these phases on device `c`:
    0  nothing computed: the rows of `c`'s partial sums are two halves at whatever contents; all tokens, credits, positions
    1  the first half of the heads computed
    2  both computed: the partial sums are whole rows
    3  sent to `p1 c`: a half share of the rows is lent to the transfer
    4  the peer's partial sums received, the pair sums stored and sent to `p2 c`
    5  the other pair's sums received (the result row is stored)
    6  done: every row back, every transfer cell's counter at zero
-/
module

public import proofs.«01_k».proof.Proof.KI.Point

@[expose] public section

noncomputable section

namespace Cert.KernelIdeal.Proof

open Cert.KernelIdeal Cert.KernelIdeal.Gen Idealize.ShloMosaic.ValueIdx
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Loads and stores of rows and half rows -/

section Access
variable {α : Type} {Q : α → sProp (MT nD τ sig Unit (Elt F) ℕ UU ℕ)}
variable (c : Dev nD) (i : Fin 8)

theorem ld4 (m : Memref sig .tc .vmem S8x16x8x128 .bf16) {q : PosShare TreeShare} {Y : S1x16x8x128.Idx → Elt F .bf16}
    {off : Fin 4 → Nat} (h : off = ![i.val, 0, 0, 0]) {inb : ∀ a, off a + S1x16x8x128.size a ≤ S8x16x8x128.size a}
    {hl : m.view.LoadsAt (Rect.unit (s := S8x16x8x128) off S1x16x8x128.size inb).toLoadRect}
    {k : (S1x16x8x128.Idx → Elt F .bf16) → Prog (TpuEff nD τ sig (Elt F) Λ₀ .tc) α} :
    row4 m c i q Y ⊢ iprop((row4 m c i q Y -∗ wpc c (k Y) Q)
      -∗ wpc c (.op (.load m (Rect.unit (s := S8x16x8x128) off S1x16x8x128.size inb).toLoadRect hl) k) Q) := by
  subst h; exact wp_ld c m (R4 i) (fun _ => rfl)
theorem st4 (m : Memref sig .tc .vmem S8x16x8x128 .bf16) {Y w : S1x16x8x128.Idx → Elt F .bf16}
    {off : Fin 4 → Nat} (h : off = ![i.val, 0, 0, 0]) {inb : ∀ a, off a + S1x16x8x128.size a ≤ S8x16x8x128.size a}
    {hx : (m.access (Rect.unit (s := S8x16x8x128) off S1x16x8x128.size inb)).Stores Finset.univ}
    {hm : (Finset.univ : Finset (Rect.unit (s := S8x16x8x128) off S1x16x8x128.size inb).shape.Idx) = Finset.univ ∨ ∀ a, (Rect.unit (s := S8x16x8x128) off S1x16x8x128.size inb).stride a = 1}
    {k : PUnit → Prog (TpuEff nD τ sig (Elt F) Λ₀ .tc) α} :
    row4 m c i fullShare Y ⊢ iprop((row4 m c i fullShare w -∗ wpc c (k ⟨⟩) Q)
      -∗ wpc c (.op (.store m (Rect.unit (s := S8x16x8x128) off S1x16x8x128.size inb) w Finset.univ hx hm) k) Q) := by
  subst h; exact wp_st c m (R4 i) (fun _ => rfl)
theorem ldH4 (h' : Fin 2) (m : Memref sig .tc .vmem S8x16x8x128 .bf16) {Y : S1x8x8x128.Idx → Elt F .bf16}
    {off : Fin 4 → Nat} (h : off = ![i.val, 8 * h'.val, 0, 0]) {inb : ∀ a, off a + S1x8x8x128.size a ≤ S8x16x8x128.size a}
    {hl : m.view.LoadsAt (Rect.unit (s := S8x16x8x128) off S1x8x8x128.size inb).toLoadRect}
    {k : (S1x8x8x128.Idx → Elt F .bf16) → Prog (TpuEff nD τ sig (Elt F) Λ₀ .tc) α} :
    half4 m c i h' Y ⊢ iprop((half4 m c i h' Y -∗ wpc c (k Y) Q)
      -∗ wpc c (.op (.load m (Rect.unit (s := S8x16x8x128) off S1x8x8x128.size inb).toLoadRect hl) k) Q) := by
  subst h; exact wp_ld c m (H4 i h') (fun _ => rfl)
theorem stH4 (h' : Fin 2) (m : Memref sig .tc .vmem S8x16x8x128 .bf16) {Y w : S1x8x8x128.Idx → Elt F .bf16}
    {off : Fin 4 → Nat} (h : off = ![i.val, 8 * h'.val, 0, 0]) {inb : ∀ a, off a + S1x8x8x128.size a ≤ S8x16x8x128.size a}
    {hx : (m.access (Rect.unit (s := S8x16x8x128) off S1x8x8x128.size inb)).Stores Finset.univ}
    {hm : (Finset.univ : Finset (Rect.unit (s := S8x16x8x128) off S1x8x8x128.size inb).shape.Idx) = Finset.univ ∨ ∀ a, (Rect.unit (s := S8x16x8x128) off S1x8x8x128.size inb).stride a = 1}
    {k : PUnit → Prog (TpuEff nD τ sig (Elt F) Λ₀ .tc) α} :
    half4 m c i h' Y ⊢ iprop((half4 m c i h' w -∗ wpc c (k ⟨⟩) Q)
      -∗ wpc c (.op (.store m (Rect.unit (s := S8x16x8x128) off S1x8x8x128.size inb) w Finset.univ hx hm) k) Q) := by
  subst h; exact wp_st c m (H4 i h') (fun _ => rfl)

theorem ld3 (m : Memref sig .tc .vmem S8x16x8 .f32) {q : PosShare TreeShare} {Y : S1x16x8.Idx → Elt F .f32}
    {off : Fin 3 → Nat} (h : off = ![i.val, 0, 0]) {inb : ∀ a, off a + S1x16x8.size a ≤ S8x16x8.size a}
    {hl : m.view.LoadsAt (Rect.unit (s := S8x16x8) off S1x16x8.size inb).toLoadRect}
    {k : (S1x16x8.Idx → Elt F .f32) → Prog (TpuEff nD τ sig (Elt F) Λ₀ .tc) α} :
    row3 m c i q Y ⊢ iprop((row3 m c i q Y -∗ wpc c (k Y) Q)
      -∗ wpc c (.op (.load m (Rect.unit (s := S8x16x8) off S1x16x8.size inb).toLoadRect hl) k) Q) := by
  subst h; exact wp_ld c m (R3 i) (fun _ => rfl)
theorem st3 (m : Memref sig .tc .vmem S8x16x8 .f32) {Y w : S1x16x8.Idx → Elt F .f32}
    {off : Fin 3 → Nat} (h : off = ![i.val, 0, 0]) {inb : ∀ a, off a + S1x16x8.size a ≤ S8x16x8.size a}
    {hx : (m.access (Rect.unit (s := S8x16x8) off S1x16x8.size inb)).Stores Finset.univ}
    {hm : (Finset.univ : Finset (Rect.unit (s := S8x16x8) off S1x16x8.size inb).shape.Idx) = Finset.univ ∨ ∀ a, (Rect.unit (s := S8x16x8) off S1x16x8.size inb).stride a = 1}
    {k : PUnit → Prog (TpuEff nD τ sig (Elt F) Λ₀ .tc) α} :
    row3 m c i fullShare Y ⊢ iprop((row3 m c i fullShare w -∗ wpc c (k ⟨⟩) Q)
      -∗ wpc c (.op (.store m (Rect.unit (s := S8x16x8) off S1x16x8.size inb) w Finset.univ hx hm) k) Q) := by
  subst h; exact wp_st c m (R3 i) (fun _ => rfl)
theorem ldH3 (h' : Fin 2) (m : Memref sig .tc .vmem S8x16x8 .f32) {Y : S1x8x8.Idx → Elt F .f32}
    {off : Fin 3 → Nat} (h : off = ![i.val, 8 * h'.val, 0]) {inb : ∀ a, off a + S1x8x8.size a ≤ S8x16x8.size a}
    {hl : m.view.LoadsAt (Rect.unit (s := S8x16x8) off S1x8x8.size inb).toLoadRect}
    {k : (S1x8x8.Idx → Elt F .f32) → Prog (TpuEff nD τ sig (Elt F) Λ₀ .tc) α} :
    half3 m c i h' Y ⊢ iprop((half3 m c i h' Y -∗ wpc c (k Y) Q)
      -∗ wpc c (.op (.load m (Rect.unit (s := S8x16x8) off S1x8x8.size inb).toLoadRect hl) k) Q) := by
  subst h; exact wp_ld c m (H3 i h') (fun _ => rfl)
theorem stH3 (h' : Fin 2) (m : Memref sig .tc .vmem S8x16x8 .f32) {Y w : S1x8x8.Idx → Elt F .f32}
    {off : Fin 3 → Nat} (h : off = ![i.val, 8 * h'.val, 0]) {inb : ∀ a, off a + S1x8x8.size a ≤ S8x16x8.size a}
    {hx : (m.access (Rect.unit (s := S8x16x8) off S1x8x8.size inb)).Stores Finset.univ}
    {hm : (Finset.univ : Finset (Rect.unit (s := S8x16x8) off S1x8x8.size inb).shape.Idx) = Finset.univ ∨ ∀ a, (Rect.unit (s := S8x16x8) off S1x8x8.size inb).stride a = 1}
    {k : PUnit → Prog (TpuEff nD τ sig (Elt F) Λ₀ .tc) α} :
    half3 m c i h' Y ⊢ iprop((half3 m c i h' w -∗ wpc c (k ⟨⟩) Q)
      -∗ wpc c (.op (.store m (Rect.unit (s := S8x16x8) off S1x8x8.size inb) w Finset.univ hx hm) k) Q) := by
  subst h; exact wp_st c m (H3 i h') (fun _ => rfl)

end Access

/-! ## Phases -/

section Slots
variable (A : Dev nD → Fin 8 → Fin 2 → S1x8x8x128.Idx → Elt F .bf16) (B : Dev nD → Fin 8 → Fin 2 → S1x8x8.Idx → Elt F .f32)

/-- A device's partial sums of a slot, from the halves its two grid points compute. -/
def omOf (c : Dev nD) (i : Fin 8) : S1x16x8x128.Idx → Elt F .bf16 := glue4 (A c i 0) (A c i 1)
def lmOf (c : Dev nD) (i : Fin 8) : S1x16x8.Idx → Elt F .f32 := glue3 (B c i 0) (B c i 1)

variable (c : Dev nD) (i : Fin 8)

/-- The duties `c` pays in either exchange: the receive cells of the peer, its own send cells. -/
def toks1 : sProp 𝕄 := iprop(dutyTok ER (dcell (p1 c) 1 i) 0 false ∗ dutyTok ER (dcell (p1 c) 5 i) 0 false
  ∗ dutyTok ER (dcell c 0 i) 0 false ∗ dutyTok ER (dcell c 4 i) 0 false)
def toks2 : sProp 𝕄 := iprop(dutyTok ER (dcell (p2 c) 3 i) 0 false ∗ dutyTok ER (dcell (p2 c) 7 i) 0 false
  ∗ dutyTok ER (dcell c 2 i) 0 false ∗ dutyTok ER (dcell c 6 i) 0 false)
/-- A pair of transfer cells not waited on yet: at the start of their round. -/
def pos (a b : Fin 8) : sProp 𝕄 := iprop(atPos ER (dcell c a i) 0 ∅ 0 ∗ atPos ER (dcell c b i) 0 ∅ 0)
/-- A pair waited on: past their round. -/
def past (a b : Fin 8) : sProp 𝕄 := iprop(atPos ER (dcell c a i) 1 ∅ 0 ∗ atPos ER (dcell c b i) 1 ∅ 0)
/-- The credits of a pair: what may be waited for. -/
def creds (a b : Fin 8) : sProp 𝕄 := iprop(cred (tallyAt (dcell c a i) () NB) ∗ cred (tallyAt (dcell c b i) () NL))

/-- What waits on a pair of cells: their positions and credits. -/
def await (a b : Fin 8) : sProp 𝕄 := iprop(creds c i a b ∗ pos c i a b)

/-- The pair sums' buffers at whatever contents. -/
def own2 : sProp 𝕄 := iprop((∃ Y, row4 bC1 c i fullShare Y) ∗ ∃ Y, row3 bCl1 c i fullShare Y)

/-- All a slot needs for the exchanges, save the peers' buffers. -/
def stock : sProp 𝕄 := iprop(toks1 c i ∗ toks2 c i ∗ pos c i 0 4 ∗ pos c i 2 6 ∗ await c i 1 5 ∗ await c i 3 7 ∗ own2 c i)
/-- With the peers' buffers. -/
def armed : sProp 𝕄 := iprop(stock c i ∗ land1 (p1 c) i ∗ land2 (p2 c) i)
/-- What is left of that after the first exchange's transfers. -/
def armed2 : sProp 𝕄 := iprop(toks2 c i ∗ pos c i 2 6 ∗ await c i 1 5 ∗ await c i 3 7 ∗ own2 c i ∗ land2 (p2 c) i)

/-- The rows lent to a transfer: the share kept, and the send cells to wait on. -/
def lent1 : sProp 𝕄 := iprop(row4 bO c i fullShare.right (omOf A c i) ∗ row3 bL c i fullShare.right (lmOf B c i) ∗ await c i 0 4)
def lent2 : sProp 𝕄 := iprop(row4 bC1 c i fullShare.right (c1 (omOf A) c i) ∗ row3 bCl1 c i fullShare.right (cl1 (lmOf B) c i) ∗ await c i 2 6)
/-- The rows received, their cells past. -/
def got1 : sProp 𝕄 := iprop((∃ Y, row4 bCo0 c i fullShare Y) ∗ (∃ Y, row3 bCl0 c i fullShare Y) ∗ past c i 1 5)
def got2 : sProp 𝕄 := iprop((∃ Y, row4 bCo2 c i fullShare Y) ∗ (∃ Y, row3 bCl2 c i fullShare Y) ∗ past c i 3 7)

/-- The four half rows at whatever contents. -/
def blank (h : Fin 2) : sProp 𝕄 := iprop((∃ Z, half4 bO c i h Z) ∗ ∃ Z, half3 bL c i h Z)

/-- Every row of the slot at whatever contents, every transfer cell's counter at zero. -/
def rowsBack : sProp 𝕄 := iprop((∃ Y, row4 bO c i fullShare Y) ∗ (∃ Y, row3 bL c i fullShare Y) ∗ (∃ Y, row4 bCo0 c i fullShare Y)
  ∗ (∃ Y, row4 bC1 c i fullShare Y) ∗ (∃ Y, row4 bCo2 c i fullShare Y) ∗ (∃ Y, row3 bCl0 c i fullShare Y)
  ∗ (∃ Y, row3 bCl1 c i fullShare Y) ∗ ∃ Y, row3 bCl2 c i fullShare Y)
def zeros : sProp 𝕄 := iprop(semVal (dcell c 0 i) 0 ∗ semVal (dcell c 1 i) 0 ∗ semVal (dcell c 2 i) 0 ∗ semVal (dcell c 3 i) 0
  ∗ semVal (dcell c 4 i) 0 ∗ semVal (dcell c 5 i) 0 ∗ semVal (dcell c 6 i) 0 ∗ semVal (dcell c 7 i) 0)

def slot (ph : ℕ) : sProp 𝕄 := match ph with
  | 0 => iprop(blank c i 0 ∗ blank c i 1 ∗ armed c i)
  | 1 => iprop((half4 bO c i 0 (A c i 0) ∗ half3 bL c i 0 (B c i 0)) ∗ blank c i 1 ∗ armed c i)
  | 2 => iprop((row4 bO c i fullShare (omOf A c i) ∗ row3 bL c i fullShare (lmOf B c i)) ∗ armed c i)
  | 3 => iprop(lent1 A B c i ∗ armed2 c i)
  | 4 => iprop(lent1 A B c i ∗ got1 c i ∗ lent2 A B c i ∗ await c i 3 7)
  | 5 => iprop(lent1 A B c i ∗ got1 c i ∗ lent2 A B c i ∗ got2 c i)
  | _ => iprop(rowsBack c i ∗ zeros c i)

/-- All slots, at their phases. -/
def slots (f : Fin 8 → ℕ) : sProp 𝕄 := bigSep Finset.univ fun i => slot A B c i (f i)

/-- One slot taken out, and put back at another phase. -/
theorem slots_take (f : Fin 8 → ℕ) (x : ℕ) :
    slots A B c f ⊢ iprop(slot A B c i (f i) ∗ (slot A B c i x -∗ slots A B c (Function.update f i x))) := by
  have h1 := BI.bigSep_erase (Φ := fun i => slot A B c i (f i)) (Finset.mem_univ i)
  have h2 := BI.bigSep_erase (Φ := fun j => slot A B c j (Function.update f i x j)) (Finset.mem_univ i)
  have h3 : (bigSep (Finset.univ.erase i) fun j => slot A B c j (Function.update f i x j))
      = bigSep (Finset.univ.erase i) fun j => slot A B c j (f j) :=
    BI.bigSep_congr fun j hj => by rw [Function.update_of_ne (Finset.ne_of_mem_erase hj)]
  rw [h3] at h2
  unfold slots
  rw [h1, h2, Function.update_self]
  show iprop(slot A B c i (f i) ∗ bigSep (Finset.univ.erase i) fun j => slot A B c j (f j))
    ⊢ iprop(slot A B c i (f i) ∗ (slot A B c i x -∗
      (slot A B c i x ∗ bigSep (Finset.univ.erase i) fun j => slot A B c j (f j))))
  iintro ⟨H, Hr⟩
  isplitl [H]; · iexact H
  iintro H
  isplitl [H]; · iexact H
  iexact Hr

end Slots

end Cert.KernelIdeal.Proof
-- ==== Proof.KI.Trans.lean ====
/-
  The slots' transitions: what a phase hands out, and what must come back for the next phase.
-/
module

public import proofs.«01_k».proof.Proof.KI.Slots

@[expose] public section

noncomputable section

namespace Cert.KernelIdeal.Proof

open Cert.KernelIdeal Cert.KernelIdeal.Gen Idealize.ShloMosaic.ValueIdx
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section Trans
variable (A : Dev nD → Fin 8 → Fin 2 → S1x8x8x128.Idx → Elt F .bf16) (B : Dev nD → Fin 8 → Fin 2 → S1x8x8.Idx → Elt F .f32)
variable (c : Dev nD) (i : Fin 8)

/-- `slots_take` at a known phase. -/
theorem slots_at {f : Fin 8 → ℕ} {p : ℕ} (h : f i = p) (x : ℕ) :
    slots A B c f ⊢ iprop(slot A B c i p ∗ (slot A B c i x -∗ slots A B c (Function.update f i x))) := by
  subst h; exact slots_take A B c i f x

theorem slot_0 : slot A B c i 0 = iprop(blank c i 0 ∗ blank c i 1 ∗ armed c i) := rfl
theorem slot_1 : slot A B c i 1 = iprop((half4 bO c i 0 (A c i 0) ∗ half3 bL c i 0 (B c i 0)) ∗ blank c i 1 ∗ armed c i) := rfl
theorem slot_2 : slot A B c i 2 = iprop((row4 bO c i fullShare (omOf A c i) ∗ row3 bL c i fullShare (lmOf B c i)) ∗ armed c i) := rfl
theorem slot_3 : slot A B c i 3 = iprop(lent1 A B c i ∗ armed2 c i) := rfl
theorem slot_4 : slot A B c i 4 = iprop(lent1 A B c i ∗ got1 c i ∗ lent2 A B c i ∗ await c i 3 7) := rfl
theorem slot_5 : slot A B c i 5 = iprop(lent1 A B c i ∗ got1 c i ∗ lent2 A B c i ∗ got2 c i) := rfl
theorem slot_6 : slot A B c i 6 = iprop(rowsBack c i ∗ zeros c i) := rfl

/-- Phase 0 to 1: the first halves. -/
theorem tr0 : slot A B c i 0 ⊢ iprop((∃ Z, half4 bO c i 0 Z) ∗ (∃ Z, half3 bL c i 0 Z)
    ∗ (half4 bO c i 0 (A c i 0) ∗ half3 bL c i 0 (B c i 0) -∗ slot A B c i 1)) := by
  rw [slot_0, slot_1]; unfold blank
  iintro ⟨⟨H1, H2⟩, H3, H4⟩
  isplitl [H1]; · iexact H1
  isplitl [H2]; · iexact H2
  iintro ⟨H1, H2⟩
  isplitl [H1 H2]
  · isplitl [H1]; · iexact H1
    iexact H2
  isplitl [H3]; · iexact H3
  iexact H4

/-- Phase 1 to 2: the second halves, and the rows whole. -/
theorem tr1 : slot A B c i 1 ⊢ iprop((∃ Z, half4 bO c i 1 Z) ∗ (∃ Z, half3 bL c i 1 Z)
    ∗ (half4 bO c i 1 (A c i 1) ∗ half3 bL c i 1 (B c i 1) -∗ slot A B c i 2)) := by
  rw [slot_1, slot_2]; unfold blank
  iintro ⟨⟨H1, H2⟩, ⟨H3, H4⟩, H5⟩
  isplitl [H3]; · iexact H3
  isplitl [H4]; · iexact H4
  iintro ⟨H3, H4⟩
  isplitl [H1 H2 H3 H4]
  · isplitl [H1 H3]
    · iapply (row4_of_halves bO c i) $$ [H1 H3]
      isplitl [H1]; · iexact H1
      iexact H3
    iapply (row3_of_halves bL c i) $$ [H2 H4]
    isplitl [H2]; · iexact H2
    iexact H4
  iexact H5

/-- Phase 2 to 3: what the first exchange's transfers take, and the credits they give. -/
theorem tr2 : slot A B c i 2 ⊢ iprop(
    (row4 bO c i fullShare.left (omOf A c i) ∗ (∃ Z, row4 bCo0 (p1 c) i fullShare Z)
      ∗ dutyTok ER (dcell c 0 i) 0 false ∗ dutyTok ER (dcell (p1 c) 1 i) 0 false)
    ∗ (row3 bL c i fullShare.left (lmOf B c i) ∗ (∃ Z, row3 bCl0 (p1 c) i fullShare Z)
      ∗ dutyTok ER (dcell c 4 i) 0 false ∗ dutyTok ER (dcell (p1 c) 5 i) 0 false)
    ∗ (cred (tallyAt (dcell c 0 i) () NB) ∗ cred (tallyAt (dcell c 4 i) () NL) -∗ slot A B c i 3)) := by
  rw [slot_2, slot_3]; unfold lent1 armed armed2 stock toks1 await creds pos land1
  iintro ⟨⟨Ho, Hl⟩, ⟨⟨T1, T5, T0, T4⟩, HT2, ⟨P0, P4⟩, Hp2, HW1, HW3, Hown⟩, ⟨L0, L1⟩, HL2⟩
  ihave Ho' := (own_halve _ _) $$ Ho
  icases Ho' with ⟨HoL, HoR⟩
  ihave Hl' := (own_halve _ _) $$ Hl
  icases Hl' with ⟨HlL, HlR⟩
  isplitl [HoL L0 T0 T1]
  · isplitl [HoL]; · iexact HoL
    isplitl [L0]; · iexact L0
    isplitl [T0]; · iexact T0
    iexact T1
  isplitl [HlL L1 T4 T5]
  · isplitl [HlL]; · iexact HlL
    isplitl [L1]; · iexact L1
    isplitl [T4]; · iexact T4
    iexact T5
  iintro ⟨C0, C4⟩
  isplitl [HoR HlR C0 C4 P0 P4]
  · isplitl [HoR]; · iexact HoR
    isplitl [HlR]; · iexact HlR
    isplitl [C0 C4]
    · isplitl [C0]; · iexact C0
      iexact C4
    isplitl [P0]; · iexact P0
    iexact P4
  isplitl [HT2]; · iexact HT2
  isplitl [Hp2]; · iexact Hp2
  isplitl [HW1]; · iexact HW1
  isplitl [HW3]; · iexact HW3
  isplitl [Hown]; · iexact Hown
  iexact HL2

/-- The rows phase 3 reads: what `c` keeps of its partial sums, and the pair sums' buffers. -/
def lend3 : sProp 𝕄 := iprop(row4 bO c i fullShare.right (omOf A c i) ∗ row3 bL c i fullShare.right (lmOf B c i)
  ∗ (∃ Y, row4 bC1 c i fullShare Y) ∗ (∃ Y, row3 bCl1 c i fullShare Y))
/-- What the second exchange's transfers take besides the pair sums. -/
def lend3' : sProp 𝕄 := iprop(
  ((∃ Z, row4 bCo2 (p2 c) i fullShare Z) ∗ dutyTok ER (dcell c 2 i) 0 false ∗ dutyTok ER (dcell (p2 c) 3 i) 0 false)
  ∗ ((∃ Z, row3 bCl2 (p2 c) i fullShare Z) ∗ dutyTok ER (dcell c 6 i) 0 false ∗ dutyTok ER (dcell (p2 c) 7 i) 0 false))
/-- What must come back for phase 4. -/
def back3 : sProp 𝕄 := iprop(row4 bO c i fullShare.right (omOf A c i) ∗ row3 bL c i fullShare.right (lmOf B c i) ∗ got1 c i
  ∗ row4 bC1 c i fullShare.right (c1 (omOf A) c i) ∗ row3 bCl1 c i fullShare.right (cl1 (lmOf B) c i) ∗ creds c i 2 6)

/-- Phase 3 to 4. -/
theorem tr3 : slot A B c i 3 ⊢ iprop(await c i 1 5 ∗ lend3 A B c i ∗ lend3' c i ∗ (back3 A B c i -∗ slot A B c i 4)) := by
  rw [slot_3, slot_4]; unfold lent1 armed2 lent2 lend3 lend3' back3 toks2 land2 own2
  iintro ⟨⟨Ho, Hl, Hw⟩, ⟨T3, T7, T2, T6⟩, HP2, HW1, HW3, ⟨Hc1, Hcl1⟩, L0, L1⟩
  isplitl [HW1]; · iexact HW1
  isplitl [Ho Hl Hc1 Hcl1]
  · isplitl [Ho]; · iexact Ho
    isplitl [Hl]; · iexact Hl
    isplitl [Hc1]; · iexact Hc1
    iexact Hcl1
  isplitl [L0 T2 T3 L1 T6 T7]
  · isplitl [L0 T2 T3]
    · isplitl [L0]; · iexact L0
      isplitl [T2]; · iexact T2
      iexact T3
    isplitl [L1]; · iexact L1
    isplitl [T6]; · iexact T6
    iexact T7
  iintro ⟨Ho, Hl, Hg, Hc, Hcl, Hcr⟩
  isplitl [Ho Hl Hw]
  · isplitl [Ho]; · iexact Ho
    isplitl [Hl]; · iexact Hl
    iexact Hw
  isplitl [Hg]; · iexact Hg
  isplitl [Hc Hcl Hcr HP2]
  · isplitl [Hc]; · iexact Hc
    isplitl [Hcl]; · iexact Hcl
    unfold await
    isplitl [Hcr]; · iexact Hcr
    iexact HP2
  iexact HW3

/-- Phase 4 to 5. -/
theorem tr4 : slot A B c i 4 ⊢ iprop(await c i 3 7 ∗ (row4 bC1 c i fullShare.right (c1 (omOf A) c i) ∗ row3 bCl1 c i fullShare.right (cl1 (lmOf B) c i))
    ∗ ((row4 bC1 c i fullShare.right (c1 (omOf A) c i) ∗ row3 bCl1 c i fullShare.right (cl1 (lmOf B) c i)) ∗ got2 c i -∗ slot A B c i 5)) := by
  rw [slot_4, slot_5]; unfold lent2
  iintro ⟨H1, H2, ⟨Hc, Hl, Hw⟩, HW⟩
  isplitl [HW]; · iexact HW
  isplitl [Hc Hl]
  · isplitl [Hc]; · iexact Hc
    iexact Hl
  iintro ⟨⟨Hc, Hl⟩, Hg⟩
  isplitl [H1]; · iexact H1
  isplitl [H2]; · iexact H2
  isplitl [Hc Hl Hw]
  · isplitl [Hc]; · iexact Hc
    isplitl [Hl]; · iexact Hl
    iexact Hw
  iexact Hg

/-- What the send cells' waits hand back. -/
def back5 : sProp 𝕄 := iprop((row4 bO c i fullShare.left (omOf A c i) ∗ row3 bL c i fullShare.left (lmOf B c i) ∗ past c i 0 4)
  ∗ row4 bC1 c i fullShare.left (c1 (omOf A) c i) ∗ row3 bCl1 c i fullShare.left (cl1 (lmOf B) c i) ∗ past c i 2 6)
/-- What stays behind meanwhile. -/
def rest5 : sProp 𝕄 := iprop((row4 bO c i fullShare.right (omOf A c i) ∗ row3 bL c i fullShare.right (lmOf B c i) ∗ got1 c i)
  ∗ row4 bC1 c i fullShare.right (c1 (omOf A) c i) ∗ row3 bCl1 c i fullShare.right (cl1 (lmOf B) c i) ∗ got2 c i)

theorem tr5 : slot A B c i 5 ⊢ iprop((await c i 0 4 ∗ await c i 2 6) ∗ rest5 A B c i) := by
  rw [slot_5]; unfold lent1 lent2 rest5
  iintro ⟨⟨Ho, Hl, Hw⟩, Hg1, ⟨Hc, Hcl, Hw2⟩, Hg2⟩
  isplitl [Hw Hw2]
  · isplitl [Hw]; · iexact Hw
    iexact Hw2
  isplitl [Ho Hl Hg1]
  · isplitl [Ho]; · iexact Ho
    isplitl [Hl]; · iexact Hl
    iexact Hg1
  isplitl [Hc]; · iexact Hc
  isplitl [Hcl]; · iexact Hcl
  iexact Hg2

variable (K : Dev nD × CK → ℕ)

/-- Two cells past their round are closed: their counters are zero. -/
theorem close2 (a b : Fin 8) : iprop(env (omOf A) (lmOf B) K ∗ past c i a b)
    ⊢ (iprop(|={Set.univ}=> (semVal (dcell c a i) 0 ∗ semVal (dcell c b i) 0)) : sProp 𝕄) := by
  unfold past
  iintro ⟨#He, Ha, Hb⟩
  imod (close_d (omOf A) (lmOf B) K c a i) $$ [Ha] with Za
  · isplitr; · iexact He
    iexact Ha
  imod (close_d (omOf A) (lmOf B) K c b i) $$ [Hb] with Zb
  · isplitr; · iexact He
    iexact Hb
  imodintro
  isplitl [Za]; · iexact Za
  iexact Zb

/-- Phase 5 to 6: with the lent rows back and every cell past, the slot is done. -/
theorem done5 : iprop(env (omOf A) (lmOf B) K ∗ rest5 A B c i ∗ back5 A B c i) ⊢ (iprop(|={Set.univ}=> slot A B c i 6) : sProp 𝕄) := by
  unfold rest5 back5 got1 got2
  iintro ⟨#He, ⟨⟨Ho, Hl, Hco0, Hcl0, P15⟩, Hc1, Hcl1, Hco2, Hcl2, P37⟩, ⟨Bo, Bl, P04⟩, Bc1, Bcl1, P26⟩
  imod (close2 A B c i K 0 4) $$ [P04] with ⟨Z0, Z4⟩
  · isplitr; · iexact He
    iexact P04
  imod (close2 A B c i K 1 5) $$ [P15] with ⟨Z1, Z5⟩
  · isplitr; · iexact He
    iexact P15
  imod (close2 A B c i K 2 6) $$ [P26] with ⟨Z2, Z6⟩
  · isplitr; · iexact He
    iexact P26
  imod (close2 A B c i K 3 7) $$ [P37] with ⟨Z3, Z7⟩
  · isplitr; · iexact He
    iexact P37
  imodintro
  rw [slot_6]; unfold rowsBack zeros
  isplitl [Ho Hl Hco0 Hcl0 Hc1 Hcl1 Hco2 Hcl2 Bo Bl Bc1 Bcl1]
  · isplitl [Ho Bo]
    · iexists (omOf A c i)
      iapply (own_unhalve _ _) $$ [Ho Bo]
      isplitl [Bo]; · iexact Bo
      iexact Ho
    isplitl [Hl Bl]
    · iexists (lmOf B c i)
      iapply (own_unhalve _ _) $$ [Hl Bl]
      isplitl [Bl]; · iexact Bl
      iexact Hl
    isplitl [Hco0]; · iexact Hco0
    isplitl [Hc1 Bc1]
    · iexists (c1 (omOf A) c i)
      iapply (own_unhalve _ _) $$ [Hc1 Bc1]
      isplitl [Bc1]; · iexact Bc1
      iexact Hc1
    isplitl [Hco2]; · iexact Hco2
    isplitl [Hcl0]; · iexact Hcl0
    isplitl [Hcl1 Bcl1]
    · iexists (cl1 (lmOf B) c i)
      iapply (own_unhalve _ _) $$ [Hcl1 Bcl1]
      isplitl [Bcl1]; · iexact Bcl1
      iexact Hcl1
    iexact Hcl2
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  iexact Z7

end Trans

end Cert.KernelIdeal.Proof
-- ==== Proof.KI.Body.lean ====
/-
  One grid point's run: from the device's state after `t` points to its state after `t + 1`.
-/
module

public import proofs.«01_k».proof.Proof.KI.Trans

@[expose] public section

noncomputable section

namespace Cert.KernelIdeal.Proof

open Cert.KernelIdeal Cert.KernelIdeal.Gen Idealize.ShloMosaic.ValueIdx
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Programs in sequence -/

theorem seq {α β : Type} {c : Dev nD} {R : sProp 𝕄} {p : Prog (TpuEff nD τ sig (Elt F) Λ₀ .tc) α}
    {k : α → Prog (TpuEff nD τ sig (Elt F) Λ₀ .tc) β} {Q : β → sProp 𝕄} (h : R ⊢ wpc c p (fun a => wpc c (k a) Q)) :
    R ⊢ wpc c (p >>= k) Q := by
  unfold wpc at h ⊢; rw [wp_bind]; exact h

theorem ret_of {α : Type} (c : Dev nD) {a : α} {Q : α → sProp 𝕄} : iprop(|={Set.univ}=> Q a) ⊢ wpc c (.ret a) Q := by
  unfold wpc; rw [wp_ret]

/-- A program run to a middle assertion, then the rest from there. -/
theorem seq_to {α β : Type} {c : Dev nD} {R : sProp 𝕄} {p : Prog (TpuEff nD τ sig (Elt F) Λ₀ .tc) α}
    {k : α → Prog (TpuEff nD τ sig (Elt F) Λ₀ .tc) β} {Q : β → sProp 𝕄} (R' : α → sProp 𝕄) (h : R ⊢ wpc c p R')
    (h' : ∀ a, R' a ⊢ wpc c (k a) Q) : R ⊢ wpc c (p >>= k) Q :=
  seq (h.trans (wp_mono _ _ _ h'))

/-- A branch whose two sides go on with the same program `X`: the side taken must reach what `X` is run from. -/
theorem cut {α β : Type} {c : Dev nD} {R : sProp 𝕄} {p : Prog (TpuEff nD τ sig (Elt F) Λ₀ .tc) α}
    {X : Prog (TpuEff nD τ sig (Elt F) Λ₀ .tc) β} {Q : α → sProp 𝕄} {Q' : β → sProp 𝕄} (R' : sProp 𝕄)
    (h : (R' ⊢ wpc c X Q') → (R ⊢ wpc c p Q)) (hX : R' ⊢ wpc c X Q') : R ⊢ wpc c p Q := h hX

theorem zip3 {I : Type} [Fintype I] (P P' P'' : I → sProp 𝕄) :
    iprop((bigSep Finset.univ fun i => P i) ∗ (bigSep Finset.univ fun i => P' i) ∗ bigSep Finset.univ fun i => P'' i)
      ⊢ bigSep Finset.univ fun i => iprop(P i ∗ P' i ∗ P'' i) :=
  Entails.of_eq (by rw [bigSep_sep', bigSep_sep'])

theorem zero4 : (![0, 0, 0, 0] : Fin 4 → Nat) = fun _ => 0 := by decide
theorem zero2 : (![0, 0] : Fin 2 → Nat) = fun _ => 0 := by decide

/-! ## Contents -/

/-- The mask of the score matrix: a column's head against a row's. -/
def MASK : S8192x64.Idx → Elt F .f32 :=
  k0_pay19 (F := F) (iota .tc S8192x64 32 [1] iota_S8192x64_d1_w32) k0_pay5 8#32 k0_pay6 k0_pay7 k0_pay8

/-- The grid point of a slot's half. -/
def ptOf (i : Fin 8) (h : Fin 2) : Pt := ⟨2 * i.val + h.val, by omega⟩
theorem ptOf_at (t : Pt) : ptOf (sl0 t) (hf t) = t := by revert t; decide

section Body
variable (qb : Dev nD → Pt → S1x8x8x128.Idx → Elt F .bf16) (kb vb : Dev nD → Pt → S1x1024x8x128.Idx → Elt F .bf16)

/-- What point `t` stores of the weighted values and of the weights. -/
def oAt (c : Dev nD) (t : Pt) : S1x8x8x128.Idx → Elt F .bf16 := k0_pay1 (k0_pay22 (kb c t) (vb c t) (qb c t) MASK)
def lAt (c : Dev nD) (t : Pt) : S1x8x8.Idx → Elt F .f32 := k0_pay2 (k0_pay21 (kb c t) (qb c t) MASK)
def oA (c : Dev nD) (i : Fin 8) (h : Fin 2) : S1x8x8x128.Idx → Elt F .bf16 := oAt qb kb vb c (ptOf i h)
def lB (c : Dev nD) (i : Fin 8) (h : Fin 2) : S1x8x8.Idx → Elt F .f32 := lAt qb kb c (ptOf i h)

/-- A device's partial sums, slot by slot; the result's rows. -/
abbrev om : Dev nD → Fin 8 → S1x16x8x128.Idx → Elt F .bf16 := omOf (oA qb kb vb)
abbrev lm : Dev nD → Fin 8 → S1x16x8.Idx → Elt F .f32 := lmOf (lB qb kb)
abbrev outR (c : Dev nD) (i : Fin 8) : S1x8x16x128.Idx → Elt F .f32 := outRow (om qb kb vb) (lm qb kb) c i

/-! ## Where a device stands -/

/-- The phases after `n` points. -/
def ph (n : ℕ) (i : Fin 8) : ℕ :=
  if n = 16 then 6 else if n ≤ 2 * i.val then 0 else if n = 2 * i.val + 1 then 1 else if n < 2 * i.val + 4 then 3
  else if n < 2 * i.val + 6 then 4 else 5
/-- Within a point: its half computed; the first exchange's transfers; the pair sums; the result's row. -/
def g1 (t : Pt) : Fin 8 → ℕ := Function.update (ph t.val) (sl0 t) ((hf t).val + 1)
def g2 (t : Pt) : Fin 8 → ℕ := if k0_cond2 (co t) = 1#1 then Function.update (g1 t) (sl0 t) 3 else g1 t
def g3 (t : Pt) : Fin 8 → ℕ := if k0_cond3 (co t) = 1#1 then Function.update (g2 t) (sl1 t) 4 else g2 t
def g4 (t : Pt) : Fin 8 → ℕ := if k0_cond4 (co t) = 1#1 then Function.update (g3 t) (sl2 t) 5 else g3 t

theorem ph_at (t : Pt) : ph t.val (sl0 t) = (hf t).val := by revert t; decide +kernel
theorem g1_at (t : Pt) : k0_cond2 (co t) = 1#1 → g1 t (sl0 t) = 2 := by revert t; decide +kernel
theorem g2_at (t : Pt) : k0_cond3 (co t) = 1#1 → g2 t (sl1 t) = 3 := by revert t; decide +kernel
theorem g3_at (t : Pt) : k0_cond4 (co t) = 1#1 → g3 t (sl2 t) = 4 := by revert t; decide +kernel
theorem g4_at (t : Pt) : k0_cond5 (co t) ≠ 1#1 → g4 t = ph (t.val + 1) := by
  revert t
  have h : ∀ t : Pt, k0_cond5 (co t) ≠ 1#1 → ∀ i, g4 t i = ph (t.val + 1) i := by decide +kernel
  exact fun t ht => funext (h t ht)

/-- The slots whose first, second exchange is still owed after `n` points (the last slot's second one, by the last point's tail). -/
def As (n : ℕ) : Finset (Fin 8) := Finset.univ.filter fun i => n < 2 * i.val + 2
def Bs (n : ℕ) : Finset (Fin 8) := Finset.univ.filter fun i => n < 2 * i.val + 4

theorem As_mem (t : Pt) : k0_cond2 (co t) = 1#1 → sl0 t ∈ As t.val := by revert t; decide +kernel
theorem As_step (t : Pt) : k0_cond2 (co t) = 1#1 → (As t.val).erase (sl0 t) = As (t.val + 1) := by revert t; decide +kernel
theorem As_stay (t : Pt) : k0_cond2 (co t) ≠ 1#1 → As t.val = As (t.val + 1) := by revert t; decide +kernel
theorem Bs_mem (t : Pt) : k0_cond3 (co t) = 1#1 → sl1 t ∈ Bs t.val := by revert t; decide +kernel
theorem Bs_step (t : Pt) : k0_cond3 (co t) = 1#1 → (Bs t.val).erase (sl1 t) = Bs (t.val + 1) := by revert t; decide +kernel
theorem Bs_stay (t : Pt) : k0_cond3 (co t) ≠ 1#1 → Bs t.val = Bs (t.val + 1) := by revert t; decide +kernel

/-- The rows of the result stored after `n` points. -/
def fin (n : ℕ) (i : Fin 8) : Prop := 2 * i.val + 6 ≤ n ∨ n = 16
/-- The result's block holds the rows of the slots `P`. -/
def outOK (c : Dev nD) (P : Fin 8 → Prop) (X : S8x8x16x128.Idx → Elt F .f32) : Prop :=
  ∀ i, P i → ∀ j, X ((RO i).emb j) = outR qb kb vb c i j

variable (K : Dev nD × CK → ℕ) (c : Dev nD)

/-- The protocol's state: the slots at phases `f`, the deposits `O` owed. -/
def core (f : Fin 8 → ℕ) (O : CellTallies nD τ sig Unit) : sProp 𝕄 :=
  iprop(env (om qb kb vb) (lm qb kb) K ∗ ow c O ∗ slots (oA qb kb vb) (lB qb kb) c f)

variable (t : Pt) (m2 : Memref sig .tc .vmem S1x8x8x128 .bf16) (h2 : m2.IsWhole) (m3 m4 : Memref sig .tc .vmem S1x1024x8x128 .bf16) (h3 : m3.IsWhole) (h4 : m4.IsWhole)
  (m5 : Memref sig .tc .vmem S8x8x16x128 .f32) (h5 : m5.IsWhole)

/-- The windows' blocks at a point. -/
def ins : sProp 𝕄 := iprop(owns (c : Thread nD τ) m2 fullShare (qb c t) ∗ owns (c : Thread nD τ) m3 fullShare (kb c t) ∗ owns (c : Thread nD τ) m4 fullShare (vb c t))
/-- The result's block, holding the rows of the slots `P`. -/
def outs (P : Fin 8 → Prop) : sProp 𝕄 := iprop(∃ X, ⌜outOK qb kb vb c P X⌝ ∗ owns (c : Thread nD τ) m5 fullShare X)
/-- The mask computed and the barrier's counter at zero. -/
def ready : sProp 𝕄 := iprop(owns (c : Thread nD τ) bM fullShare MASK ∗ semVal (barCell c) 0)

/-- Before the barrier: its tokens, position and credit, the mask's buffer, the device's own receive buffers, and the
    slots' stock. -/
def begin0 : sProp 𝕄 := iprop((env (om qb kb vb) (lm qb kb) K ∗ ow c (due0 c) ∗ dutyTok ER (barCell (p1 c)) 0 false ∗ dutyTok ER (barCell (p2 c)) 0 true
    ∗ (bigSep Finset.univ fun i : Fin 8 => land1 (F := F) c i) ∗ (bigSep Finset.univ fun i : Fin 8 => land2 (F := F) c i)
    ∗ cred (tallyAt (barCell c) () 2) ∗ atPos ER (barCell c) 0 ∅ 0)
  ∗ (∃ X, owns (c : Thread nD τ) bM fullShare X) ∗ bigSep Finset.univ fun i : Fin 8 => iprop(blank (F := F) c i 0 ∗ blank (F := F) c i 1 ∗ stock c i))

theorem ph_zero : ph 0 = fun _ => 0 := by
  have h : ∀ i, ph 0 i = 0 := by decide
  exact funext h

/-- With the peers' buffers every slot is at phase 0. -/
theorem arm : iprop((bigSep Finset.univ fun i : Fin 8 => land1 (F := F) (p1 c) i) ∗ (bigSep Finset.univ fun i : Fin 8 => land2 (F := F) (p2 c) i)
    ∗ bigSep Finset.univ fun i : Fin 8 => iprop(blank (F := F) c i 0 ∗ blank (F := F) c i 1 ∗ stock c i))
    ⊢ slots (oA qb kb vb) (lB qb kb) c (ph 0) := by
  rw [ph_zero]
  unfold slots
  refine (zip3 _ _ _).trans (BI.bigSep_mono fun i _ => ?_)
  show iprop(land1 (p1 c) i ∗ land2 (p2 c) i ∗ blank c i 0 ∗ blank c i 1 ∗ stock c i) ⊢ slot (oA qb kb vb) (lB qb kb) c i 0
  rw [slot_0]; unfold armed
  iintro ⟨H1, H2, H3, H4, H5⟩
  isplitl [H3]; · iexact H3
  isplitl [H4]; · iexact H4
  isplitl [H5]; · iexact H5
  isplitl [H1]; · iexact H1
  iexact H2

/-! ## The blocks read, the mask, the barrier -/

/-- What the first part hands on: the partial sums of the point's blocks. -/
def gave (r : Σ' (arg0 : BitVec 32) (arg1 : BitVec 32) (d0 : Dev nD) (v3 : BitVec 32) (v4 : BitVec 32) (v28 : FVec F S64x128 .f32), FVec F S8x8x128 .f32) : Prop :=
  r.2.2.1 = c ∧ r.2.2.2.2.2.1 = k0_pay21 (kb c t) (qb c t) MASK ∧ r.2.2.2.2.2.2 = k0_pay22 (kb c t) (vb c t) (qb c t) MASK

theorem read_later (ht : k0_cond1 (co t) ≠ 1#1) :
    iprop(ins qb kb vb c t m2 m3 m4 ∗ ready c) ⊢ wpc c (k0_part18 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16)
      (fun r => iprop(⌜gave qb kb vb c t r⌝ ∗ ins qb kb vb c t m2 m3 m4 ∗ ready c)) := by
  simp only [k0_part18_eq_skeleton]; unfold k0_part18_skel
  simp only [↓dif_neg ht, Prog.lift, Prog.bind_op, Prog.bind_ret, Prog.pure_eq_ret, wp_deviceId]
  unfold ins ready
  iintro ⟨⟨H2, H3, H4⟩, Hm, Hb⟩
  iapply (wp_ld_whole c m3 zero4 _) $$ H3
  iintro H3
  iapply (wp_ld_whole c m4 zero4 _) $$ H4
  iintro H4
  iapply (wp_ld_whole c m2 zero4 _) $$ H2
  iintro H2
  iapply (wp_ld_whole c bM zero2 _) $$ Hm
  iintro Hm
  iapply (ret_of c)
  imodintro
  isplitr
  · ipureintro; exact ⟨rfl, rfl, rfl⟩
  isplitl [H2 H3 H4]
  · isplitl [H2]; · iexact H2
    isplitl [H3]; · iexact H3
    iexact H4
  isplitl [Hm]; · iexact Hm
  iexact Hb

theorem read_first (ht : k0_cond1 (co t) = 1#1) :
    iprop(begin0 qb kb vb K c ∗ ins qb kb vb c t m2 m3 m4) ⊢ wpc c (k0_part18 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16)
      (fun r => iprop(⌜gave qb kb vb c t r⌝ ∗ core qb kb vb K c (ph 0) (dueS c Finset.univ Finset.univ) ∗ ins qb kb vb c t m2 m3 m4 ∗ ready c)) := by
  simp only [k0_part18_eq_skeleton]; unfold k0_part18_skel
  simp only [↓dif_pos ht, k0_part1_eq_skeleton]; unfold k0_part1_skel
  simp only [semSignalWord, semWaitWord, Prog.lift, Prog.bind_op, Prog.bind_ret, Prog.pure_eq_ret, wp_deviceId]
  unfold ins ready begin0 core
  iintro ⟨⟨Hbar, ⟨%X, Hm⟩, Hst⟩, H2, H3, H4⟩
  icases Hbar with ⟨#He, Hbar⟩
  iapply (wp_barrier (om qb kb vb) (lm qb kb) K c _ _ (dev1_at c _) (dev2_at c _)) $$ [Hbar]
  · isplitr; · iexact He
    iexact Hbar
  iintro ⟨Ho, Ha, Hl1, Hl2⟩
  iapply (wp_ld_whole c bM zero2 _) $$ Hm
  iintro Hm
  iapply (wp_st_whole c bM zero2 _) $$ Hm
  iintro Hm
  iapply (wp_ld_whole c m3 zero4 _) $$ H3
  iintro H3
  iapply (wp_ld_whole c m4 zero4 _) $$ H4
  iintro H4
  iapply (wp_ld_whole c m2 zero4 _) $$ H2
  iintro H2
  iapply (wp_ld_whole c bM zero2 _) $$ Hm
  iintro Hm
  iapply (ret_of c)
  imod (close_b (om qb kb vb) (lm qb kb) K c) $$ [Ha] with Hz
  · isplitr; · iexact He
    iexact Ha
  imodintro
  isplitr
  · ipureintro; exact ⟨rfl, rfl, rfl⟩
  isplitl [Ho Hl1 Hl2 Hst]
  · isplitr; · iexact He
    isplitl [Ho]; · iexact Ho
    iapply (arm qb kb vb c) $$ [Hl1 Hl2 Hst]
    isplitl [Hl1]; · iexact Hl1
    isplitl [Hl2]; · iexact Hl2
    iexact Hst
  isplitl [H2 H3 H4]
  · isplitl [H2]; · iexact H2
    isplitl [H3]; · iexact H3
    iexact H4
  isplitl [Hm]; · iexact Hm
  iexact Hz

end Body

end Cert.KernelIdeal.Proof
-- ==== Proof.KI.Mid.lean ====
/-
  The waits and the reads of the exchanges, part by part.
-/
module

public import proofs.«01_k».proof.Proof.KI.Body

@[expose] public section

noncomputable section

namespace Cert.KernelIdeal.Proof

open Cert.KernelIdeal Cert.KernelIdeal.Gen Idealize.ShloMosaic.ValueIdx
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section Pays
variable (om : Dev nD → Fin 8 → S1x16x8x128.Idx → Elt F .bf16) (lm : Dev nD → Fin 8 → S1x16x8.Idx → Elt F .f32) (c : Dev nD) (i : Fin 8)
/-! What the landing on each transfer cell hands over, spelt out. -/
theorem pay_0 : dPay om lm c 0 i ⊢ (row4 bO c i fullShare.left (om c i) : sProp 𝕄) := Entails.of_eq rfl
theorem pay_0' : (row4 bO c i fullShare.left (om c i) : sProp 𝕄) ⊢ dPay om lm c 0 i := Entails.of_eq rfl
theorem pay_1 : dPay om lm c 1 i ⊢ (row4 bCo0 c i fullShare (om (p1 c) i) : sProp 𝕄) := Entails.of_eq rfl
theorem pay_1' : (row4 bCo0 c i fullShare (om (p1 c) i) : sProp 𝕄) ⊢ dPay om lm c 1 i := Entails.of_eq rfl
theorem pay_2 : dPay om lm c 2 i ⊢ (row4 bC1 c i fullShare.left (c1 om c i) : sProp 𝕄) := Entails.of_eq rfl
theorem pay_2' : (row4 bC1 c i fullShare.left (c1 om c i) : sProp 𝕄) ⊢ dPay om lm c 2 i := Entails.of_eq rfl
theorem pay_3 : dPay om lm c 3 i ⊢ (row4 bCo2 c i fullShare (c1 om (p2 c) i) : sProp 𝕄) := Entails.of_eq rfl
theorem pay_3' : (row4 bCo2 c i fullShare (c1 om (p2 c) i) : sProp 𝕄) ⊢ dPay om lm c 3 i := Entails.of_eq rfl
theorem pay_4 : dPay om lm c 4 i ⊢ (row3 bL c i fullShare.left (lm c i) : sProp 𝕄) := Entails.of_eq rfl
theorem pay_4' : (row3 bL c i fullShare.left (lm c i) : sProp 𝕄) ⊢ dPay om lm c 4 i := Entails.of_eq rfl
theorem pay_5 : dPay om lm c 5 i ⊢ (row3 bCl0 c i fullShare (lm (p1 c) i) : sProp 𝕄) := Entails.of_eq rfl
theorem pay_5' : (row3 bCl0 c i fullShare (lm (p1 c) i) : sProp 𝕄) ⊢ dPay om lm c 5 i := Entails.of_eq rfl
theorem pay_6 : dPay om lm c 6 i ⊢ (row3 bCl1 c i fullShare.left (cl1 lm c i) : sProp 𝕄) := Entails.of_eq rfl
theorem pay_6' : (row3 bCl1 c i fullShare.left (cl1 lm c i) : sProp 𝕄) ⊢ dPay om lm c 6 i := Entails.of_eq rfl
theorem pay_7 : dPay om lm c 7 i ⊢ (row3 bCl2 c i fullShare (cl1 lm (p2 c) i) : sProp 𝕄) := Entails.of_eq rfl
theorem pay_7' : (row3 bCl2 c i fullShare (cl1 lm (p2 c) i) : sProp 𝕄) ⊢ dPay om lm c 7 i := Entails.of_eq rfl

variable {α : Type} {Q : α → sProp (MT nD τ sig Unit (Elt F) ℕ UU ℕ)} (K : Dev nD × CK → ℕ) (c : Dev nD) (i : Fin 8)

/-- A wait for a row of S16x8x128. -/
theorem wait4 (a : Fin 8) (hN : amt a = NB) {sem : DmaSem sig} (hs : sem = dsem a i) (O : CellTallies nD τ sig Unit)
    (hw : (levAts L lv : sProp 𝕄) ⊢ MayWait (c : Thread nD τ) (.dma (dsem a i)) () O)
    {sp : Space} {s : Shape} {e : EltTy} {src : Memref sig .tc sp s e} (dst : Memref sig .tc .vmem S8x16x8x128 .bf16) (off : Fin 4 → Nat)
    (inb : ∀ a, off a + S1x16x8x128.size a ≤ S8x16x8x128.size a) {h₁ : src.view.WordExact}
    {h₂ : ((dst.slice (Rect.unit (s := S8x16x8x128) off S1x16x8x128.size inb) (fun _ => rfl)).squeeze S16x8x128 squeezes_S1x16x8x128_S16x8x128).view.WordExact}
    {k : PUnit → Prog (TpuEff nD τ sig (Elt F) Λ₀ .tc) α} :
    iprop(env om lm K ∗ cred (tallyAt (dcell c a i) () NB) ∗ ow c O ∗ atPos ER (dcell c a i) 0 ∅ 0)
      ⊢ iprop((ow c O ∗ atPos ER (dcell c a i) 1 ∅ 0 ∗ dPay om lm c a i -∗ wpc c (k ⟨⟩) Q)
          -∗ wpc c (.op (.waitDma2 sem src ((dst.slice (Rect.unit (s := S8x16x8x128) off S1x16x8x128.size inb) (fun _ => rfl)).squeeze S16x8x128 squeezes_S1x16x8x128_S16x8x128) h₁ h₂) k) Q) := by
  rw [← hN]
  exact wp_waitd om lm K c a i hs (hN ▸ rfl) O hw

/-- A wait for a row of S16x8. -/
theorem wait3 (a : Fin 8) (hN : amt a = NL) {sem : DmaSem sig} (hs : sem = dsem a i) (O : CellTallies nD τ sig Unit)
    (hw : (levAts L lv : sProp 𝕄) ⊢ MayWait (c : Thread nD τ) (.dma (dsem a i)) () O)
    {sp : Space} {s : Shape} {e : EltTy} {src : Memref sig .tc sp s e} (dst : Memref sig .tc .vmem S8x16x8 .f32) (off : Fin 3 → Nat)
    (inb : ∀ a, off a + S1x16x8.size a ≤ S8x16x8.size a) {h₁ : src.view.WordExact}
    {h₂ : ((dst.slice (Rect.unit (s := S8x16x8) off S1x16x8.size inb) (fun _ => rfl)).squeeze S16x8 squeezes_S1x16x8_S16x8).view.WordExact}
    {k : PUnit → Prog (TpuEff nD τ sig (Elt F) Λ₀ .tc) α} :
    iprop(env om lm K ∗ cred (tallyAt (dcell c a i) () NL) ∗ ow c O ∗ atPos ER (dcell c a i) 0 ∅ 0)
      ⊢ iprop((ow c O ∗ atPos ER (dcell c a i) 1 ∅ 0 ∗ dPay om lm c a i -∗ wpc c (k ⟨⟩) Q)
          -∗ wpc c (.op (.waitDma2 sem src ((dst.slice (Rect.unit (s := S8x16x8) off S1x16x8.size inb) (fun _ => rfl)).squeeze S16x8 squeezes_S1x16x8_S16x8) h₁ h₂) k) Q) := by
  rw [← hN]
  exact wp_waitd om lm K c a i hs (hN ▸ rfl) O hw
end Pays

section Mid
variable (qb : Dev nD → Pt → S1x8x8x128.Idx → Elt F .bf16) (kb vb : Dev nD → Pt → S1x1024x8x128.Idx → Elt F .bf16)
variable (K : Dev nD × CK → ℕ) (c : Dev nD) (t : Pt)
  (m2 : Memref sig .tc .vmem S1x8x8x128 .bf16) (h2 : m2.IsWhole) (m3 m4 : Memref sig .tc .vmem S1x1024x8x128 .bf16) (h3 : m3.IsWhole) (h4 : m4.IsWhole)
  (m5 : Memref sig .tc .vmem S8x8x16x128 .f32) (h5 : m5.IsWhole)

/-! ## The result's block -/

section Out
variable {α : Type} {Q : α → sProp (MT nD τ sig Unit (Elt F) ℕ UU ℕ)}

theorem ld_out {P : Fin 8 → Prop} {r : Rect S8x8x16x128} {hl : m5.view.LoadsAt r.toLoadRect}
    {k : (r.shape.Idx → Elt F .f32) → Prog (TpuEff nD τ sig (Elt F) Λ₀ .tc) α} :
    outs qb kb vb c m5 P ⊢ iprop((∀ Y, outs qb kb vb c m5 P -∗ wpc c (k Y) Q) -∗ wpc c (.op (.load m5 r.toLoadRect hl) k) Q) := by
  unfold outs
  iintro ⟨%X, %hX, H⟩ Hk
  iapply (wp_ld_part c m5 r) $$ H
  iintro H
  iapply Hk
  iexists X
  isplitr
  · ipureintro; exact hX
  iexact H

/-- A row of the result stored. -/
theorem st_out {P : Fin 8 → Prop} (i : Fin 8) {off : Fin 4 → Nat} (h : off = ![i.val, 0, 0, 0])
    {inb : ∀ a, off a + S1x8x16x128.size a ≤ S8x8x16x128.size a} {w : S1x8x16x128.Idx → Elt F .f32} (hw : w = outR qb kb vb c i)
    {hx : (m5.access (Rect.unit (s := S8x8x16x128) off S1x8x16x128.size inb)).Stores Finset.univ}
    {hm : (Finset.univ : Finset (Rect.unit (s := S8x8x16x128) off S1x8x16x128.size inb).shape.Idx) = Finset.univ ∨ ∀ a, (Rect.unit (s := S8x8x16x128) off S1x8x16x128.size inb).stride a = 1}
    {k : PUnit → Prog (TpuEff nD τ sig (Elt F) Λ₀ .tc) α} :
    outs qb kb vb c m5 P ⊢ iprop((outs qb kb vb c m5 (fun i' => P i' ∨ i' = i) -∗ wpc c (k ⟨⟩) Q)
      -∗ wpc c (.op (.store m5 (Rect.unit (s := S8x8x16x128) off S1x8x16x128.size inb) w Finset.univ hx hm) k) Q) := by
  subst h hw
  unfold outs
  iintro ⟨%X, %hX, H⟩ Hk
  iapply (wp_st_part c m5 (RO i)) $$ H
  iintro H
  iapply Hk
  iexists ((RO i).overlay X (outR qb kb vb c i))
  isplitr
  · ipureintro
    intro i' hi' j
    by_cases e : i' = i
    · subst e; exact Rect.overlay_emb _ _ _ _
    · rw [Rect.overlay_of_not_mem]
      · exact hX i' (hi'.resolve_right e) j
      · intro hmem
        have h0 := Rect.mem_set_unit.mp hmem 0
        have h1 : (j 0).val < 1 := (j 0).isLt
        have h2 : ((RO i').emb j 0).val = i'.val + 1 * (j 0).val := rfl
        have h3 : i.val ≤ ((RO i').emb j 0).val ∧ ((RO i').emb j 0).val < i.val + 1 := h0
        exact e (Fin.ext (by omega))
  iexact H

theorem outs_mono {P P' : Fin 8 → Prop} (h : ∀ i, P' i → P i) : outs qb kb vb c m5 P ⊢ outs qb kb vb c m5 P' := by
  unfold outs
  iintro ⟨%X, %hX, H⟩
  iexists X
  isplitr
  · ipureintro; exact fun i hi => hX i (h i hi)
  iexact H
end Out

/-! ## The exchanges' waits and sums at a point -/

variable {Q : PUnit → sProp (MT nD τ sig Unit (Elt F) ℕ UU ℕ)} (O : CellTallies nD τ sig Unit)

theorem part2_run (h3' : k0_cond3 (co t) = 1#1) (ht : 2 ≤ t.val) (a0 v3 : BitVec 32) (k : BitVec 32 → Prog (TpuEff nD τ sig (Elt F) Λ₀ .tc) PUnit)
    (hw1 : (levAts L lv : sProp 𝕄) ⊢ MayWait (c : Thread nD τ) (.dma (dsem 1 (sl1 t))) () O)
    (hw5 : (levAts L lv : sProp 𝕄) ⊢ MayWait (c : Thread nD τ) (.dma (dsem 5 (sl1 t))) () O) :
    iprop(env (om qb kb vb) (lm qb kb) K ∗ ow c O ∗ await c (sl1 t) 1 5 ∗ lend3 (oA qb kb vb) (lB qb kb) c (sl1 t))
      ⊢ iprop((∀ r, (ow c O ∗ (row4 bO c (sl1 t) fullShare.right (om qb kb vb c (sl1 t)) ∗ row3 bL c (sl1 t) fullShare.right (lm qb kb c (sl1 t)))
            ∗ row4 bCo0 c (sl1 t) fullShare (om qb kb vb (p1 c) (sl1 t)) ∗ row3 bCl0 c (sl1 t) fullShare (lm qb kb (p1 c) (sl1 t)) ∗ past c (sl1 t) 1 5
            ∗ row4 bC1 c (sl1 t) fullShare (c1 (om qb kb vb) c (sl1 t)) ∗ (∃ Y, row3 bCl1 c (sl1 t) fullShare Y)) -∗ wpc c (k r) Q)
          -∗ wpc c (k0_part2 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16 a0 v3 h3' >>= k) Q) := by
  simp only [k0_part2_eq_skeleton]; unfold k0_part2_skel
  simp only [Prog.lift, Prog.bind_op, Prog.bind_ret, Prog.pure_eq_ret]
  unfold await creds pos lend3 past
  iintro ⟨#He, Ho, ⟨⟨C1, C5⟩, P1, P5⟩, HO, HL, ⟨%Y, HC1⟩, HCl1⟩ Hk
  iapply (wait4 (om qb kb vb) (lm qb kb) K c (sl1 t) 1 rfl (sem_s10 (off6_at t ht)) (O) hw1) $$ [C1 Ho P1]
  · isplitr; · iexact He
    isplitl [C1]; · iexact C1
    isplitl [Ho]; · iexact Ho
    iexact P1
  iintro ⟨Ho, P1, D1⟩
  ihave D1 := (pay_1 (om qb kb vb) (lm qb kb) c (sl1 t)) $$ D1
  iapply (wait3 (om qb kb vb) (lm qb kb) K c (sl1 t) 5 rfl (sem_s14 (off6_at t ht)) (O) hw5) $$ [C5 Ho P5]
  · isplitr; · iexact He
    isplitl [C5]; · iexact C5
    isplitl [Ho]; · iexact Ho
    iexact P5
  iintro ⟨Ho, P5, D5⟩
  ihave D5 := (pay_5 (om qb kb vb) (lm qb kb) c (sl1 t)) $$ D5
  iapply (ld4 c _ _ (off9_at t ht)) $$ HO
  iintro HO
  iapply (ld4 c _ _ (off9_at t ht)) $$ D1
  iintro D1
  iapply (ld4 c _ _ (off9_at t ht)) $$ HC1
  iintro HC1
  iapply (st4 c _ _ (off9_at t ht)) $$ HC1
  iintro HC1
  iapply Hk
  isplitl [Ho]; · iexact Ho
  isplitl [HO HL]
  · isplitl [HO]; · iexact HO
    iexact HL
  isplitl [D1]; · iexact D1
  isplitl [D5]; · iexact D5
  isplitl [P1 P5]
  · isplitl [P1]; · iexact P1
    iexact P5
  isplitl [HC1]; · iexact HC1
  iexact HCl1

theorem part3_run (h4' : k0_cond4 (co t) = 1#1) (ht : 4 ≤ t.val) (a0 v4 : BitVec 32)
    (k : (Σ' (v64 : BitVec 32) (v89 : FVec F S16x8x128 .f32), FVec F S16x8 .f32) → Prog (TpuEff nD τ sig (Elt F) Λ₀ .tc) PUnit)
    (hw3 : (levAts L lv : sProp 𝕄) ⊢ MayWait (c : Thread nD τ) (.dma (dsem 3 (sl2 t))) () O)
    (hw7 : (levAts L lv : sProp 𝕄) ⊢ MayWait (c : Thread nD τ) (.dma (dsem 7 (sl2 t))) () O) :
    iprop(env (om qb kb vb) (lm qb kb) K ∗ ow c O ∗ await c (sl2 t) 3 7 ∗ row4 bC1 c (sl2 t) fullShare.right (c1 (om qb kb vb) c (sl2 t)) ∗ row3 bCl1 c (sl2 t) fullShare.right (cl1 (lm qb kb) c (sl2 t)))
      ⊢ iprop((∀ x, (ow c O ∗ (row4 bC1 c (sl2 t) fullShare.right (c1 (om qb kb vb) c (sl2 t)) ∗ row3 bCl1 c (sl2 t) fullShare.right (cl1 (lm qb kb) c (sl2 t))) ∗ got2 c (sl2 t))
            -∗ wpc c (k ⟨x, k0_pay10 (c1 (om qb kb vb) c (sl2 t)) (c1 (om qb kb vb) (p2 c) (sl2 t)), k0_pay11 (cl1 (lm qb kb) c (sl2 t)) (cl1 (lm qb kb) (p2 c) (sl2 t))⟩) Q)
          -∗ wpc c (k0_part3 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16 a0 v4 h4' >>= k) Q) := by
  simp only [k0_part3_eq_skeleton]; unfold k0_part3_skel
  simp only [Prog.lift, Prog.bind_op, Prog.bind_ret, Prog.pure_eq_ret]
  unfold await creds pos got2 past
  iintro ⟨#He, Ho, ⟨⟨C3, C7⟩, P3, P7⟩, HC1, HCl1⟩ Hk
  iapply (wait4 (om qb kb vb) (lm qb kb) K c (sl2 t) 3 rfl (sem_s12 (off11_at t ht)) (O) hw3) $$ [C3 Ho P3]
  · isplitr; · iexact He
    isplitl [C3]; · iexact C3
    isplitl [Ho]; · iexact Ho
    iexact P3
  iintro ⟨Ho, P3, D3⟩
  ihave D3 := (pay_3 (om qb kb vb) (lm qb kb) c (sl2 t)) $$ D3
  iapply (wait3 (om qb kb vb) (lm qb kb) K c (sl2 t) 7 rfl (sem_s16 (off11_at t ht)) (O) hw7) $$ [C7 Ho P7]
  · isplitr; · iexact He
    isplitl [C7]; · iexact C7
    isplitl [Ho]; · iexact Ho
    iexact P7
  iintro ⟨Ho, P7, D7⟩
  ihave D7 := (pay_7 (om qb kb vb) (lm qb kb) c (sl2 t)) $$ D7
  iapply (ld4 c _ _ (off14_at t ht)) $$ HC1
  iintro HC1
  iapply (ld4 c _ _ (off14_at t ht)) $$ D3
  iintro D3
  iapply (ld3 c _ _ (off15_at t ht)) $$ HCl1
  iintro HCl1
  iapply (ld3 c _ _ (off15_at t ht)) $$ D7
  iintro D7
  iapply Hk
  isplitl [Ho]; · iexact Ho
  isplitl [HC1 HCl1]
  · isplitl [HC1]; · iexact HC1
    iexact HCl1
  isplitl [D3]
  · iexists _
    iexact D3
  isplitl [D7]
  · iexists _
    iexact D7
  isplitl [P3]; · iexact P3
  iexact P7

end Mid

end Cert.KernelIdeal.Proof
-- ==== Proof.KI.Tail.lean ====
/-
  The last point's tail: the last slot's pair sums, the last two rows of the result, the waits on every send cell.
-/
module

public import proofs.«01_k».proof.Proof.KI.Mid

@[expose] public section

noncomputable section

namespace Cert.KernelIdeal.Proof

open Cert.KernelIdeal Cert.KernelIdeal.Gen Idealize.ShloMosaic.ValueIdx
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem bigSep_fin4 (P : Fin 4 → sProp 𝕄) : bigSep Finset.univ P = iprop(P 0 ∗ P 1 ∗ P 2 ∗ P 3) := by
  have h : (Finset.univ : Finset (Fin 4)) = {0, 1, 2, 3} := by decide
  rw [h, BI.bigSep_insert (by decide), BI.bigSep_insert (by decide), BI.bigSep_insert (by decide), BI.bigSep_singleton]
  rfl

/-- A persistent assertion goes into every part of an iterated conjunction. -/
theorem bigSep_env {I : Type} [Fintype I] [DecidableEq I] (E : sProp 𝕄) [Persistent E] (P : I → sProp 𝕄) :
    iprop(E ∗ bigSep Finset.univ P) ⊢ bigSep Finset.univ fun i => iprop(E ∗ P i) := by
  exact bigSep_with_persistent fun i _ => Entails.refl _

section Tail
variable (qb : Dev nD → Pt → S1x8x8x128.Idx → Elt F .bf16) (kb vb : Dev nD → Pt → S1x1024x8x128.Idx → Elt F .bf16)
variable (K : Dev nD × CK → ℕ) (c : Dev nD) (t : Pt)
  (m2 : Memref sig .tc .vmem S1x8x8x128 .bf16) (h2 : m2.IsWhole) (m3 m4 : Memref sig .tc .vmem S1x1024x8x128 .bf16) (h3 : m3.IsWhole) (h4 : m4.IsWhole)
  (m5 : Memref sig .tc .vmem S8x8x16x128 .f32) (h5 : m5.IsWhole)
variable {Q : PUnit → sProp (MT nD τ sig Unit (Elt F) ℕ UU ℕ)}

/-! ## What is owed -/

/-- The last slot's second exchange, then nothing. -/
def owedB : CellTallies nD τ sig Unit := dueS c (As 16) (Bs 16)
def owedE : CellTallies nD τ sig Unit := dueS c (As 16) ((Bs 16).erase 7)

theorem owedB_eq : owedB c = owedE c + tallyAt (dcell (p2 c) 7 7) () NL + tallyAt (dcell (p2 c) 3 7) () NB :=
  dueS_peel2 c (by decide)
theorem owedE_eq : owedE c = 0 := by
  have h1 : As 16 = ∅ := by decide
  have h2 : (Bs 16).erase 7 = ∅ := by decide
  unfold owedE; rw [h1, h2]; unfold dueS; rw [Finset.sum_empty, Finset.sum_empty, add_zero]

theorem lv_le (a i : Fin 8) : lv ((c : Thread nD τ), .dma (dsem a i)) () ≤ 17 := by
  have h := lv_d c a i
  unfold dcell at h
  rw [h]; have := i.isLt; split <;> omega
theorem mayE (a i : Fin 8) : (levAts L lv : sProp 𝕄) ⊢ MayWait (c : Thread nD τ) (.dma (dsem a i)) () (owedE c) :=
  mayWait_dueS c _ _ _ 17 (lv_le c a i) (by decide) (by decide)
theorem mayB (a : Fin 8) (ha : a = 1 ∨ a = 5) : (levAts L lv : sProp 𝕄) ⊢ MayWait (c : Thread nD τ) (.dma (dsem a 7)) () (owedB c) :=
  mayWait_dueS c _ _ _ 16 (by
    have h := lv_d c a 7
    unfold dcell at h
    rw [h]; rcases ha with rfl | rfl <;> decide) (by decide) (by decide)

/-! ## The waits on the send cells -/

/-- The order a slot's send cells are waited on. -/
def sa (j : Fin 4) : Fin 8 := ![0, 4, 2, 6] j
/-- A send cell's state after the first `n` waits. -/
def sent (n : ℕ) (i : Fin 8) (j : Fin 4) : sProp 𝕄 :=
  if 4 * i.val + j.val < n then iprop(atPos ER (dcell c (sa j) i) 1 ∅ 0 ∗ dPay (om qb kb vb) (lm qb kb) c (sa j) i)
  else iprop(cred (tallyAt (dcell c (sa j) i) () (amt (sa j))) ∗ atPos ER (dcell c (sa j) i) 0 ∅ 0)
def sents (n : ℕ) : sProp 𝕄 := bigSep Finset.univ fun x : Fin 8 × Fin 4 => sent qb kb vb c n x.1 x.2

theorem sents_step (n : ℕ) (i : Fin 8) (j : Fin 4) (h : n = 4 * i.val + j.val) :
    sents qb kb vb c n ⊢ iprop((cred (tallyAt (dcell c (sa j) i) () (amt (sa j))) ∗ atPos ER (dcell c (sa j) i) 0 ∅ 0)
      ∗ ((atPos ER (dcell c (sa j) i) 1 ∅ 0 ∗ dPay (om qb kb vb) (lm qb kb) c (sa j) i) -∗ sents qb kb vb c (n + 1))) := by
  have e0 : sent qb kb vb c n i j = iprop(cred (tallyAt (dcell c (sa j) i) () (amt (sa j))) ∗ atPos ER (dcell c (sa j) i) 0 ∅ 0) :=
    if_neg (by omega)
  have e1 : sent qb kb vb c (n + 1) i j = iprop(atPos ER (dcell c (sa j) i) 1 ∅ 0 ∗ dPay (om qb kb vb) (lm qb kb) c (sa j) i) :=
    if_pos (by omega)
  rw [← e0, ← e1]
  exact bigSep_univ_update (Φ := fun x : Fin 8 × Fin 4 => sent qb kb vb c n x.1 x.2) (Ψ := fun x => sent qb kb vb c (n + 1) x.1 x.2) (i, j)
    fun x hx => by
      unfold sent
      have hne : 4 * x.1.val + x.2.val ≠ n := fun e => hx (Prod.ext (Fin.ext (by have := x.2.isLt; have := j.isLt; show x.1.val = i.val; omega))
        (Fin.ext (by have := x.2.isLt; have := j.isLt; show x.2.val = j.val; omega)))
      by_cases hlt : 4 * x.1.val + x.2.val < n
      · rw [if_pos hlt, if_pos (by omega)]
      · rw [if_neg hlt, if_neg (by omega)]

/-- Every slot at phase 5 is what stays behind and the send cells to wait on; after the waits, slot `i`'s are what closes it. -/
theorem sents_open : slots (oA qb kb vb) (lB qb kb) c (fun _ => 5)
    ⊢ iprop(sents qb kb vb c 0 ∗ bigSep Finset.univ fun i => rest5 (oA qb kb vb) (lB qb kb) c i) := by
  have h : (bigSep Finset.univ fun i : Fin 8 => iprop((await (F := F) c i 0 4 ∗ await (F := F) c i 2 6) ∗ rest5 (oA qb kb vb) (lB qb kb) c i))
      ⊢ iprop((bigSep Finset.univ fun i : Fin 8 => iprop(await (F := F) c i 0 4 ∗ await (F := F) c i 2 6)) ∗ bigSep Finset.univ fun i => rest5 (oA qb kb vb) (lB qb kb) c i) :=
    Entails.of_eq (bigSep_sep' _ _ _)
  refine (BI.bigSep_mono fun i _ => tr5 _ _ c i).trans (h.trans (BI.sep_mono ?_ (BI.Entails.refl _)))
  unfold sents
  rw [BI.bigSep_univ_prod]
  refine BI.bigSep_mono fun i _ => ?_
  rw [bigSep_fin4]
  unfold await creds pos sent
  rw [if_neg (by omega), if_neg (by omega), if_neg (by omega), if_neg (by omega)]
  show (iprop(((_ ∗ _) ∗ _ ∗ _) ∗ ((_ ∗ _) ∗ _ ∗ _)) : sProp 𝕄) ⊢ (iprop((_ ∗ _) ∗ (_ ∗ _) ∗ (_ ∗ _) ∗ _ ∗ _) : sProp 𝕄)
  iintro ⟨⟨⟨C0, C4⟩, P0, P4⟩, ⟨C2, C6⟩, P2, P6⟩
  isplitl [C0 P0]
  · isplitl [C0]; · iexact C0
    iexact P0
  isplitl [C4 P4]
  · isplitl [C4]; · iexact C4
    iexact P4
  isplitl [C2 P2]
  · isplitl [C2]; · iexact C2
    iexact P2
  isplitl [C6]; · iexact C6
  iexact P6

theorem sents_close : sents qb kb vb c 32 ⊢ bigSep Finset.univ fun i => back5 (oA qb kb vb) (lB qb kb) c i := by
  unfold sents
  rw [BI.bigSep_univ_prod]
  refine BI.bigSep_mono fun i _ => ?_
  rw [bigSep_fin4]
  unfold back5 past sent
  have := i.isLt
  rw [if_pos (by show 4 * i.val + 0 < 32; omega), if_pos (by show 4 * i.val + 1 < 32; omega), if_pos (by show 4 * i.val + 2 < 32; omega),
    if_pos (by show 4 * i.val + 3 < 32; omega)]
  show (iprop((_ ∗ dPay (om qb kb vb) (lm qb kb) c 0 i) ∗ (_ ∗ dPay (om qb kb vb) (lm qb kb) c 4 i) ∗ (_ ∗ dPay (om qb kb vb) (lm qb kb) c 2 i) ∗ _ ∗ dPay (om qb kb vb) (lm qb kb) c 6 i) : sProp 𝕄) ⊢ (iprop((_ ∗ _ ∗ _ ∗ _) ∗ _ ∗ _ ∗ _ ∗ _) : sProp 𝕄)
  iintro ⟨⟨P0, D0⟩, ⟨P4, D4⟩, ⟨P2, D2⟩, P6, D6⟩
  isplitl [P0 D0 P4 D4]
  · isplitl [D0]; · iapply (pay_0 (om qb kb vb) (lm qb kb) c i) $$ D0
    isplitl [D4]; · iapply (pay_4 (om qb kb vb) (lm qb kb) c i) $$ D4
    isplitl [P0]; · iexact P0
    iexact P4
  isplitl [D2]; · iapply (pay_2 (om qb kb vb) (lm qb kb) c i) $$ D2
  isplitl [D6]; · iapply (pay_6 (om qb kb vb) (lm qb kb) c i) $$ D6
  isplitl [P2]; · iexact P2
  iexact P6

/-- All slots closed. -/
theorem all_done : iprop(env (om qb kb vb) (lm qb kb) K ∗ sents qb kb vb c 32 ∗ bigSep Finset.univ fun i => rest5 (oA qb kb vb) (lB qb kb) c i)
    ⊢ (iprop(|={Set.univ}=> slots (oA qb kb vb) (lB qb kb) c (ph 16)) : sProp 𝕄) := by
  have hp : ph 16 = fun _ => 6 := funext (by decide)
  rw [hp]
  unfold slots
  have h : iprop(env (om qb kb vb) (lm qb kb) K ∗ bigSep Finset.univ fun i : Fin 8 => iprop(rest5 (oA qb kb vb) (lB qb kb) c i ∗ back5 (oA qb kb vb) (lB qb kb) c i))
      ⊢ bigSep Finset.univ fun i : Fin 8 => iprop(|={Set.univ}=> slot (oA qb kb vb) (lB qb kb) c i 6) := by
    refine (bigSep_env _ _).trans (BI.bigSep_mono fun i _ => ?_)
    exact done5 (oA qb kb vb) (lB qb kb) c i K
  iintro ⟨#He, Hs, Hr⟩
  ihave Hb := (sents_close qb kb vb c) $$ Hs
  ihave H := h $$ [Hb Hr]
  · isplitr; · iexact He
    rw [bigSep_sep']
    isplitl [Hr]; · iexact Hr
    iexact Hb
  iapply (show (bigSep Finset.univ fun i : Fin 8 => iprop(|={Set.univ}=> slot (oA qb kb vb) (lB qb kb) c i 6)) ⊢ iprop(|={Set.univ}=> bigSep Finset.univ fun i : Fin 8 => slot (oA qb kb vb) (lB qb kb) c i 6) from bigSep_fupd _ _)
  iexact H

/-- A wait on the send cell of a row of S16x8x128. -/
theorem swait4 {n : ℕ} (i : Fin 8) (j : Fin 4) (hn : n = 4 * i.val + j.val) (hN : amt (sa j) = NB) {sem : DmaSem sig} (hs : sem = dsem (sa j) i)
    {sp : Space} {s : Shape} {e : EltTy} {src : Memref sig .tc sp s e} (dst : Memref sig .tc .vmem S8x16x8x128 .bf16) (off : Fin 4 → Nat)
    (inb : ∀ a, off a + S1x16x8x128.size a ≤ S8x16x8x128.size a) {h₁ : src.view.WordExact}
    {h₂ : ((dst.slice (Rect.unit (s := S8x16x8x128) off S1x16x8x128.size inb) (fun _ => rfl)).squeeze S16x8x128 squeezes_S1x16x8x128_S16x8x128).view.WordExact}
    {k : PUnit → Prog (TpuEff nD τ sig (Elt F) Λ₀ .tc) PUnit} :
    iprop(env (om qb kb vb) (lm qb kb) K ∗ ow c (owedE c) ∗ sents qb kb vb c n)
      ⊢ iprop((ow c (owedE c) ∗ sents qb kb vb c (n + 1) -∗ wpc c (k ⟨⟩) Q)
          -∗ wpc c (.op (.waitDma2 sem src ((dst.slice (Rect.unit (s := S8x16x8x128) off S1x16x8x128.size inb) (fun _ => rfl)).squeeze S16x8x128 squeezes_S1x16x8x128_S16x8x128) h₁ h₂) k) Q) := by
  iintro ⟨#He, Ho, Hs⟩ Hk
  ihave Hs' := (sents_step qb kb vb c n i j hn) $$ Hs
  icases Hs' with ⟨⟨HC, HP⟩, Hb⟩
  rw [hN]
  iapply (wait4 (om qb kb vb) (lm qb kb) K c i (sa j) hN hs (owedE c) (mayE c _ _) dst off inb) $$ [HC Ho HP]
  · isplitr; · iexact He
    isplitl [HC]; · iexact HC
    isplitl [Ho]; · iexact Ho
    iexact HP
  iintro ⟨Ho, HP, HD⟩
  iapply Hk
  isplitl [Ho]; · iexact Ho
  iapply Hb
  isplitl [HP]; · iexact HP
  iexact HD

/-- A wait on the send cell of a row of S16x8. -/
theorem swait3 {n : ℕ} (i : Fin 8) (j : Fin 4) (hn : n = 4 * i.val + j.val) (hN : amt (sa j) = NL) {sem : DmaSem sig} (hs : sem = dsem (sa j) i)
    {sp : Space} {s : Shape} {e : EltTy} {src : Memref sig .tc sp s e} (dst : Memref sig .tc .vmem S8x16x8 .f32) (off : Fin 3 → Nat)
    (inb : ∀ a, off a + S1x16x8.size a ≤ S8x16x8.size a) {h₁ : src.view.WordExact}
    {h₂ : ((dst.slice (Rect.unit (s := S8x16x8) off S1x16x8.size inb) (fun _ => rfl)).squeeze S16x8 squeezes_S1x16x8_S16x8).view.WordExact}
    {k : PUnit → Prog (TpuEff nD τ sig (Elt F) Λ₀ .tc) PUnit} :
    iprop(env (om qb kb vb) (lm qb kb) K ∗ ow c (owedE c) ∗ sents qb kb vb c n)
      ⊢ iprop((ow c (owedE c) ∗ sents qb kb vb c (n + 1) -∗ wpc c (k ⟨⟩) Q)
          -∗ wpc c (.op (.waitDma2 sem src ((dst.slice (Rect.unit (s := S8x16x8) off S1x16x8.size inb) (fun _ => rfl)).squeeze S16x8 squeezes_S1x16x8_S16x8) h₁ h₂) k) Q) := by
  iintro ⟨#He, Ho, Hs⟩ Hk
  ihave Hs' := (sents_step qb kb vb c n i j hn) $$ Hs
  icases Hs' with ⟨⟨HC, HP⟩, Hb⟩
  rw [hN]
  iapply (wait3 (om qb kb vb) (lm qb kb) K c i (sa j) hN hs (owedE c) (mayE c _ _) dst off inb) $$ [HC Ho HP]
  · isplitr; · iexact He
    isplitl [HC]; · iexact HC
    isplitl [Ho]; · iexact Ho
    iexact HP
  iintro ⟨Ho, HP, HD⟩
  iapply Hk
  isplitl [Ho]; · iexact Ho
  iapply Hb
  isplitl [HP]; · iexact HP
  iexact HD

/-! ## Parts 9 to 16: the waits on the send cells, in order -/

theorem part9_run (k : PUnit → Prog (TpuEff nD τ sig (Elt F) Λ₀ .tc) PUnit) :
    iprop(env (om qb kb vb) (lm qb kb) K ∗ ow c (owedE c) ∗ sents qb kb vb c 0)
      ⊢ iprop((ow c (owedE c) ∗ sents qb kb vb c 4 -∗ wpc c (k ⟨⟩) Q)
          -∗ wpc c (k0_part9 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16 >>= k) Q) := by
  simp only [k0_part9_eq_skeleton]; unfold k0_part9_skel
  simp only [Prog.lift, Prog.bind_op, Prog.bind_ret, Prog.pure_eq_ret]
  iintro ⟨#He, Ho, Hs⟩ Hk
  iapply (swait4 qb kb vb K c 0 0 rfl rfl (sem_s9 rfl) _ _ _) $$ [Ho Hs]
  · isplitr; · iexact He
    isplitl [Ho]; · iexact Ho
    iexact Hs
  iintro ⟨Ho, Hs⟩
  iapply (swait3 qb kb vb K c 0 1 rfl rfl (sem_s13 rfl) _ _ _) $$ [Ho Hs]
  · isplitr; · iexact He
    isplitl [Ho]; · iexact Ho
    iexact Hs
  iintro ⟨Ho, Hs⟩
  iapply (swait4 qb kb vb K c 0 2 rfl rfl (sem_s11 rfl) _ _ _) $$ [Ho Hs]
  · isplitr; · iexact He
    isplitl [Ho]; · iexact Ho
    iexact Hs
  iintro ⟨Ho, Hs⟩
  iapply (swait3 qb kb vb K c 0 3 rfl rfl (sem_s15 rfl) _ _ _) $$ [Ho Hs]
  · isplitr; · iexact He
    isplitl [Ho]; · iexact Ho
    iexact Hs
  iintro ⟨Ho, Hs⟩
  iapply Hk
  isplitl [Ho]; · iexact Ho
  iexact Hs

theorem part10_run (k : PUnit → Prog (TpuEff nD τ sig (Elt F) Λ₀ .tc) PUnit) :
    iprop(env (om qb kb vb) (lm qb kb) K ∗ ow c (owedE c) ∗ sents qb kb vb c 4)
      ⊢ iprop((ow c (owedE c) ∗ sents qb kb vb c 8 -∗ wpc c (k ⟨⟩) Q)
          -∗ wpc c (k0_part10 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16 >>= k) Q) := by
  simp only [k0_part10_eq_skeleton]; unfold k0_part10_skel
  simp only [Prog.lift, Prog.bind_op, Prog.bind_ret, Prog.pure_eq_ret]
  iintro ⟨#He, Ho, Hs⟩ Hk
  iapply (swait4 qb kb vb K c 1 0 rfl rfl (sem_s9 rfl) _ _ _) $$ [Ho Hs]
  · isplitr; · iexact He
    isplitl [Ho]; · iexact Ho
    iexact Hs
  iintro ⟨Ho, Hs⟩
  iapply (swait3 qb kb vb K c 1 1 rfl rfl (sem_s13 rfl) _ _ _) $$ [Ho Hs]
  · isplitr; · iexact He
    isplitl [Ho]; · iexact Ho
    iexact Hs
  iintro ⟨Ho, Hs⟩
  iapply (swait4 qb kb vb K c 1 2 rfl rfl (sem_s11 rfl) _ _ _) $$ [Ho Hs]
  · isplitr; · iexact He
    isplitl [Ho]; · iexact Ho
    iexact Hs
  iintro ⟨Ho, Hs⟩
  iapply (swait3 qb kb vb K c 1 3 rfl rfl (sem_s15 rfl) _ _ _) $$ [Ho Hs]
  · isplitr; · iexact He
    isplitl [Ho]; · iexact Ho
    iexact Hs
  iintro ⟨Ho, Hs⟩
  iapply Hk
  isplitl [Ho]; · iexact Ho
  iexact Hs

theorem part11_run (k : PUnit → Prog (TpuEff nD τ sig (Elt F) Λ₀ .tc) PUnit) :
    iprop(env (om qb kb vb) (lm qb kb) K ∗ ow c (owedE c) ∗ sents qb kb vb c 8)
      ⊢ iprop((ow c (owedE c) ∗ sents qb kb vb c 11 -∗ wpc c (k ⟨⟩) Q)
          -∗ wpc c (k0_part11 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16 >>= k) Q) := by
  simp only [k0_part11_eq_skeleton]; unfold k0_part11_skel
  simp only [Prog.lift, Prog.bind_op, Prog.bind_ret, Prog.pure_eq_ret]
  iintro ⟨#He, Ho, Hs⟩ Hk
  iapply (swait4 qb kb vb K c 2 0 rfl rfl (sem_s9 rfl) _ _ _) $$ [Ho Hs]
  · isplitr; · iexact He
    isplitl [Ho]; · iexact Ho
    iexact Hs
  iintro ⟨Ho, Hs⟩
  iapply (swait3 qb kb vb K c 2 1 rfl rfl (sem_s13 rfl) _ _ _) $$ [Ho Hs]
  · isplitr; · iexact He
    isplitl [Ho]; · iexact Ho
    iexact Hs
  iintro ⟨Ho, Hs⟩
  iapply (swait4 qb kb vb K c 2 2 rfl rfl (sem_s11 rfl) _ _ _) $$ [Ho Hs]
  · isplitr; · iexact He
    isplitl [Ho]; · iexact Ho
    iexact Hs
  iintro ⟨Ho, Hs⟩
  iapply Hk
  isplitl [Ho]; · iexact Ho
  iexact Hs

theorem part12_run (k : PUnit → Prog (TpuEff nD τ sig (Elt F) Λ₀ .tc) PUnit) :
    iprop(env (om qb kb vb) (lm qb kb) K ∗ ow c (owedE c) ∗ sents qb kb vb c 11)
      ⊢ iprop((ow c (owedE c) ∗ sents qb kb vb c 15 -∗ wpc c (k ⟨⟩) Q)
          -∗ wpc c (k0_part12 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16 >>= k) Q) := by
  simp only [k0_part12_eq_skeleton]; unfold k0_part12_skel
  simp only [Prog.lift, Prog.bind_op, Prog.bind_ret, Prog.pure_eq_ret]
  iintro ⟨#He, Ho, Hs⟩ Hk
  iapply (swait3 qb kb vb K c 2 3 rfl rfl (sem_s15 rfl) _ _ _) $$ [Ho Hs]
  · isplitr; · iexact He
    isplitl [Ho]; · iexact Ho
    iexact Hs
  iintro ⟨Ho, Hs⟩
  iapply (swait4 qb kb vb K c 3 0 rfl rfl (sem_s9 rfl) _ _ _) $$ [Ho Hs]
  · isplitr; · iexact He
    isplitl [Ho]; · iexact Ho
    iexact Hs
  iintro ⟨Ho, Hs⟩
  iapply (swait3 qb kb vb K c 3 1 rfl rfl (sem_s13 rfl) _ _ _) $$ [Ho Hs]
  · isplitr; · iexact He
    isplitl [Ho]; · iexact Ho
    iexact Hs
  iintro ⟨Ho, Hs⟩
  iapply (swait4 qb kb vb K c 3 2 rfl rfl (sem_s11 rfl) _ _ _) $$ [Ho Hs]
  · isplitr; · iexact He
    isplitl [Ho]; · iexact Ho
    iexact Hs
  iintro ⟨Ho, Hs⟩
  iapply Hk
  isplitl [Ho]; · iexact Ho
  iexact Hs

theorem part13_run (k : PUnit → Prog (TpuEff nD τ sig (Elt F) Λ₀ .tc) PUnit) :
    iprop(env (om qb kb vb) (lm qb kb) K ∗ ow c (owedE c) ∗ sents qb kb vb c 15)
      ⊢ iprop((ow c (owedE c) ∗ sents qb kb vb c 18 -∗ wpc c (k ⟨⟩) Q)
          -∗ wpc c (k0_part13 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16 >>= k) Q) := by
  simp only [k0_part13_eq_skeleton]; unfold k0_part13_skel
  simp only [Prog.lift, Prog.bind_op, Prog.bind_ret, Prog.pure_eq_ret]
  iintro ⟨#He, Ho, Hs⟩ Hk
  iapply (swait3 qb kb vb K c 3 3 rfl rfl (sem_s15 rfl) _ _ _) $$ [Ho Hs]
  · isplitr; · iexact He
    isplitl [Ho]; · iexact Ho
    iexact Hs
  iintro ⟨Ho, Hs⟩
  iapply (swait4 qb kb vb K c 4 0 rfl rfl (sem_s9 rfl) _ _ _) $$ [Ho Hs]
  · isplitr; · iexact He
    isplitl [Ho]; · iexact Ho
    iexact Hs
  iintro ⟨Ho, Hs⟩
  iapply (swait3 qb kb vb K c 4 1 rfl rfl (sem_s13 rfl) _ _ _) $$ [Ho Hs]
  · isplitr; · iexact He
    isplitl [Ho]; · iexact Ho
    iexact Hs
  iintro ⟨Ho, Hs⟩
  iapply Hk
  isplitl [Ho]; · iexact Ho
  iexact Hs

theorem part14_run (k : PUnit → Prog (TpuEff nD τ sig (Elt F) Λ₀ .tc) PUnit) :
    iprop(env (om qb kb vb) (lm qb kb) K ∗ ow c (owedE c) ∗ sents qb kb vb c 18)
      ⊢ iprop((ow c (owedE c) ∗ sents qb kb vb c 22 -∗ wpc c (k ⟨⟩) Q)
          -∗ wpc c (k0_part14 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16 >>= k) Q) := by
  simp only [k0_part14_eq_skeleton]; unfold k0_part14_skel
  simp only [Prog.lift, Prog.bind_op, Prog.bind_ret, Prog.pure_eq_ret]
  iintro ⟨#He, Ho, Hs⟩ Hk
  iapply (swait4 qb kb vb K c 4 2 rfl rfl (sem_s11 rfl) _ _ _) $$ [Ho Hs]
  · isplitr; · iexact He
    isplitl [Ho]; · iexact Ho
    iexact Hs
  iintro ⟨Ho, Hs⟩
  iapply (swait3 qb kb vb K c 4 3 rfl rfl (sem_s15 rfl) _ _ _) $$ [Ho Hs]
  · isplitr; · iexact He
    isplitl [Ho]; · iexact Ho
    iexact Hs
  iintro ⟨Ho, Hs⟩
  iapply (swait4 qb kb vb K c 5 0 rfl rfl (sem_s9 rfl) _ _ _) $$ [Ho Hs]
  · isplitr; · iexact He
    isplitl [Ho]; · iexact Ho
    iexact Hs
  iintro ⟨Ho, Hs⟩
  iapply (swait3 qb kb vb K c 5 1 rfl rfl (sem_s13 rfl) _ _ _) $$ [Ho Hs]
  · isplitr; · iexact He
    isplitl [Ho]; · iexact Ho
    iexact Hs
  iintro ⟨Ho, Hs⟩
  iapply Hk
  isplitl [Ho]; · iexact Ho
  iexact Hs

theorem part15_run (k : PUnit → Prog (TpuEff nD τ sig (Elt F) Λ₀ .tc) PUnit) :
    iprop(env (om qb kb vb) (lm qb kb) K ∗ ow c (owedE c) ∗ sents qb kb vb c 22)
      ⊢ iprop((ow c (owedE c) ∗ sents qb kb vb c 25 -∗ wpc c (k ⟨⟩) Q)
          -∗ wpc c (k0_part15 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16 >>= k) Q) := by
  simp only [k0_part15_eq_skeleton]; unfold k0_part15_skel
  simp only [Prog.lift, Prog.bind_op, Prog.bind_ret, Prog.pure_eq_ret]
  iintro ⟨#He, Ho, Hs⟩ Hk
  iapply (swait4 qb kb vb K c 5 2 rfl rfl (sem_s11 rfl) _ _ _) $$ [Ho Hs]
  · isplitr; · iexact He
    isplitl [Ho]; · iexact Ho
    iexact Hs
  iintro ⟨Ho, Hs⟩
  iapply (swait3 qb kb vb K c 5 3 rfl rfl (sem_s15 rfl) _ _ _) $$ [Ho Hs]
  · isplitr; · iexact He
    isplitl [Ho]; · iexact Ho
    iexact Hs
  iintro ⟨Ho, Hs⟩
  iapply (swait4 qb kb vb K c 6 0 rfl rfl (sem_s9 rfl) _ _ _) $$ [Ho Hs]
  · isplitr; · iexact He
    isplitl [Ho]; · iexact Ho
    iexact Hs
  iintro ⟨Ho, Hs⟩
  iapply Hk
  isplitl [Ho]; · iexact Ho
  iexact Hs

theorem part16_run (k : PUnit → Prog (TpuEff nD τ sig (Elt F) Λ₀ .tc) PUnit) :
    iprop(env (om qb kb vb) (lm qb kb) K ∗ ow c (owedE c) ∗ sents qb kb vb c 25)
      ⊢ iprop((ow c (owedE c) ∗ sents qb kb vb c 29 -∗ wpc c (k ⟨⟩) Q)
          -∗ wpc c (k0_part16 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16 >>= k) Q) := by
  simp only [k0_part16_eq_skeleton]; unfold k0_part16_skel
  simp only [Prog.lift, Prog.bind_op, Prog.bind_ret, Prog.pure_eq_ret]
  iintro ⟨#He, Ho, Hs⟩ Hk
  iapply (swait3 qb kb vb K c 6 1 rfl rfl (sem_s13 rfl) _ _ _) $$ [Ho Hs]
  · isplitr; · iexact He
    isplitl [Ho]; · iexact Ho
    iexact Hs
  iintro ⟨Ho, Hs⟩
  iapply (swait4 qb kb vb K c 6 2 rfl rfl (sem_s11 rfl) _ _ _) $$ [Ho Hs]
  · isplitr; · iexact He
    isplitl [Ho]; · iexact Ho
    iexact Hs
  iintro ⟨Ho, Hs⟩
  iapply (swait3 qb kb vb K c 6 3 rfl rfl (sem_s15 rfl) _ _ _) $$ [Ho Hs]
  · isplitr; · iexact He
    isplitl [Ho]; · iexact Ho
    iexact Hs
  iintro ⟨Ho, Hs⟩
  iapply (swait4 qb kb vb K c 7 0 rfl rfl (sem_s9 rfl) _ _ _) $$ [Ho Hs]
  · isplitr; · iexact He
    isplitl [Ho]; · iexact Ho
    iexact Hs
  iintro ⟨Ho, Hs⟩
  iapply Hk
  isplitl [Ho]; · iexact Ho
  iexact Hs

/-- A pair sum landed at the peer is what the peer's receive cell hands over there. -/
theorem pay_sent3 (om : Dev nD → Fin 8 → S1x16x8x128.Idx → Elt F .bf16) (lm : Dev nD → Fin 8 → S1x16x8.Idx → Elt F .f32) (i : Fin 8) :
    (row4 bCo2 (p2 c) i fullShare (c1 om c i) : sProp 𝕄) ⊢ dPay om lm (p2 c) 3 i := by
  refine Entails.of_eq ?_
  show _ = row4 bCo2 (p2 c) i fullShare (c1 om (p2 (p2 c)) i)
  rw [show p2 (p2 c) = c from p2_p2 c]
theorem pay_sent7 (om : Dev nD → Fin 8 → S1x16x8x128.Idx → Elt F .bf16) (lm : Dev nD → Fin 8 → S1x16x8.Idx → Elt F .f32) (i : Fin 8) :
    (row3 bCl2 (p2 c) i fullShare (cl1 lm c i) : sProp 𝕄) ⊢ dPay om lm (p2 c) 7 i := by
  refine Entails.of_eq ?_
  show _ = row3 bCl2 (p2 c) i fullShare (cl1 lm (p2 (p2 c)) i)
  rw [show p2 (p2 c) = c from p2_p2 c]

/-! ## Parts 4 to 8: the last sums -/

theorem part4_run  (v3 : BitVec 32)
    (k : FVec F S16x8x128 .bf16 → Prog (TpuEff nD τ sig (Elt F) Λ₀ .tc) PUnit) :
    iprop(env (om qb kb vb) (lm qb kb) K ∗ ow c (owedB c) ∗ await c 7 1 5 ∗ row4 bO c 7 fullShare.right (om qb kb vb c 7))
      ⊢ iprop((ow c (owedB c) ∗ row4 bO c 7 fullShare.right (om qb kb vb c 7) ∗ row4 bCo0 c 7 fullShare (om qb kb vb (p1 c) 7) ∗ row3 bCl0 c 7 fullShare (lm qb kb (p1 c) 7) ∗ past c 7 1 5 -∗ wpc c (k (k0_pay12 (om qb kb vb c 7) (om qb kb vb (p1 c) 7))) Q)
          -∗ wpc c (k0_part4 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16 v3 >>= k) Q) := by
  simp only [k0_part4_eq_skeleton]; unfold k0_part4_skel
  simp only [Prog.lift, Prog.bind_op, Prog.bind_ret, Prog.pure_eq_ret]
  iintro ⟨#He, Ho, HA, HO⟩ Hk
  unfold await creds pos past
  icases HA with ⟨⟨C1, C5⟩, P1, P5⟩
  iapply (wait4 (om qb kb vb) (lm qb kb) K c (7) 1 rfl (sem_s10 rfl) (owedB c) (mayB c _ (Or.inl rfl))) $$ [C1 Ho P1]
  · isplitr; · iexact He
    isplitl [C1]; · iexact C1
    isplitl [Ho]; · iexact Ho
    iexact P1
  iintro ⟨Ho, P1, D1⟩
  ihave D1 := (pay_1 (om qb kb vb) (lm qb kb) c (7)) $$ D1
  iapply (wait3 (om qb kb vb) (lm qb kb) K c (7) 5 rfl (sem_s14 rfl) (owedB c) (mayB c _ (Or.inr rfl))) $$ [C5 Ho P5]
  · isplitr; · iexact He
    isplitl [C5]; · iexact C5
    isplitl [Ho]; · iexact Ho
    iexact P5
  iintro ⟨Ho, P5, D5⟩
  ihave D5 := (pay_5 (om qb kb vb) (lm qb kb) c (7)) $$ D5
  iapply (ld4 c _ _ rfl) $$ HO
  iintro HO
  iapply (ld4 c _ _ rfl) $$ D1
  iintro D1
  iapply Hk
  isplitl [Ho]; · iexact Ho
  isplitl [HO]; · iexact HO
  isplitl [D1]; · iexact D1
  isplitl [D5]; · iexact D5
  isplitl [P1]; · iexact P1
  iexact P5

theorem part5_run  (h5' : k0_cond5 (co t) = 1#1) (v4 : BitVec 32)
    (k : PUnit → Prog (TpuEff nD τ sig (Elt F) Λ₀ .tc) PUnit) :
    iprop(env (om qb kb vb) (lm qb kb) K ∗ ow c (owedB c) ∗ row3 bL c 7 fullShare.right (lm qb kb c 7) ∗ row3 bCl0 c 7 fullShare (lm qb kb (p1 c) 7) ∗ (∃ Y, row4 bC1 c 7 fullShare Y) ∗ (∃ Y, row3 bCl1 c 7 fullShare Y) ∗ (∃ Z, row4 bCo2 (p2 c) 7 fullShare Z) ∗ dutyTok ER (dcell c 2 7) 0 false ∗ dutyTok ER (dcell (p2 c) 3 7) 0 false)
      ⊢ iprop((ow c (owedE c + tallyAt (dcell (p2 c) 7 7) () NL) ∗ row3 bL c 7 fullShare.right (lm qb kb c 7) ∗ row3 bCl0 c 7 fullShare (lm qb kb (p1 c) 7) ∗ row4 bC1 c 7 fullShare.right (c1 (om qb kb vb) c 7) ∗ row3 bCl1 c 7 fullShare (cl1 (lm qb kb) c 7) ∗ cred (tallyAt (dcell c 2 7) () NB) -∗ wpc c (k ⟨⟩) Q)
          -∗ wpc c (k0_part5 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16 c v4 h5' (k0_pay12 (om qb kb vb c 7) (om qb kb vb (p1 c) 7)) >>= k) Q) := by
  simp only [k0_part5_eq_skeleton]; unfold k0_part5_skel
  simp only [Prog.lift, Prog.bind_op, Prog.bind_ret, Prog.pure_eq_ret]
  iintro ⟨#He, Ho, HL, D5, ⟨%Y, HC1⟩, ⟨%Y', HCl1⟩, Hd, T2, T3⟩ Hk
  iapply (ld4 c _ _ rfl) $$ HC1
  iintro HC1
  iapply (st4 c _ _ rfl) $$ HC1
  iintro HC1
  iapply (ld3 c _ _ rfl) $$ HL
  iintro HL
  iapply (ld3 c _ _ rfl) $$ D5
  iintro D5
  iapply (ld3 c _ _ rfl) $$ HCl1
  iintro HCl1
  iapply (st3 c _ _ rfl) $$ HCl1
  iintro HCl1
  rw [show k0_pay13 (k0_pay12 (om qb kb vb c 7) (om qb kb vb (p1 c) 7)) = c1 (om qb kb vb) c 7 from rfl]
  ihave HC1' := (own_halve _ _) $$ HC1
  icases HC1' with ⟨HCa, HCb⟩
  rw [owedB_eq]
  iapply (wp_send4 (om qb kb vb) (lm qb kb) K c (p2 c) _ (dev7_at c _) bC1 bCo2 2 3 7 _ rfl rfl rfl (pay_2' (om qb kb vb) (lm qb kb) c 7) (pay_sent3 c (om qb kb vb) (lm qb kb) 7) rfl (sS := dsem 2 7) (sR := dsem 3 7) (hsS := rfl) (hsR := rfl) (owedE c + tallyAt (dcell (p2 c) 7 7) () NL)) $$ [HCa Hd Ho T2 T3]
  · isplitr; · iexact He
    isplitl [HCa]; · iexact HCa
    isplitl [Hd]; · iexact Hd
    isplitl [Ho]; · iexact Ho
    isplitl [T2]; · iexact T2
    iexact T3
  iintro ⟨HR, Ho⟩
  iapply Hk
  isplitl [Ho]; · iexact Ho
  isplitl [HL]; · iexact HL
  isplitl [D5]; · iexact D5
  isplitl [HCb]; · iexact HCb
  isplitl [HCl1]; · iexact HCl1
  iexact HR

theorem part6_run  (h5' : k0_cond5 (co t) = 1#1) (v4 : BitVec 32)
    (k : (Σ' (v137 : FVec F S16x8x128 .f32), FVec F S16x8x128 .f32) → Prog (TpuEff nD τ sig (Elt F) Λ₀ .tc) PUnit) :
    iprop(env (om qb kb vb) (lm qb kb) K ∗ ow c (owedE c + tallyAt (dcell (p2 c) 7 7) () NL) ∗ row3 bCl1 c 7 fullShare (cl1 (lm qb kb) c 7) ∗ (∃ Z, row3 bCl2 (p2 c) 7 fullShare Z) ∗ dutyTok ER (dcell c 6 7) 0 false ∗ dutyTok ER (dcell (p2 c) 7 7) 0 false ∗ await c 6 3 7 ∗ row4 bC1 c 6 fullShare.right (c1 (om qb kb vb) c 6))
      ⊢ iprop((ow c (owedE c) ∗ row3 bCl1 c 7 fullShare.right (cl1 (lm qb kb) c 7) ∗ cred (tallyAt (dcell c 6 7) () NL) ∗ row4 bC1 c 6 fullShare.right (c1 (om qb kb vb) c 6) ∗ row4 bCo2 c 6 fullShare (c1 (om qb kb vb) (p2 c) 6) ∗ row3 bCl2 c 6 fullShare (cl1 (lm qb kb) (p2 c) 6) ∗ past c 6 3 7 -∗ wpc c (k ⟨k0_pay15 (c1 (om qb kb vb) c 6), k0_pay16 (c1 (om qb kb vb) (p2 c) 6)⟩) Q)
          -∗ wpc c (k0_part6 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16 c v4 h5' >>= k) Q) := by
  simp only [k0_part6_eq_skeleton]; unfold k0_part6_skel
  simp only [Prog.lift, Prog.bind_op, Prog.bind_ret, Prog.pure_eq_ret]
  iintro ⟨#He, Ho, HCl1, Hd, T6, T7, HA, HC⟩ Hk
  ihave HCl1' := (own_halve _ _) $$ HCl1
  icases HCl1' with ⟨HCa, HCb⟩
  iapply (wp_send3 (om qb kb vb) (lm qb kb) K c (p2 c) _ (dev8_at c _) bCl1 bCl2 6 7 7 _ rfl rfl rfl (pay_6' (om qb kb vb) (lm qb kb) c 7) (pay_sent7 c (om qb kb vb) (lm qb kb) 7) rfl (sS := dsem 6 7) (sR := dsem 7 7) (hsS := rfl) (hsR := rfl) (owedE c)) $$ [HCa Hd Ho T6 T7]
  · isplitr; · iexact He
    isplitl [HCa]; · iexact HCa
    isplitl [Hd]; · iexact Hd
    isplitl [Ho]; · iexact Ho
    isplitl [T6]; · iexact T6
    iexact T7
  iintro ⟨HR, Ho⟩
  unfold await creds pos past
  icases HA with ⟨⟨C3, C7⟩, P3, P7⟩
  iapply (wait4 (om qb kb vb) (lm qb kb) K c (6) 3 rfl (sem_s12 rfl) (owedE c) (mayE c _ _)) $$ [C3 Ho P3]
  · isplitr; · iexact He
    isplitl [C3]; · iexact C3
    isplitl [Ho]; · iexact Ho
    iexact P3
  iintro ⟨Ho, P3, D3⟩
  ihave D3 := (pay_3 (om qb kb vb) (lm qb kb) c (6)) $$ D3
  iapply (wait3 (om qb kb vb) (lm qb kb) K c (6) 7 rfl (sem_s16 rfl) (owedE c) (mayE c _ _)) $$ [C7 Ho P7]
  · isplitr; · iexact He
    isplitl [C7]; · iexact C7
    isplitl [Ho]; · iexact Ho
    iexact P7
  iintro ⟨Ho, P7, D7⟩
  ihave D7 := (pay_7 (om qb kb vb) (lm qb kb) c (6)) $$ D7
  iapply (ld4 c _ _ rfl) $$ HC
  iintro HC
  iapply (ld4 c _ _ rfl) $$ D3
  iintro D3
  iapply Hk
  isplitl [Ho]; · iexact Ho
  isplitl [HCb]; · iexact HCb
  isplitl [HR]; · iexact HR
  isplitl [HC]; · iexact HC
  isplitl [D3]; · iexact D3
  isplitl [D7]; · iexact D7
  isplitl [P3]; · iexact P3
  iexact P7

theorem part7_run  (v4 : BitVec 32) (P : Fin 8 → Prop)
    (k : PUnit → Prog (TpuEff nD τ sig (Elt F) Λ₀ .tc) PUnit) :
    iprop(env (om qb kb vb) (lm qb kb) K ∗ ow c (owedE c) ∗ row3 bCl1 c 6 fullShare.right (cl1 (lm qb kb) c 6) ∗ row3 bCl2 c 6 fullShare (cl1 (lm qb kb) (p2 c) 6) ∗ outs qb kb vb c m5 P ∗ (cred (tallyAt (dcell c 3 7) () NB) ∗ atPos ER (dcell c 3 7) 0 ∅ 0))
      ⊢ iprop((ow c (owedE c) ∗ row3 bCl1 c 6 fullShare.right (cl1 (lm qb kb) c 6) ∗ row3 bCl2 c 6 fullShare (cl1 (lm qb kb) (p2 c) 6) ∗ outs qb kb vb c m5 (fun i' => P i' ∨ i' = 6) ∗ row4 bCo2 c 7 fullShare (c1 (om qb kb vb) (p2 c) 7) ∗ atPos ER (dcell c 3 7) 1 ∅ 0 -∗ wpc c (k ⟨⟩) Q)
          -∗ wpc c (k0_part7 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16 v4 (k0_pay15 (c1 (om qb kb vb) c 6)) (k0_pay16 (c1 (om qb kb vb) (p2 c) 6)) >>= k) Q) := by
  simp only [k0_part7_eq_skeleton]; unfold k0_part7_skel
  simp only [Prog.lift, Prog.bind_op, Prog.bind_ret, Prog.pure_eq_ret]
  iintro ⟨#He, Ho, HCl, D7, Hu, C3, P3⟩ Hk
  iapply (ld3 c _ _ rfl) $$ HCl
  iintro HCl
  iapply (ld3 c _ _ rfl) $$ D7
  iintro D7
  iapply (ld_out qb kb vb c m5) $$ Hu
  iintro %_ Hu
  iapply (st_out qb kb vb c m5 6 rfl rfl) $$ Hu
  iintro Hu
  iapply (wait4 (om qb kb vb) (lm qb kb) K c (7) 3 rfl (sem_s12 rfl) (owedE c) (mayE c _ _)) $$ [C3 Ho P3]
  · isplitr; · iexact He
    isplitl [C3]; · iexact C3
    isplitl [Ho]; · iexact Ho
    iexact P3
  iintro ⟨Ho, P3, D3⟩
  ihave D3 := (pay_3 (om qb kb vb) (lm qb kb) c (7)) $$ D3
  iapply Hk
  isplitl [Ho]; · iexact Ho
  isplitl [HCl]; · iexact HCl
  isplitl [D7]; · iexact D7
  isplitl [Hu]; · iexact Hu
  isplitl [D3]; · iexact D3
  iexact P3

theorem part8_run  (P : Fin 8 → Prop)
    (k : PUnit → Prog (TpuEff nD τ sig (Elt F) Λ₀ .tc) PUnit) :
    iprop(env (om qb kb vb) (lm qb kb) K ∗ ow c (owedE c) ∗ row4 bC1 c 7 fullShare.right (c1 (om qb kb vb) c 7) ∗ row3 bCl1 c 7 fullShare.right (cl1 (lm qb kb) c 7) ∗ row4 bCo2 c 7 fullShare (c1 (om qb kb vb) (p2 c) 7) ∗ (cred (tallyAt (dcell c 7 7) () NL) ∗ atPos ER (dcell c 7 7) 0 ∅ 0) ∗ outs qb kb vb c m5 P)
      ⊢ iprop((ow c (owedE c) ∗ row4 bC1 c 7 fullShare.right (c1 (om qb kb vb) c 7) ∗ row3 bCl1 c 7 fullShare.right (cl1 (lm qb kb) c 7) ∗ row4 bCo2 c 7 fullShare (c1 (om qb kb vb) (p2 c) 7) ∗ row3 bCl2 c 7 fullShare (cl1 (lm qb kb) (p2 c) 7) ∗ atPos ER (dcell c 7 7) 1 ∅ 0 ∗ outs qb kb vb c m5 (fun i' => P i' ∨ i' = 7) -∗ wpc c (k ⟨⟩) Q)
          -∗ wpc c (k0_part8 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16  >>= k) Q) := by
  simp only [k0_part8_eq_skeleton]; unfold k0_part8_skel
  simp only [Prog.lift, Prog.bind_op, Prog.bind_ret, Prog.pure_eq_ret]
  iintro ⟨#He, Ho, HC, HCl, D3, ⟨C7, P7⟩, Hu⟩ Hk
  iapply (wait3 (om qb kb vb) (lm qb kb) K c (7) 7 rfl (sem_s16 rfl) (owedE c) (mayE c _ _)) $$ [C7 Ho P7]
  · isplitr; · iexact He
    isplitl [C7]; · iexact C7
    isplitl [Ho]; · iexact Ho
    iexact P7
  iintro ⟨Ho, P7, D7⟩
  ihave D7 := (pay_7 (om qb kb vb) (lm qb kb) c (7)) $$ D7
  iapply (ld4 c _ _ rfl) $$ HC
  iintro HC
  iapply (ld4 c _ _ rfl) $$ D3
  iintro D3
  iapply (ld3 c _ _ rfl) $$ HCl
  iintro HCl
  iapply (ld3 c _ _ rfl) $$ D7
  iintro D7
  iapply (ld_out qb kb vb c m5) $$ Hu
  iintro %_ Hu
  iapply (st_out qb kb vb c m5 7 rfl rfl) $$ Hu
  iintro Hu
  iapply Hk
  isplitl [Ho]; · iexact Ho
  isplitl [HC]; · iexact HC
  isplitl [HCl]; · iexact HCl
  isplitl [D3]; · iexact D3
  isplitl [D7]; · iexact D7
  isplitl [P7]; · iexact P7
  iexact Hu

end Tail

end Cert.KernelIdeal.Proof
-- ==== Proof.KI.Step.lean ====
/-
  One grid point of the kernel's body: from the state before it to the state after it.
-/
module

public import proofs.«01_k».proof.Proof.KI.Tail

@[expose] public section

noncomputable section

namespace Cert.KernelIdeal.Proof

open Cert.KernelIdeal Cert.KernelIdeal.Gen Idealize.ShloMosaic.ValueIdx
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem pure_pre {φ : Prop} {P R : sProp 𝕄} (h : φ → P ⊢ R) : iprop(⌜φ⌝ ∗ P) ⊢ R := by
  iintro ⟨%hφ, H⟩
  iapply (h hφ) $$ H

/-- A partial sum landed at the peer is what the peer's receive cell hands over there. -/
theorem pay_sent1 (c : Dev nD) (om : Dev nD → Fin 8 → S1x16x8x128.Idx → Elt F .bf16) (lm : Dev nD → Fin 8 → S1x16x8.Idx → Elt F .f32) (i : Fin 8) :
    (row4 bCo0 (p1 c) i fullShare (om c i) : sProp 𝕄) ⊢ dPay om lm (p1 c) 1 i := by
  refine Entails.of_eq ?_
  show _ = row4 bCo0 (p1 c) i fullShare (om (p1 (p1 c)) i)
  rw [show p1 (p1 c) = c from p1_p1 c]
theorem pay_sent5 (c : Dev nD) (om : Dev nD → Fin 8 → S1x16x8x128.Idx → Elt F .bf16) (lm : Dev nD → Fin 8 → S1x16x8.Idx → Elt F .f32) (i : Fin 8) :
    (row3 bCl0 (p1 c) i fullShare (lm c i) : sProp 𝕄) ⊢ dPay om lm (p1 c) 5 i := by
  refine Entails.of_eq ?_
  show _ = row3 bCl0 (p1 c) i fullShare (lm (p1 (p1 c)) i)
  rw [show p1 (p1 c) = c from p1_p1 c]

section Last
variable (qb : Dev nD → Pt → S1x8x8x128.Idx → Elt F .bf16) (kb vb : Dev nD → Pt → S1x1024x8x128.Idx → Elt F .bf16)
variable (K : Dev nD × CK → ℕ) (c : Dev nD) (t : Pt)
  (m2 : Memref sig .tc .vmem S1x8x8x128 .bf16) (h2 : m2.IsWhole) (m3 m4 : Memref sig .tc .vmem S1x1024x8x128 .bf16) (h3 : m3.IsWhole) (h4 : m4.IsWhole)
  (m5 : Memref sig .tc .vmem S8x8x16x128 .f32) (h5 : m5.IsWhole)

variable {Q : PUnit → sProp (MT nD τ sig Unit (Elt F) ℕ UU ℕ)}

/-- The last two slots out of the state, the others being done. -/
theorem slots_two {f : Fin 8 → ℕ} (hf : ∀ i : Fin 8, f i = if i.val < 6 then 5 else if i.val = 6 then 4 else 3) (A B) :
    slots A B c f ⊢ (iprop(slot A B c 7 3 ∗ slot A B c 6 4 ∗ (slot A B c 7 5 ∗ slot A B c 6 5 -∗ slots A B c fun _ => 5)) : sProp 𝕄) := by
  have hs : ∀ g : Fin 8 → ℕ, slots A B c g = (iprop(slot A B c 7 (g 7) ∗ slot A B c 6 (g 6) ∗ bigSep ((Finset.univ.erase 7).erase 6) fun i => slot A B c i (g i)) : sProp 𝕄) := fun g => by
    unfold slots
    rw [bigSep_univ_split (7 : Fin 8), BI.bigSep_erase (show (6 : Fin 8) ∈ Finset.univ.erase 7 by decide)]
    rfl
  have hc : (bigSep ((Finset.univ.erase 7).erase 6) fun i => slot A B c i (f i)) = (bigSep ((Finset.univ.erase 7).erase 6) fun i => slot A B c i 5 : sProp 𝕄) :=
    bigSep_congr fun i hi => by
      have h6 : i ≠ 6 := Finset.ne_of_mem_erase hi
      have h7 : i ≠ 7 := Finset.ne_of_mem_erase (Finset.mem_of_mem_erase hi)
      have h7' : i.val ≠ 7 := fun e => h7 (Fin.ext e)
      have h6' : i.val ≠ 6 := fun e => h6 (Fin.ext e)
      have := i.isLt
      rw [hf i, if_pos (by omega)]
  rw [hs, hs, hc, hf 7, hf 6]
  iintro ⟨H7, H6, H⟩
  isplitl [H7]; · iexact H7
  isplitl [H6]; · iexact H6
  iintro ⟨H7, H6⟩
  isplitl [H7]; · iexact H7
  isplitl [H6]; · iexact H6
  iexact H

/-- The last point's tail up to its last wait. -/
theorem part17_run (h5' : k0_cond5 (co t) = 1#1) (v3 v4 : BitVec 32) {f : Fin 8 → ℕ} (hf : ∀ i : Fin 8, f i = if i.val < 6 then 5 else if i.val = 6 then 4 else 3)
    (P : Fin 8 → Prop) (k : PUnit → Prog (TpuEff nD τ sig (Elt F) Λ₀ .tc) PUnit) :
    iprop(env (om qb kb vb) (lm qb kb) K ∗ ow c (owedB c) ∗ slots (oA qb kb vb) (lB qb kb) c f ∗ outs qb kb vb c m5 P)
      ⊢ iprop((ow c (owedE c) ∗ sents qb kb vb c 31 ∗ (bigSep Finset.univ fun i => rest5 (oA qb kb vb) (lB qb kb) c i) ∗ outs qb kb vb c m5 (fun i' => (P i' ∨ i' = 6) ∨ i' = 7) -∗ wpc c (k ⟨⟩) Q)
          -∗ wpc c (k0_part17 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16 c v3 v4 h5' >>= k) Q) := by
  simp only [k0_part17_eq_skeleton]; unfold k0_part17_skel
  simp only [bind_assoc, Prog.lift, Prog.bind_op, Prog.bind_ret, Prog.pure_eq_ret]
  iintro ⟨#He, Ho, HS, Hu⟩ Hk
  ihave HS' := (slots_two c hf (oA qb kb vb) (lB qb kb)) $$ HS
  icases HS' with ⟨Hs7, Hs6, Hput⟩
  ihave Hs7' := (tr3 _ _ c 7) $$ Hs7
  unfold lend3 lend3' back3 got1 creds
  icases Hs7' with ⟨HA, ⟨HO, HL, HC, HCl⟩, ⟨⟨Hd3, T2, T3⟩, ⟨Hd7, T6, T7⟩⟩, Hb3⟩
  iapply (part4_run qb kb vb K c t m2 h2 m3 m4 h3 h4 m5 h5 v3) $$ [Ho HA HO]
  · isplitr; · iexact He
    isplitl [Ho]; · iexact Ho
    isplitl [HA]; · iexact HA
    iexact HO
  iintro ⟨Ho, HO, D1, D5, HP⟩
  iapply (part5_run qb kb vb K c t m2 h2 m3 m4 h3 h4 m5 h5 h5' v4) $$ [Ho HL D5 HC HCl Hd3 T2 T3]
  · isplitr; · iexact He
    isplitl [Ho]; · iexact Ho
    isplitl [HL]; · iexact HL
    isplitl [D5]; · iexact D5
    isplitl [HC]; · iexact HC
    isplitl [HCl]; · iexact HCl
    isplitl [Hd3]; · iexact Hd3
    isplitl [T2]; · iexact T2
    iexact T3
  iintro ⟨Ho, HL, D5, HC, HCl, R2⟩
  ihave Hs6' := (tr4 _ _ c 6) $$ Hs6
  icases Hs6' with ⟨HA6, ⟨HC6, HCl6⟩, Hb6⟩
  iapply (part6_run qb kb vb K c t m2 h2 m3 m4 h3 h4 m5 h5 h5' v4) $$ [Ho HCl Hd7 T6 T7 HA6 HC6]
  · isplitr; · iexact He
    isplitl [Ho]; · iexact Ho
    isplitl [HCl]; · iexact HCl
    isplitl [Hd7]; · iexact Hd7
    isplitl [T6]; · iexact T6
    isplitl [T7]; · iexact T7
    isplitl [HA6]; · iexact HA6
    iexact HC6
  iintro ⟨Ho, HCl, R6, HC6, D3, D7, HP6⟩
  ihave Hs7 := Hb3 $$ [HO HL D1 D5 HP HC HCl R2 R6]
  · isplitl [HO]; · iexact HO
    isplitl [HL]; · iexact HL
    isplitl [D1 D5 HP]
    · isplitl [D1]
      · iexists _; iexact D1
      isplitl [D5]
      · iexists _; iexact D5
      iexact HP
    isplitl [HC]; · iexact HC
    isplitl [HCl]; · iexact HCl
    isplitl [R2]; · iexact R2
    iexact R6
  ihave Hs7' := (tr4 _ _ c 7) $$ Hs7
  unfold await creds pos got2 past
  icases Hs7' with ⟨⟨⟨C3, C7⟩, P3, P7⟩, ⟨HC, HCl⟩, Hb7⟩
  icases HP6 with ⟨Pa, Pb⟩
  iapply (part7_run qb kb vb K c t m2 h2 m3 m4 h3 h4 m5 h5 v4 P) $$ [Ho HCl6 D7 Hu C3 P3]
  · isplitr; · iexact He
    isplitl [Ho]; · iexact Ho
    isplitl [HCl6]; · iexact HCl6
    isplitl [D7]; · iexact D7
    isplitl [Hu]; · iexact Hu
    isplitl [C3]; · iexact C3
    iexact P3
  iintro ⟨Ho, HCl6, D7, Hu, E3, P3⟩
  iapply (part8_run qb kb vb K c t m2 h2 m3 m4 h3 h4 m5 h5 _) $$ [Ho HC HCl E3 C7 P7 Hu]
  · isplitr; · iexact He
    isplitl [Ho]; · iexact Ho
    isplitl [HC]; · iexact HC
    isplitl [HCl]; · iexact HCl
    isplitl [E3]; · iexact E3
    isplitl [C7 P7]
    · isplitl [C7]; · iexact C7
      iexact P7
    iexact Hu
  iintro ⟨Ho, HC, HCl, E3, E7, P7, Hu⟩
  ihave Hs6 := Hb6 $$ [HC6 HCl6 D3 D7 Pa Pb]
  · isplitl [HC6 HCl6]
    · isplitl [HC6]; · iexact HC6
      iexact HCl6
    isplitl [D3]
    · iexists _; iexact D3
    isplitl [D7]
    · iexists _; iexact D7
    isplitl [Pa]; · iexact Pa
    iexact Pb
  ihave Hs7 := Hb7 $$ [HC HCl E3 E7 P3 P7]
  · isplitl [HC HCl]
    · isplitl [HC]; · iexact HC
      iexact HCl
    isplitl [E3]
    · iexists _; iexact E3
    isplitl [E7]
    · iexists _; iexact E7
    isplitl [P3]; · iexact P3
    iexact P7
  ihave HS := Hput $$ [Hs7 Hs6]
  · isplitl [Hs7]; · iexact Hs7
    iexact Hs6
  ihave HS' := (sents_open qb kb vb c) $$ HS
  icases HS' with ⟨Hs, Hr⟩
  iapply (part9_run qb kb vb K c t m2 h2 m3 m4 h3 h4 m5 h5) $$ [Ho Hs]
  · isplitr; · iexact He
    isplitl [Ho]; · iexact Ho
    iexact Hs
  iintro ⟨Ho, Hs⟩
  iapply (part10_run qb kb vb K c t m2 h2 m3 m4 h3 h4 m5 h5) $$ [Ho Hs]
  · isplitr; · iexact He
    isplitl [Ho]; · iexact Ho
    iexact Hs
  iintro ⟨Ho, Hs⟩
  iapply (part11_run qb kb vb K c t m2 h2 m3 m4 h3 h4 m5 h5) $$ [Ho Hs]
  · isplitr; · iexact He
    isplitl [Ho]; · iexact Ho
    iexact Hs
  iintro ⟨Ho, Hs⟩
  iapply (part12_run qb kb vb K c t m2 h2 m3 m4 h3 h4 m5 h5) $$ [Ho Hs]
  · isplitr; · iexact He
    isplitl [Ho]; · iexact Ho
    iexact Hs
  iintro ⟨Ho, Hs⟩
  iapply (part13_run qb kb vb K c t m2 h2 m3 m4 h3 h4 m5 h5) $$ [Ho Hs]
  · isplitr; · iexact He
    isplitl [Ho]; · iexact Ho
    iexact Hs
  iintro ⟨Ho, Hs⟩
  iapply (part14_run qb kb vb K c t m2 h2 m3 m4 h3 h4 m5 h5) $$ [Ho Hs]
  · isplitr; · iexact He
    isplitl [Ho]; · iexact Ho
    iexact Hs
  iintro ⟨Ho, Hs⟩
  iapply (part15_run qb kb vb K c t m2 h2 m3 m4 h3 h4 m5 h5) $$ [Ho Hs]
  · isplitr; · iexact He
    isplitl [Ho]; · iexact Ho
    iexact Hs
  iintro ⟨Ho, Hs⟩
  iapply (part16_run qb kb vb K c t m2 h2 m3 m4 h3 h4 m5 h5) $$ [Ho Hs]
  · isplitr; · iexact He
    isplitl [Ho]; · iexact Ho
    iexact Hs
  iintro ⟨Ho, Hs⟩
  iapply (swait3 qb kb vb K c 7 1 rfl rfl (sem_s13 rfl) _ _ _) $$ [Ho Hs]
  · isplitr; · iexact He
    isplitl [Ho]; · iexact Ho
    iexact Hs
  iintro ⟨Ho, Hs⟩
  iapply (swait4 qb kb vb K c 7 2 rfl rfl (sem_s11 rfl) _ _ _) $$ [Ho Hs]
  · isplitr; · iexact He
    isplitl [Ho]; · iexact Ho
    iexact Hs
  iintro ⟨Ho, Hs⟩
  iapply Hk
  isplitl [Ho]; · iexact Ho
  isplitl [Hs]; · iexact Hs
  isplitl [Hr]; · iexact Hr
  iexact Hu

end Last

section Step
variable (qb : Dev nD → Pt → S1x8x8x128.Idx → Elt F .bf16) (kb vb : Dev nD → Pt → S1x1024x8x128.Idx → Elt F .bf16)
variable (K : Dev nD × CK → ℕ) (c : Dev nD) (t : Pt)
  (m2 : Memref sig .tc .vmem S1x8x8x128 .bf16) (h2 : m2.IsWhole) (m3 m4 : Memref sig .tc .vmem S1x1024x8x128 .bf16) (h3 : m3.IsWhole) (h4 : m4.IsWhole)
  (m5 : Memref sig .tc .vmem S8x8x16x128 .f32) (h5 : m5.IsWhole)

/-- What is owed after `n` points. -/
def owed (n : ℕ) : CellTallies nD τ sig Unit := if n = 16 then 0 else dueS c (As n) (Bs n)

theorem fin_stay (h : k0_cond4 (co t) ≠ 1#1) (i : Fin 8) : 2 * i.val + 6 ≤ t.val + 1 → fin t.val i := by
  rw [Ne, cond4_iff] at h
  unfold fin
  have := i.isLt
  omega
theorem fin_step (h : k0_cond4 (co t) = 1#1) (i : Fin 8) : 2 * i.val + 6 ≤ t.val + 1 → fin t.val i ∨ i = sl2 t := by
  rw [cond4_iff] at h
  intro hi
  by_cases e : 2 * i.val + 6 ≤ t.val
  · exact Or.inl (Or.inl e)
  · exact Or.inr (Fin.ext (by show i.val = t.val / 2 - 2; omega))
theorem fin_done (h : k0_cond5 (co t) ≠ 1#1) (i : Fin 8) : fin (t.val + 1) i → 2 * i.val + 6 ≤ t.val + 1 := by
  rw [Ne, cond5_iff] at h
  unfold fin
  have : t.val < 16 := t.isLt
  omega
theorem fin_last (h : k0_cond5 (co t) = 1#1) (i : Fin 8) : fin (t.val + 1) i → (2 * i.val + 6 ≤ t.val + 1 ∨ i = 6) ∨ i = 7 := by
  rw [cond5_iff] at h
  intro _
  have := i.isLt
  by_cases h7 : i.val = 7
  · exact Or.inr (Fin.ext h7)
  by_cases h6 : i.val = 6
  · exact Or.inl (Or.inr (Fin.ext h6))
  · exact Or.inl (Or.inl (by omega))

theorem lv_first (a : Fin 8) (ha : a = 1 ∨ a = 5) (i : Fin 8) : lv ((c : Thread nD τ), .dma (dsem a i)) () ≤ 2 * i.val + 2 := by
  have h := lv_d c a i
  unfold dcell at h
  rw [h]; rcases ha with rfl | rfl <;> exact le_refl _
theorem lv_second (a : Fin 8) (ha : a = 3 ∨ a = 7) (i : Fin 8) : lv ((c : Thread nD τ), .dma (dsem a i)) () ≤ 2 * i.val + 3 := by
  have h := lv_d c a i
  unfold dcell at h
  rw [h]; rcases ha with rfl | rfl <;> exact le_refl _
theorem may_first (h : k0_cond3 (co t) = 1#1) (a : Fin 8) (ha : a = 1 ∨ a = 5) :
    (levAts L lv : sProp 𝕄) ⊢ MayWait (c : Thread nD τ) (.dma (dsem a (sl1 t))) () (dueS c (As (t.val + 1)) (Bs t.val)) := by
  rw [cond3_iff] at h
  refine mayWait_dueS c _ _ _ (2 * (sl1 t).val + 2) (lv_first c a ha _) (fun i hi => ?_) (fun i hi => ?_)
  · have := (Finset.mem_filter.mp hi).2; show 2 * (t.val / 2 - 1) + 2 < _; omega
  · have := (Finset.mem_filter.mp hi).2; show 2 * (t.val / 2 - 1) + 2 < _; omega
theorem may_second (h : k0_cond4 (co t) = 1#1) (a : Fin 8) (ha : a = 3 ∨ a = 7) :
    (levAts L lv : sProp 𝕄) ⊢ MayWait (c : Thread nD τ) (.dma (dsem a (sl2 t))) () (dueS c (As (t.val + 1)) (Bs (t.val + 1))) := by
  rw [cond4_iff] at h
  refine mayWait_dueS c _ _ _ (2 * (sl2 t).val + 3) (lv_second c a ha _) (fun i hi => ?_) (fun i hi => ?_)
  · have := (Finset.mem_filter.mp hi).2; show 2 * (t.val / 2 - 2) + 3 < _; omega
  · have := (Finset.mem_filter.mp hi).2; show 2 * (t.val / 2 - 2) + 3 < _; omega

theorem g4_last (h : k0_cond5 (co t) = 1#1) : ∀ i : Fin 8, g4 t i = if i.val < 6 then 5 else if i.val = 6 then 4 else 3 := by
  have ht : t = ⟨15, by decide⟩ := Fin.ext ((cond5_iff t).mp h)
  subst ht
  decide +kernel

/-- The half computed at a point, in the slot's phase 0 or 1. -/
theorem tr01 (A B) (i : Fin 8) (h : Fin 2) : slot A B c i h.val ⊢ (iprop((∃ Z, half4 bO c i h Z) ∗ (∃ Z, half3 bL c i h Z)
    ∗ (half4 bO c i h (A c i h) ∗ half3 bL c i h (B c i h) -∗ slot A B c i (h.val + 1))) : sProp 𝕄) := by
  revert h
  rw [Fin.forall_fin_two]
  exact ⟨tr0 A B c i, tr1 A B c i⟩
theorem oA_at : oA qb kb vb c (sl0 t) (hf t) = k0_pay1 (k0_pay22 (kb c t) (vb c t) (qb c t) MASK) := by unfold oA; rw [ptOf_at]; rfl
theorem lB_at : lB qb kb c (sl0 t) (hf t) = k0_pay2 (k0_pay21 (kb c t) (qb c t) MASK) := by unfold lB; rw [ptOf_at]; rfl

/-- One grid point, from the state the reads leave. -/
theorem step {R : sProp (MT nD τ sig Unit (Elt F) ℕ UU ℕ)}
    (h : R ⊢ wpc c (k0_part18 (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16) fun r => iprop(⌜gave qb kb vb c t r⌝ ∗ core qb kb vb K c (ph t.val) (dueS c (As t.val) (Bs t.val)) ∗ (ins qb kb vb c t m2 m3 m4 ∗ ready c) ∗ outs qb kb vb c m5 (fin t.val))) :
    R ⊢ wpc c (cc0__body (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16) (fun _ => iprop(core qb kb vb K c (ph (t.val + 1)) (owed c (t.val + 1)) ∗ (ins qb kb vb c t m2 m3 m4 ∗ ready c) ∗ outs qb kb vb c m5 (fin (t.val + 1)))) := by
  simp only [cc0__body_eq_skeleton]; unfold cc0__body_skel
  refine seq_to _ h ?_
  rintro ⟨arg0, arg1, d0, v3, v4, v28, v29⟩
  refine pure_pre fun hg => ?_
  obtain ⟨e1, e2, e3⟩ := hg
  dsimp only at e1 e2 e3
  have e1' := e1.symm
  subst e1' e2 e3
  simp only [Prog.lift, Prog.bind_op, Prog.bind_ret, Prog.pure_eq_ret]
  apply cut (α := PUnit) (β := PUnit) (R' := iprop(core qb kb vb K c (g1 t) (dueS c (As t.val) (Bs t.val)) ∗ (ins qb kb vb c t m2 m3 m4 ∗ ready c) ∗ outs qb kb vb c m5 (fin t.val))) (Q' := (fun _ => iprop(core qb kb vb K c (ph (t.val + 1)) (owed c (t.val + 1)) ∗ (ins qb kb vb c t m2 m3 m4 ∗ ready c) ∗ outs qb kb vb c m5 (fin (t.val + 1)))))
  · intro hJ
    unfold core
    iintro ⟨⟨#He, Ho, HS⟩, HR, Hu⟩
    ihave HS' := (slots_at (oA qb kb vb) (lB qb kb) c (sl0 t) (f := ph t.val) (p := (hf t).val) (ph_at t) ((hf t).val + 1)) $$ HS
    icases HS' with ⟨Hs, Hput⟩
    ihave Hs' := (tr01 c (oA qb kb vb) (lB qb kb) (sl0 t) (hf t)) $$ Hs
    icases Hs' with ⟨⟨%Y, HO⟩, ⟨%Y', HL⟩, Hb⟩
    iapply (ldH4 c _ (hf t) bO (off1_at t)) $$ HO
    iintro HO
    iapply (stH4 c _ (hf t) bO (off1_at t)) $$ HO
    iintro HO
    iapply (ldH3 c _ (hf t) bL (off2_at t)) $$ HL
    iintro HL
    iapply (stH3 c _ (hf t) bL (off2_at t)) $$ HL
    iintro HL
    iapply hJ
    isplitl [Ho Hput Hb HO HL]
    · unfold core
      isplitr; · iexact He
      isplitl [Ho]; · iexact Ho
      iapply Hput
      iapply Hb
      rw [oA_at qb kb vb c t, lB_at qb kb c t]
      isplitl [HO]; · iexact HO
      iexact HL
    isplitl [HR]; · iexact HR
    iexact Hu
  apply cut (α := PUnit) (β := PUnit) (R' := iprop(core qb kb vb K c (g2 t) (dueS c (As (t.val + 1)) (Bs t.val)) ∗ (ins qb kb vb c t m2 m3 m4 ∗ ready c) ∗ outs qb kb vb c m5 (fin t.val))) (Q' := (fun _ => iprop(core qb kb vb K c (ph (t.val + 1)) (owed c (t.val + 1)) ∗ (ins qb kb vb c t m2 m3 m4 ∗ ready c) ∗ outs qb kb vb c m5 (fin (t.val + 1)))))
  · intro hJ
    by_cases h2' : k0_cond2 (co t) = 1#1
    swap
    · rw [g2, if_neg h2', ← As_stay t h2'] at hJ
      simp only [↓dif_neg h2']
      exact hJ
    · rw [g2, if_pos h2', ← As_step t h2'] at hJ
      simp only [↓dif_pos h2']
      unfold core
      iintro ⟨⟨#He, Ho, HS⟩, HR, Hu⟩
      ihave HS' := (slots_at (oA qb kb vb) (lB qb kb) c (sl0 t) (f := g1 t) (p := 2) (g1_at t h2') 3) $$ HS
      icases HS' with ⟨Hs, Hput⟩
      ihave Hs' := (tr2 (oA qb kb vb) (lB qb kb) c (sl0 t)) $$ Hs
      icases Hs' with ⟨⟨HO, Hd, T0, T1⟩, ⟨HL, Hd', T4, T5⟩, Hb⟩
      rw [dueS_peel1 c (As_mem t h2')]
      iapply (wp_send4 (om qb kb vb) (lm qb kb) K c (p1 c) _ (dev3_at c _) bO bCo0 0 1 (sl0 t) _ rfl rfl rfl (pay_0' (om qb kb vb) (lm qb kb) c _) (pay_sent1 c (om qb kb vb) (lm qb kb) _) (off4_at t) (sem_s9 (off3_at t)) (sem_s10 (off3_at t)) (dueS c ((As t.val).erase (sl0 t)) (Bs t.val) + tallyAt (dcell (p1 c) 5 (sl0 t)) () NL)) $$ [HO Hd Ho T0 T1]
      · isplitr; · iexact He
        isplitl [HO]; · iexact HO
        isplitl [Hd]; · iexact Hd
        isplitl [Ho]; · iexact Ho
        isplitl [T0]; · iexact T0
        iexact T1
      iintro ⟨R0, Ho⟩
      iapply (wp_send3 (om qb kb vb) (lm qb kb) K c (p1 c) _ (dev4_at c _) bL bCl0 4 5 (sl0 t) _ rfl rfl rfl (pay_4' (om qb kb vb) (lm qb kb) c _) (pay_sent5 c (om qb kb vb) (lm qb kb) _) (off5_at t) (sem_s13 (off3_at t)) (sem_s14 (off3_at t)) (dueS c ((As t.val).erase (sl0 t)) (Bs t.val))) $$ [HL Hd' Ho T4 T5]
      · isplitr; · iexact He
        isplitl [HL]; · iexact HL
        isplitl [Hd']; · iexact Hd'
        isplitl [Ho]; · iexact Ho
        isplitl [T4]; · iexact T4
        iexact T5
      iintro ⟨R4, Ho⟩
      iapply hJ
      isplitl [Ho Hput Hb R0 R4]
      · unfold core
        isplitr; · iexact He
        isplitl [Ho]; · iexact Ho
        iapply Hput
        iapply Hb
        isplitl [R0]; · iexact R0
        iexact R4
      isplitl [HR]; · iexact HR
      iexact Hu
  apply cut (α := PUnit) (β := PUnit) (R' := iprop(core qb kb vb K c (g3 t) (dueS c (As (t.val + 1)) (Bs (t.val + 1))) ∗ (ins qb kb vb c t m2 m3 m4 ∗ ready c) ∗ outs qb kb vb c m5 (fin t.val))) (Q' := (fun _ => iprop(core qb kb vb K c (ph (t.val + 1)) (owed c (t.val + 1)) ∗ (ins qb kb vb c t m2 m3 m4 ∗ ready c) ∗ outs qb kb vb c m5 (fin (t.val + 1)))))
  · intro hJ
    by_cases h3' : k0_cond3 (co t) = 1#1
    swap
    · rw [g3, if_neg h3', ← Bs_stay t h3'] at hJ
      simp only [↓dif_neg h3']
      exact hJ
    · rw [g3, if_pos h3', ← Bs_step t h3'] at hJ
      simp only [↓dif_pos h3']
      have ht := ((cond3_iff t).mp h3').2
      unfold core
      iintro ⟨⟨#He, Ho, HS⟩, HR, Hu⟩
      ihave HS' := (slots_at (oA qb kb vb) (lB qb kb) c (sl1 t) (f := g2 t) (p := 3) (g2_at t h3') 4) $$ HS
      icases HS' with ⟨Hs, Hput⟩
      ihave Hs' := (tr3 (oA qb kb vb) (lB qb kb) c (sl1 t)) $$ Hs
      icases Hs' with ⟨HA, HE, HE', Hb⟩
      iapply (part2_run qb kb vb K c t m2 h2 m3 m4 h3 h4 m5 h5 (dueS c (As (t.val + 1)) (Bs t.val)) h3' ht _ _ _ (may_first c t h3' 1 (Or.inl rfl)) (may_first c t h3' 5 (Or.inr rfl))) $$ [Ho HA HE]
      · isplitr; · iexact He
        isplitl [Ho]; · iexact Ho
        isplitl [HA]; · iexact HA
        iexact HE
      iintro %_ ⟨Ho, ⟨HO, HL⟩, D1, D5, HP, HC, ⟨%Y, HCl⟩⟩
      unfold lend3'
      icases HE' with ⟨⟨Hd3, T2, T3⟩, ⟨Hd7, T6, T7⟩⟩
      iapply (ld3 c _ _ (off10_at t ht)) $$ HL
      iintro HL
      iapply (ld3 c _ _ (off10_at t ht)) $$ D5
      iintro D5
      iapply (ld3 c _ _ (off10_at t ht)) $$ HCl
      iintro HCl
      iapply (st3 c _ _ (off10_at t ht)) $$ HCl
      iintro HCl
      rw [show k0_pay3 (lm qb kb c (sl1 t)) (lm qb kb (p1 c) (sl1 t)) = cl1 (lm qb kb) c (sl1 t) from rfl]
      ihave HC' := (own_halve _ _) $$ HC
      icases HC' with ⟨HCa, HCb⟩
      ihave HCl' := (own_halve _ _) $$ HCl
      icases HCl' with ⟨HCla, HClb⟩
      rw [dueS_peel2 c (Bs_mem t h3')]
      iapply (wp_send4 (om qb kb vb) (lm qb kb) K c (p2 c) _ (dev5_at c _) bC1 bCo2 2 3 (sl1 t) _ rfl rfl rfl (pay_2' (om qb kb vb) (lm qb kb) c _) (pay_sent3 c (om qb kb vb) (lm qb kb) _) (off7_at t ht) (sem_s11 (off6_at t ht)) (sem_s12 (off6_at t ht)) (dueS c (As (t.val + 1)) ((Bs t.val).erase (sl1 t)) + tallyAt (dcell (p2 c) 7 (sl1 t)) () NL)) $$ [HCa Hd3 Ho T2 T3]
      · isplitr; · iexact He
        isplitl [HCa]; · iexact HCa
        isplitl [Hd3]; · iexact Hd3
        isplitl [Ho]; · iexact Ho
        isplitl [T2]; · iexact T2
        iexact T3
      iintro ⟨R2, Ho⟩
      iapply (wp_send3 (om qb kb vb) (lm qb kb) K c (p2 c) _ (dev6_at c _) bCl1 bCl2 6 7 (sl1 t) _ rfl rfl rfl (pay_6' (om qb kb vb) (lm qb kb) c _) (pay_sent7 c (om qb kb vb) (lm qb kb) _) (off8_at t ht) (sem_s15 (off6_at t ht)) (sem_s16 (off6_at t ht)) (dueS c (As (t.val + 1)) ((Bs t.val).erase (sl1 t)))) $$ [HCla Hd7 Ho T6 T7]
      · isplitr; · iexact He
        isplitl [HCla]; · iexact HCla
        isplitl [Hd7]; · iexact Hd7
        isplitl [Ho]; · iexact Ho
        isplitl [T6]; · iexact T6
        iexact T7
      iintro ⟨R6, Ho⟩
      iapply hJ
      isplitl [Ho Hput Hb HO HL D1 D5 HP HCb HClb R2 R6]
      · unfold core
        isplitr; · iexact He
        isplitl [Ho]; · iexact Ho
        iapply Hput
        iapply Hb
        unfold back3 got1 creds
        isplitl [HO]; · iexact HO
        isplitl [HL]; · iexact HL
        isplitl [D1 D5 HP]
        · isplitl [D1]
          · iexists _; iexact D1
          isplitl [D5]
          · iexists _; iexact D5
          iexact HP
        isplitl [HCb]; · iexact HCb
        isplitl [HClb]; · iexact HClb
        isplitl [R2]; · iexact R2
        iexact R6
      isplitl [HR]; · iexact HR
      iexact Hu
  apply cut (α := PUnit) (β := PUnit) (R' := iprop(core qb kb vb K c (g4 t) (dueS c (As (t.val + 1)) (Bs (t.val + 1))) ∗ (ins qb kb vb c t m2 m3 m4 ∗ ready c) ∗ outs qb kb vb c m5 (fun i => 2 * i.val + 6 ≤ t.val + 1))) (Q' := (fun _ => iprop(core qb kb vb K c (ph (t.val + 1)) (owed c (t.val + 1)) ∗ (ins qb kb vb c t m2 m3 m4 ∗ ready c) ∗ outs qb kb vb c m5 (fin (t.val + 1)))))
  · intro hJ
    by_cases h4' : k0_cond4 (co t) = 1#1
    swap
    · rw [g4, if_neg h4'] at hJ
      simp only [↓dif_neg h4']
      iintro ⟨HS, HR, Hu⟩
      iapply hJ
      isplitl [HS]; · iexact HS
      isplitl [HR]; · iexact HR
      iapply (outs_mono qb kb vb c m5 (fin_stay t h4')) $$ Hu
    · rw [g4, if_pos h4'] at hJ
      simp only [↓dif_pos h4']
      have ht := ((cond4_iff t).mp h4').2
      unfold core
      iintro ⟨⟨#He, Ho, HS⟩, HR, Hu⟩
      ihave HS' := (slots_at (oA qb kb vb) (lB qb kb) c (sl2 t) (f := g3 t) (p := 4) (g3_at t h4') 5) $$ HS
      icases HS' with ⟨Hs, Hput⟩
      ihave Hs' := (tr4 (oA qb kb vb) (lB qb kb) c (sl2 t)) $$ Hs
      icases Hs' with ⟨HA, ⟨HC, HCl⟩, Hb⟩
      iapply (part3_run qb kb vb K c t m2 h2 m3 m4 h3 h4 m5 h5 (dueS c (As (t.val + 1)) (Bs (t.val + 1))) h4' ht _ _ _ (may_second c t h4' 3 (Or.inl rfl)) (may_second c t h4' 7 (Or.inr rfl))) $$ [Ho HA HC HCl]
      · isplitr; · iexact He
        isplitl [Ho]; · iexact Ho
        isplitl [HA]; · iexact HA
        isplitl [HC]; · iexact HC
        iexact HCl
      iintro %_ ⟨Ho, HC, HG⟩
      iapply (ld_out qb kb vb c m5) $$ Hu
      iintro %_ Hu
      iapply (st_out qb kb vb c m5 (sl2 t) (off16_at t ht) rfl) $$ Hu
      iintro Hu
      iapply hJ
      isplitl [Ho Hput Hb HC HG]
      · unfold core
        isplitr; · iexact He
        isplitl [Ho]; · iexact Ho
        iapply Hput
        iapply Hb
        isplitl [HC]; · iexact HC
        iexact HG
      isplitl [HR]; · iexact HR
      iapply (outs_mono qb kb vb c m5 (fin_step t h4')) $$ Hu
  by_cases h5' : k0_cond5 (co t) = 1#1
  · simp only [↓dif_pos h5']
    have ht : t.val = 15 := (cond5_iff t).mp h5'
    unfold core
    iintro ⟨⟨#He, Ho, HS⟩, HR, Hu⟩
    ihave Ho := (show ow c (dueS c (As (t.val + 1)) (Bs (t.val + 1))) ⊢ (ow c (owedB c) : sProp 𝕄) from Entails.of_eq (by rw [ht]; rfl)) $$ Ho
    iapply (part17_run qb kb vb K c t m2 h2 m3 m4 h3 h4 m5 h5 h5' _ _ (g4_last t h5') _ _) $$ [Ho HS Hu]
    · isplitr; · iexact He
      isplitl [Ho]; · iexact Ho
      isplitl [HS]; · iexact HS
      iexact Hu
    iintro ⟨Ho, Hs, Hr, Hu⟩
    iapply (swait3 qb kb vb K c 7 3 rfl rfl (sem_s15 rfl) _ _ _) $$ [Ho Hs]
    · isplitr; · iexact He
      isplitl [Ho]; · iexact Ho
      iexact Hs
    iintro ⟨Ho, Hs⟩
    iapply (ret_of c)
    ihave HS := (all_done qb kb vb K c) $$ [Hs Hr]
    · isplitr; · iexact He
      isplitl [Hs]; · iexact Hs
      iexact Hr
    imod HS
    imodintro
    isplitl [Ho HS]
    · isplitr; · iexact He
      rw [owedE_eq, ht]
      isplitl [Ho]; · iexact Ho
      iexact HS
    isplitl [HR]; · iexact HR
    iapply (outs_mono qb kb vb c m5 (fin_last t h5')) $$ Hu
  · simp only [↓dif_neg h5']
    have hn : t.val + 1 ≠ 16 := fun e => h5' ((cond5_iff t).mpr (by omega))
    iintro ⟨HS, HR, Hu⟩
    iapply (ret_of c)
    imodintro
    isplitl [HS]
    · rw [g4_at t h5', owed, if_neg hn]
      iexact HS
    isplitl [HR]; · iexact HR
    iapply (outs_mono qb kb vb c m5 (fin_done t h5')) $$ Hu

end Step

end Cert.KernelIdeal.Proof
-- ==== Proof.KI.Dat.lean ====
/-
  The pipeline's proof data: what every window's buffer holds at each grid point, and what a device holds and owes
  between points. The result's block is staged through the whole grid, and its rows become known one slot at a time:
  its window is held to a relation (the rows of the slots that are finished) instead of to definite contents.
-/
module

public import proofs.«01_k».proof.Proof.KI.Step
public import proofs.«01_k».proof.Proof.Gen.KernelIdeal.Frame
public import Idealize.ShloMosaic.Lib.Pipeline.DatRel

@[expose] public section

noncomputable section

namespace Cert.KernelIdeal.Proof

open Cert.KernelIdeal Cert.KernelIdeal.Gen Idealize.ShloMosaic.ValueIdx
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

open Idealize.ShloMosaic.Pipeline (Dat BodyObligationRel)

/-- The blocks of the queries, keys and values at a point. -/
abbrev qB (c : Dev nD) (t : Pt) : S1x8x8x128.Idx → Elt F .bf16 := iblk m c 0 t
abbrev kB (c : Dev nD) (t : Pt) : S1x1024x8x128.Idx → Elt F .bf16 := iblk m c 1 t
abbrev vB (c : Dev nD) (t : Pt) : S1x1024x8x128.Idx → Elt F .bf16 := iblk m c 2 t

/-- Before the first point: `begin0`, save what is owed. -/
def start0 (K : Dev nD × CK → ℕ) (c : Dev nD) : sProp 𝕄 := iprop((env (om (qB m) (kB m) (vB m)) (lm (qB m) (kB m)) K ∗ dutyTok ER (barCell (p1 c)) 0 false ∗ dutyTok ER (barCell (p2 c)) 0 true
    ∗ (bigSep Finset.univ fun i : Fin 8 => land1 (F := F) c i) ∗ (bigSep Finset.univ fun i : Fin 8 => land2 (F := F) c i)
    ∗ cred (tallyAt (barCell c) () 2) ∗ atPos ER (barCell c) 0 ∅ 0)
  ∗ (∃ X, owns (c : Thread nD τ) bM fullShare X) ∗ bigSep Finset.univ fun i : Fin 8 => iprop(blank (F := F) c i 0 ∗ blank (F := F) c i 1 ∗ stock c i))
/-- After `n ≥ 1` points. -/
def mid (K : Dev nD × CK → ℕ) (c : Dev nD) (n : ℕ) : sProp 𝕄 :=
  iprop((env (om (qB m) (kB m) (vB m)) (lm (qB m) (kB m)) K ∗ slots (oA (qB m) (kB m) (vB m)) (lB (qB m) (kB m)) c (ph n)) ∗ ready (F := F) c)
def Φat (c : Dev nD) (n : ℕ) : sProp 𝕄 := if n = 0 then iprop(∃ K, start0 m K c) else iprop(∃ K, mid m K c n)
def owedAt (c : Dev nD) (n : ℕ) : CellTallies nD τ sig Unit := if n = 0 then due0 c else owed c n

def dats (_ : Fin 1) (c : Dev nD) : Dat τ (Elt F) Unit ℕ UU ℕ cfg0 c where
  A w := m ((cfg0.win w).arr.view.loc (c : Thread nD τ))
  after w t := match w with
    | ⟨0, _⟩ => qB m c t
    | ⟨1, _⟩ => kB m c t
    | ⟨2, _⟩ => vB m c t
    | ⟨3, _⟩ => haveI := elt_nonempty (F := F); fun _ => Classical.arbitrary _
  Φ t := Φat m c t.val
  q _ := fullShare
  owed t := owedAt c t.val

/-- The result's window is the one held to a relation: -/
def marked (w : Fin cfg0.W) : Bool := match w with
  | ⟨0, _⟩ => false | ⟨1, _⟩ => false | ⟨2, _⟩ => false | ⟨3, _⟩ => true
/-- the rows of the finished slots are the result's. -/
def Leaves (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun X => outOK (qB m) (kB m) (vB m) c (fin (t.val + 1)) X

theorem before_0 (c : Dev nD) (t : Fin cfg0.N) (d) : (dats m 0 c).before 0 t d = qB m c t :=
  ((dats m 0 c).before_in_eq_fetched 0 rfl (fun _ => rfl) (fun _ _ _ => rfl) (fun _ => rfl) t d).trans rfl
theorem before_1 (c : Dev nD) (t : Fin cfg0.N) (d) : (dats m 0 c).before 1 t d = kB m c t :=
  ((dats m 0 c).before_in_eq_fetched 1 rfl (fun _ => rfl) (fun _ _ _ => rfl) (fun _ => rfl) t d).trans rfl
theorem before_2 (c : Dev nD) (t : Fin cfg0.N) (d) : (dats m 0 c).before 2 t d = vB m c t :=
  ((dats m 0 c).before_in_eq_fetched 2 rfl (fun _ => rfl) (fun _ _ _ => rfl) (fun _ => rfl) t d).trans rfl

/-- What a point finds in the result's block: the rows of the slots finished so far. -/
theorem finds_out (c : Dev nD) (t : Fin cfg0.N) (X : S8x8x16x128.Idx → Elt F .f32)
    (h : ((dats m 0 c).toRRel marked (Leaves m c)).Finds 3 t X) : outOK (qB m) (kB m) (vB m) c (fin t.val) X := by
  by_cases ht : t.val = 0
  · rw [ht]; intro i hi
    exfalso
    rcases hi with hi | hi <;> omega
  · have hlt : t.val < 16 := t.isLt
    rw [Pipeline.RDat.finds_of_pos _ rfl ht] at h
    rcases h with h | h
    · have := (flush0_3 _).mp h
      dsimp only at this; omega
    · have h' : outOK (qB m) (kB m) (vB m) c (fin (t.val - 1 + 1)) X := (dats m 0 c).toRRel_leaves (w := 3) rfl h
      rwa [Nat.sub_add_cancel (Nat.pos_of_ne_zero ht)] at h'

section Point
variable (c : Dev nD) (t : Pt) (m2 : Memref sig .tc .vmem S1x8x8x128 .bf16) (h2 : m2.IsWhole) (m3 m4 : Memref sig .tc .vmem S1x1024x8x128 .bf16) (h3 : m3.IsWhole) (h4 : m4.IsWhole)
  (m5 : Memref sig .tc .vmem S8x8x16x128 .f32) (h5 : m5.IsWhole)

/-- One point, from what the device holds before it to what it holds after it. -/
theorem point :
    iprop(Φat m c t.val ∗ ow c (owedAt c t.val) ∗ ins (qB m) (kB m) (vB m) c t m2 m3 m4 ∗ outs (qB m) (kB m) (vB m) c m5 (fin t.val))
      ⊢ wpc c (cc0__body (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16)
        (fun _ => iprop(Φat m c (t.val + 1) ∗ ow c (owedAt c (t.val + 1)) ∗ ins (qB m) (kB m) (vB m) c t m2 m3 m4 ∗ outs (qB m) (kB m) (vB m) c m5 (fin (t.val + 1)))) := by
  have hpost : ∀ K, iprop(core (qB m) (kB m) (vB m) K c (ph (t.val + 1)) (owed c (t.val + 1)) ∗ (ins (qB m) (kB m) (vB m) c t m2 m3 m4 ∗ ready c)
      ∗ outs (qB m) (kB m) (vB m) c m5 (fin (t.val + 1)))
      ⊢ (iprop(Φat m c (t.val + 1) ∗ ow c (owedAt c (t.val + 1)) ∗ ins (qB m) (kB m) (vB m) c t m2 m3 m4 ∗ outs (qB m) (kB m) (vB m) c m5 (fin (t.val + 1))) : sProp 𝕄) := fun K => by
    unfold Φat owedAt core mid
    rw [if_neg (Nat.succ_ne_zero _), if_neg (Nat.succ_ne_zero _)]
    iintro ⟨⟨#He, Ho, HS⟩, ⟨Hi, Hr⟩, Hu⟩
    isplitl [HS Hr]
    · iexists K
      isplitl [HS]
      · isplitr; · iexact He
        iexact HS
      iexact Hr
    isplitl [Ho]; · iexact Ho
    isplitl [Hi]; · iexact Hi
    iexact Hu
  by_cases ht : k0_cond1 (co t) = 1#1
  · have h0 : t.val = 0 := (cond1_iff t).mp ht
    have hA : As t.val = Finset.univ := by rw [h0]; decide
    have hB : Bs t.val = Finset.univ := by rw [h0]; decide
    have hp : ph t.val = ph 0 := by rw [h0]
    unfold Φat owedAt
    rw [if_pos h0, if_pos h0]
    iintro ⟨⟨%K, Hs⟩, Ho, Hi, Hu⟩
    iapply (show iprop(begin0 (qB m) (kB m) (vB m) K c ∗ ins (qB m) (kB m) (vB m) c t m2 m3 m4 ∗ outs (qB m) (kB m) (vB m) c m5 (fin t.val))
        ⊢ wpc c (cc0__body (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16) _ from
      (step (qB m) (kB m) (vB m) K c t m2 h2 m3 m4 h3 h4 m5 h5 (by
        rw [hA, hB, hp]
        have hf := read_first (qB m) (kB m) (vB m) K c t m2 h2 m3 m4 h3 h4 m5 h5 ht
        unfold wpc at hf ⊢
        iintro ⟨Hs, Hi, Hu⟩
        iapply (wp_wand_r frame (wpE (defs₀ (F := F)) 𝒱₀ (c : Thread nD τ) none) Set.univ)
        isplitl [Hs Hi]
        · iapply hf
          isplitl [Hs]; · iexact Hs
          iexact Hi
        iintro %r ⟨Hg, Hc, Hi, Hr⟩
        isplitl [Hg]; · iexact Hg
        isplitl [Hc]; · iexact Hc
        isplitl [Hi Hr]
        · isplitl [Hi]; · iexact Hi
          iexact Hr
        iexact Hu)).trans (by unfold wpc; exact wp_mono _ _ _ fun _ => hpost K))
    isplitl [Hs Ho]
    · unfold begin0 start0
      icases Hs with ⟨⟨He, Hs⟩, Hm, Hst⟩
      isplitl [He Hs Ho]
      · isplitl [He]; · iexact He
        isplitl [Ho]; · iexact Ho
        iexact Hs
      isplitl [Hm]; · iexact Hm
      iexact Hst
    isplitl [Hi]; · iexact Hi
    iexact Hu
  · have h0 : t.val ≠ 0 := fun e => ht ((cond1_iff t).mpr e)
    have hn : t.val ≠ 16 := Nat.ne_of_lt t.isLt
    unfold Φat owedAt owed
    rw [if_neg h0, if_neg h0, if_neg hn]
    iintro ⟨⟨%K, Hs⟩, Ho, Hi, Hu⟩
    iapply (show iprop(core (qB m) (kB m) (vB m) K c (ph t.val) (dueS c (As t.val) (Bs t.val)) ∗ (ins (qB m) (kB m) (vB m) c t m2 m3 m4 ∗ ready c) ∗ outs (qB m) (kB m) (vB m) c m5 (fin t.val))
        ⊢ wpc c (cc0__body (co t) m2 h2 m3 h3 m4 h4 m5 h5 bM (Memref.isWhole_whole _) bO (Memref.isWhole_whole _) bL (Memref.isWhole_whole _) bCo0 (Memref.isWhole_whole _) bC1 (Memref.isWhole_whole _) bCo2 (Memref.isWhole_whole _) bCl0 (Memref.isWhole_whole _) bCl1 (Memref.isWhole_whole _) bCl2 (Memref.isWhole_whole _) cc0_scratch9 cc0_scratch10 cc0_scratch11 cc0_scratch12 cc0_scratch13 cc0_scratch14 cc0_scratch15 cc0_scratch16) _ from
      (step (qB m) (kB m) (vB m) K c t m2 h2 m3 m4 h3 h4 m5 h5 (by
        have hf := read_later (qB m) (kB m) (vB m) c t m2 h2 m3 m4 h3 h4 m5 h5 ht
        unfold wpc at hf ⊢
        iintro ⟨Hc, Hi, Hu⟩
        iapply (wp_wand_r frame (wpE (defs₀ (F := F)) 𝒱₀ (c : Thread nD τ) none) Set.univ)
        isplitl [Hi]
        · iapply hf
          iexact Hi
        iintro %r ⟨Hg, Hi⟩
        isplitl [Hg]; · iexact Hg
        isplitl [Hc]; · iexact Hc
        isplitl [Hi]; · iexact Hi
        iexact Hu)).trans (by unfold wpc; exact wp_mono _ _ _ fun _ => hpost K))
    unfold core mid
    icases Hs with ⟨⟨He, HS⟩, Hr⟩
    isplitl [He HS Ho]
    · isplitl [He]; · iexact He
      isplitl [Ho]; · iexact Ho
      iexact HS
    isplitl [Hi Hr]
    · isplitl [Hi]; · iexact Hi
      iexact Hr
    iexact Hu

end Point

/-- The pipeline's obligation on the body, at every point. -/
theorem body_obligation (c : Dev nD) : BodyObligationRel (dats m 0 c) (defs₀ (F := F)) 𝒱₀ () Set.univ marked (Leaves m c) := fun t => by
  rw [bigSep_W0, bigSep_W0]
  show (iprop(Φat m c t.val ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ Y, ⌜((dats m 0 c).toRRel marked (Leaves m c)).Finds 3 t Y⌝ ∗ owns (c : Thread nD τ) (st0_3 t) fullShare Y)) : sProp 𝕄)
    ⊢ wpc c (bodyAt0 t) (fun _ => iprop(Φat m c (t.val + 1) ∗ (dats m 0 c).owesAt () t.succ
      ∗ owns (c : Thread nD τ) (st0_0 t) fullShare (qB m c t)
      ∗ owns (c : Thread nD τ) (st0_1 t) fullShare (kB m c t)
      ∗ owns (c : Thread nD τ) (st0_2 t) fullShare (vB m c t)
      ∗ (∃ X, ⌜outOK (qB m) (kB m) (vB m) c (fin (t.val + 1)) X⌝ ∗ owns (c : Thread nD τ) (st0_3 t) fullShare X)))
  have hp := point m c t (win0_0.stage (cfg0.slots t 0)) (hstage0_0 ((cfg0.slots t 0).cast nbuf0_0)) (win0_1.stage (cfg0.slots t 1)) (win0_2.stage (cfg0.slots t 2))
    (hstage0_1 ((cfg0.slots t 1).cast nbuf0_1)) (hstage0_2 ((cfg0.slots t 2).cast nbuf0_2)) (win0_3.stage (cfg0.slots t 3)) (hstage0_3 ((cfg0.slots t 3).cast nbuf0_3))
  unfold Pipeline.Dat.owesAt Pipeline.owesWithin
  iintro ⟨HΦ, ⟨%W, %hW, Ho⟩, ⟨%d0, H0⟩, ⟨%d1, H1⟩, ⟨%d2, H2⟩, ⟨%Y, %hY, H3⟩⟩
  ihave H0 := (Entails.of_eq (congrArg (owns (Ix := Unit) (Name := ℕ) (U := UU) (Lvl := ℕ) (c : Thread nD τ) (st0_0 t) fullShare) (before_0 m c t d0))) $$ H0
  ihave H1 := (Entails.of_eq (congrArg (owns (Ix := Unit) (Name := ℕ) (U := UU) (Lvl := ℕ) (c : Thread nD τ) (st0_1 t) fullShare) (before_1 m c t d1))) $$ H1
  ihave H2 := (Entails.of_eq (congrArg (owns (Ix := Unit) (Name := ℕ) (U := UU) (Lvl := ℕ) (c : Thread nD τ) (st0_2 t) fullShare) (before_2 m c t d2))) $$ H2
  unfold wpc at hp ⊢
  iapply (wp_wand_r frame (wpE (defs₀ (F := F)) 𝒱₀ (c : Thread nD τ) none) Set.univ)
  isplitl [HΦ Ho H0 H1 H2 H3]
  · iapply hp
    unfold ins outs ow
    isplitl [HΦ]; · iexact HΦ
    isplitl [Ho]; · iexists W; iexact Ho
    isplitl [H0 H1 H2]
    · isplitl [H0]; · iexact H0
      isplitl [H1]; · iexact H1
      iexact H2
    iexists Y
    isplitr; · ipureintro; exact finds_out m c t Y hY
    iexact H3
  unfold ins outs ow
  iintro %_ ⟨HΦ, ⟨%W', Ho⟩, ⟨H0, H1, H2⟩, H3⟩
  isplitl [HΦ]; · iexact HΦ
  isplitl [Ho]
  · iexists W'
    isplitr; · ipureintro; exact fun _ _ => Or.inl trivial
    iexact Ho
  isplitl [H0]; · iexact H0
  isplitl [H1]; · iexact H1
  isplitl [H2]; · iexact H2
  iexact H3

end Cert.KernelIdeal.Proof
-- ==== Proof.KI.Fund.lean ====
/-
  What the launch deals out: the protocol's cells at the start of their round, the duty tokens, each passed to the
  device that pays it, and the credit of every receive cell.
-/
module

public import proofs.«01_k».proof.Proof.KI.Dat

@[expose] public section

noncomputable section

namespace Cert.KernelIdeal.Proof

open Cert.KernelIdeal Cert.KernelIdeal.Gen Idealize.ShloMosaic.ValueIdx
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## Sums over the cells -/

theorem bigSep_opt {I : Type} [Fintype I] (Φ : Option I → sProp 𝕄) :
    bigSep Finset.univ Φ = iprop((bigSep Finset.univ fun i => Φ (some i)) ∗ Φ none) := by
  rw [bigSep_univ_equiv (Equiv.optionEquivSumPUnit.{0, 0} I).symm Φ, bigSep_univ_sum]
  have h : (bigSep Finset.univ fun b : PUnit.{1} => Φ ((Equiv.optionEquivSumPUnit.{0, 0} I).symm (Sum.inr b))) = Φ none := by
    rw [Finset.univ_unique, BI.bigSep_singleton]; rfl
  rw [h]; rfl
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## Cells and tokens -/

def osem (ai : Fin 8 × Fin 8) : SemLoc sig := .dma (dsem ai.1 ai.2)

theorem osem_injective : Function.Injective osem := by
  rintro ⟨a, i⟩ ⟨b, j⟩ h
  have h' := dsem_inj (SemLoc.dma.inj h)
  exact Prod.ext h'.1 h'.2
theorem ownSemFacts : Pipeline.OwnSemFacts cfg0.spec osem where
  isScoped := by decide +kernel
  inj := osem_injective
  disj := by decide +kernel

theorem csem_injective : Function.Injective csem := by
  rintro (_ | ai) (_ | bj) h
  · rfl
  · cases h
  · cases h
  · exact congrArg some (osem_injective h)
theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def cells : Finset (GSem nD τ sig) := Finset.univ.map ⟨kcell, kcell_injective⟩

/-- The duties: the barrier's two, one per transfer cell. -/
abbrev TK : Type := Bool ⊕ (Fin 8 × Fin 8)
def tokOf (ct : Dev nD × TK) : GSem nD τ sig × ℕ × Bool := match ct.2 with
  | .inl d => (barCell ct.1, 0, d)
  | .inr ai => (dcell ct.1 ai.1 ai.2, 0, false)
theorem tokOf_injective : Function.Injective tokOf := by
  rintro ⟨c, k⟩ ⟨c', k'⟩ h
  have h1 : c = c' := by
    have := congrArg (fun x : GSem nD τ sig × ℕ × Bool => x.1.1.1) h
    rcases k with d | ai <;> rcases k' with d' | bj <;> exact this
  subst h1
  rcases k with d | ai <;> rcases k' with d' | bj
  · have : d = d' := congrArg (fun x : GSem nD τ sig × ℕ × Bool => x.2.2) h
    rw [this]
  · have := congrArg (fun x : GSem nD τ sig × ℕ × Bool => x.1.2) h; cases this
  · have := congrArg (fun x : GSem nD τ sig × ℕ × Bool => x.1.2) h; cases this
  · have : osem ai = osem bj := congrArg (fun x : GSem nD τ sig × ℕ × Bool => x.1.2) h
    rw [osem_injective this]
def tokens : Finset (GSem nD τ sig × ℕ × Bool) := Finset.univ.map ⟨tokOf, tokOf_injective⟩

def u₀ : UU :=
  (initOf (Pipeline.cells cfgs cellOf_inj) (Pipeline.launchToks cfgs cellOf_inj), initOf cells tokens)

/-- The tokens of one array's cells. -/
def tk (a : Fin 8) (c : Dev nD) : sProp 𝕄 := bigSep Finset.univ fun i : Fin 8 => dutyTok ER (dcell c a i) 0 false
/-- The tokens of a device's own cells. -/
def toks (c : Dev nD) : sProp 𝕄 := iprop(dutyTok ER (barCell c) 0 false ∗ dutyTok ER (barCell c) 0 true
  ∗ tk 0 c ∗ tk 1 c ∗ tk 2 c ∗ tk 3 c ∗ tk 4 c ∗ tk 5 c ∗ tk 6 c ∗ tk 7 c)

/-- What the launch element deals device `c`. -/
def dealt (c : Dev nD) : sProp 𝕄 :=
  iprop((bigSep Finset.univ fun k : CK => roundState ER (rd (om (qB m) (kB m) (vB m)) (lm (qB m) (kB m))) (kcell (c, k)) 0)
    ∗ (bigSep Finset.univ fun k : CK => iprop(atPos ER (kcell (c, k)) 0 ∅ 0 ∗ reached ER (kcell (c, k)) 0)) ∗ toks c)

theorem toks_eq (c : Dev nD) : (bigSep Finset.univ fun k : TK => (dutyTok ER (tokOf (c, k)).1 (tokOf (c, k)).2.1 (tokOf (c, k)).2.2 : sProp 𝕄)) ⊢ toks c := by
  rw [bigSep_univ_sum, bigSep_univ_prod, bigSep_fin8, bigSep_univ_eq_bigSepL [false, true] (by decide) (by decide), bigSepL_cons_cons, bigSepL_singleton]
  unfold toks
  show (iprop((dutyTok ER (barCell c) 0 false ∗ dutyTok ER (barCell c) 0 true) ∗ (tk 0 c ∗ tk 1 c ∗ tk 2 c ∗ tk 3 c ∗ tk 4 c ∗ tk 5 c ∗ tk 6 c ∗ tk 7 c)) : sProp 𝕄) ⊢ _
  iintro ⟨⟨H1, H2⟩, H3⟩
  isplitl [H1]; · iexact H1
  isplitl [H2]; · iexact H2
  iexact H3

theorem fund_all : BI.own (ER (initOf cells tokens)) ⊢ (|==> bigSep Finset.univ (dealt m) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep tokens (fun x => (dutyTok ER x.1 x.2.1 x.2.2 : sProp 𝕄)) ⊢ bigSep Finset.univ fun c : Dev nD => toks c := by
    unfold tokens; rw [bigSep_map, bigSep_univ_prod]
    exact BI.bigSep_mono fun c _ => toks_eq c
  iintro HX
  imod (Rounds.fund ER (rd (om (qB m) (kB m) (vB m)) (lm (qB m) (kB m))) cells tokens) $$ HX with ⟨Hst, Hr, Hat, Htok⟩
  imodintro
  ihave Hst' := (Entails.of_eq (hX fun g => roundState ER (rd (om (qB m) (kB m) (vB m)) (lm (qB m) (kB m))) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold dealt; simp only [bigSep_sep']
  isplitl [Hst']; · iexact Hst'
  isplitl [Hat' Hr']
  · isplitl [Hat'] <;> iassumption
  iexact Htok'

/-! ## The cells opened -/

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_opt]; exact BI.Entails.refl _

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (rd (om (qB m) (kB m) (vB m)) (lm (qB m) (kB m))) κ (kcell (c, k))))
          ∗ (bigSep Finset.univ fun k => iprop(atPos ER (kcell (c, k)) 0 ∅ 0 ∗ reached ER (kcell (c, k)) 0)) ∗ toks c) := by
  unfold dealt
  iintro ⟨Hos, Hus, Hst, Hat, Htok⟩
  ihave Hv := (sems0 (F := F) c) $$ [Hos Hus]
  · isplitl [Hos] <;> iassumption
  imod (show iprop((bigSep Finset.univ fun k : CK => semVal (kcell (c, k)) 0) ∗ bigSep Finset.univ fun k : CK => roundState ER (rd (om (qB m) (kB m) (vB m)) (lm (qB m) (kB m))) (kcell (c, k)) 0)
      ⊢ (|={Set.univ}=> bigSep Finset.univ fun k => iprop(∃ κ : ℕ, cellInv ER (rd (om (qB m) (kB m) (vB m)) (lm (qB m) (kB m))) κ (kcell (c, k))) : sProp 𝕄) from by
        rw [← bigSep_sep']
        exact (BI.bigSep_mono fun k _ => (Rounds.body_intro ER (rd (om (qB m) (kB m) (vB m)) (lm (qB m) (kB m))) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## What stays with a device -/

/-- The records of all the cells: `env`, save the levels. -/
def recds (K : Dev nD × CK → ℕ) : sProp 𝕄 := bigSep Finset.univ fun ck : Dev nD × CK => recd (om (qB m) (kB m) (vB m)) (lm (qB m) (kB m)) K ck
instance recds_persistent (K : Dev nD × CK → ℕ) : BI.Persistent (recds m K) := by unfold recds; infer_instance

/-- Per slot: the positions and the tokens a device uses. -/
def kept (c : Dev nD) (i : Fin 8) : sProp 𝕄 := iprop(toks1 c i ∗ toks2 c i ∗ pos c i 0 4 ∗ pos c i 2 6 ∗ pos c i 1 5 ∗ pos c i 3 7)
def linear (c : Dev nD) : sProp 𝕄 := iprop(dutyTok ER (barCell (p1 c)) 0 false ∗ dutyTok ER (barCell (p2 c)) 0 true ∗ atPos ER (barCell c) 0 ∅ 0
  ∗ bigSep Finset.univ fun i : Fin 8 => kept (F := F) c i)
def payToks (c : Dev nD) : sProp 𝕄 := iprop(dutyTok ER (barCell (p1 c)) 0 false ∗ dutyTok ER (barCell (p2 c)) 0 true
  ∗ tk 0 c ∗ tk 1 (p1 c) ∗ tk 2 c ∗ tk 3 (p2 c) ∗ tk 4 c ∗ tk 5 (p1 c) ∗ tk 6 c ∗ tk 7 (p2 c))

def e1 : Dev nD ≃ Dev nD := ⟨p1, p1, p1_p1, p1_p1⟩
def e2 : Dev nD ≃ Dev nD := ⟨p2, p2, p2_p2, p2_p2⟩

/-- The tokens passed to the devices that pay: the receive cells' and the barrier's to the peers. -/
theorem toks_around : (bigSep Finset.univ fun c : Dev nD => (toks c : sProp 𝕄)) ⊢ bigSep Finset.univ fun c : Dev nD => payToks c := by
  unfold toks payToks
  simp only [bigSep_sep']
  rw [bigSep_univ_equiv e1 (fun c : Dev nD => (dutyTok ER (barCell c) 0 false : sProp 𝕄)),
    bigSep_univ_equiv e2 (fun c : Dev nD => (dutyTok ER (barCell c) 0 true : sProp 𝕄)),
    bigSep_univ_equiv e1 (fun c : Dev nD => (tk 1 c : sProp 𝕄)), bigSep_univ_equiv e1 (fun c : Dev nD => (tk 5 c : sProp 𝕄)),
    bigSep_univ_equiv e2 (fun c : Dev nD => (tk 3 c : sProp 𝕄)), bigSep_univ_equiv e2 (fun c : Dev nD => (tk 7 c : sProp 𝕄))]
  exact BI.Entails.refl _

/-- A device's positions and tokens, slot by slot. -/
theorem linear_intro (c : Dev nD) : iprop((bigSep Finset.univ fun k : CK => (atPos ER (kcell (c, k)) 0 ∅ 0 : sProp 𝕄)) ∗ payToks c) ⊢ (linear c : sProp 𝕄) := by
  rw [bigSep_opt, bigSep_univ_prod, bigSep_fin8]
  unfold linear payToks tk kept toks1 toks2 pos
  simp only [bigSep_sep']
  show (iprop((((bigSep Finset.univ fun i : Fin 8 => atPos ER (dcell c 0 i) 0 ∅ 0) ∗ (bigSep Finset.univ fun i : Fin 8 => atPos ER (dcell c 1 i) 0 ∅ 0) ∗ (bigSep Finset.univ fun i : Fin 8 => atPos ER (dcell c 2 i) 0 ∅ 0) ∗ (bigSep Finset.univ fun i : Fin 8 => atPos ER (dcell c 3 i) 0 ∅ 0) ∗ (bigSep Finset.univ fun i : Fin 8 => atPos ER (dcell c 4 i) 0 ∅ 0) ∗ (bigSep Finset.univ fun i : Fin 8 => atPos ER (dcell c 5 i) 0 ∅ 0) ∗ (bigSep Finset.univ fun i : Fin 8 => atPos ER (dcell c 6 i) 0 ∅ 0) ∗ (bigSep Finset.univ fun i : Fin 8 => atPos ER (dcell c 7 i) 0 ∅ 0)) ∗ atPos ER (barCell c) 0 ∅ 0) ∗ _) : sProp 𝕄) ⊢ _
  iintro ⟨⟨⟨A0, A1, A2, A3, A4, A5, A6, A7⟩, HA⟩, HF, HT, T0, T1, T2, T3, T4, T5, T6, T7⟩
  isplitl [HF]; · iexact HF
  isplitl [HT]; · iexact HT
  isplitl [HA]; · iexact HA
  isplitl [T1 T5 T0 T4]
  · isplitl [T1]; · iexact T1
    isplitl [T5]; · iexact T5
    isplitl [T0]; · iexact T0
    iexact T4
  isplitl [T3 T7 T2 T6]
  · isplitl [T3]; · iexact T3
    isplitl [T7]; · iexact T7
    isplitl [T2]; · iexact T2
    iexact T6
  isplitl [A0 A4]
  · isplitl [A0]; · iexact A0
    iexact A4
  isplitl [A2 A6]
  · isplitl [A2]; · iexact A2
    iexact A6
  isplitl [A1 A5]
  · isplitl [A1]; · iexact A1
    iexact A5
  isplitl [A3]; · iexact A3
  iexact A7

def held (c : Dev nD) : sProp 𝕄 := iprop(∃ K, recds m K ∗ linear c)

theorem regroup :
    (bigSep Finset.univ fun c : Dev nD => iprop((bigSep Finset.univ fun k => iprop(∃ κ : ℕ, cellInv ER (rd (om (qB m) (kB m) (vB m)) (lm (qB m) (kB m))) κ (kcell (c, k))))
          ∗ (bigSep Finset.univ fun k => iprop(atPos ER (kcell (c, k)) 0 ∅ 0 ∗ reached ER (kcell (c, k)) 0)) ∗ toks c) : sProp 𝕄)
      ⊢ bigSep Finset.univ (held m) := by
  rw [bigSep_sep', bigSep_sep', ← bigSep_univ_prod (fun ck : Dev nD × CK => iprop(∃ κ : ℕ, cellInv ER (rd (om (qB m) (kB m) (vB m)) (lm (qB m) (kB m))) κ (kcell ck))),
    BI.bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd (om (qB m) (kB m) (vB m)) (lm (qB m) (kB m))) κ (kcell ck) : sProp 𝕄))) $$ HI
  icases HK with ⟨%K, #HI⟩
  ihave Htk := (toks_around (F := F)) $$ Htok
  iapply (bigSep_with_persistent (R := recds m K) (Φ := fun c => (linear c : sProp 𝕄)) (Ψ := held m) fun c _ => by
    unfold held; iintro H; iexists K; iexact H)
  isplitr
  · unfold recds recd
    rw [bigSep_sep']
    isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (BI.bigSep_mono fun c _ => linear_intro c))
    isplitl [Hat]; · iexact Hat
    iexact Htk

/-- Every device's semaphores into the cells, all at once. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (held m) :=
  ((BI.bigSep_mono fun c _ => core_alloc m c).trans (bigSep_fupd _ _)).trans (BI.fupd_mono (regroup m))

/-! ## The launch credit -/

theorem tally_d (d c : Dev nD) (a b i j : Fin 8) (n : ℕ) :
    tallyAt (dcell d b j) () n (dcell c a i) () = if c = d ∧ a = b ∧ i = j then n else 0 := by
  rw [tallyAt_apply]
  by_cases h : c = d ∧ a = b ∧ i = j
  · obtain ⟨rfl, rfl, rfl⟩ := h
    rw [if_pos ⟨rfl, rfl⟩, if_pos ⟨rfl, rfl, rfl⟩]
  · rw [if_neg h, if_neg]
    rintro ⟨h', -⟩
    have h1 : c = d := congrArg (fun g : GSem nD τ sig => g.1.1) h'
    have h2 : osem (a, i) = osem (b, j) := congrArg Prod.snd h'
    have h3 := osem_injective h2
    exact h ⟨h1, congrArg Prod.fst h3, congrArg Prod.snd h3⟩
theorem tally_bd (d c : Dev nD) (a i : Fin 8) (n : ℕ) : tallyAt (barCell d) () n (dcell c a i) () = 0 := by
  rw [tallyAt_apply, if_neg]; rintro ⟨h, -⟩; have := congrArg Prod.snd h; cases this
theorem tally_db (d c : Dev nD) (a i : Fin 8) (n : ℕ) : tallyAt (dcell d a i) () n (barCell c) () = 0 := by
  rw [tallyAt_apply, if_neg]; rintro ⟨h, -⟩; have := congrArg Prod.snd h; cases this
theorem tally_bb (d c : Dev nD) (n : ℕ) : tallyAt (barCell d) () n (barCell c) () = if c = d then n else 0 := by
  rw [tallyAt_apply]
  by_cases h : c = d
  · subst h; rw [if_pos ⟨rfl, rfl⟩, if_pos rfl]
  · rw [if_neg h, if_neg]; rintro ⟨h', -⟩; exact h (congrArg (fun g : GSem nD τ sig => g.1.1) h')

theorem eq_p1 (c d : Dev nD) : c = p1 d ↔ d = p1 c := ⟨fun h => by rw [h, p1_p1], fun h => by rw [h, p1_p1]⟩
theorem eq_p2 (c d : Dev nD) : c = p2 d ↔ d = p2 c := ⟨fun h => by rw [h, p2_p2], fun h => by rw [h, p2_p2]⟩

/-- The credit of an array's cell at the launch: of the receive arrays, their row's. -/
def credOf (a : Fin 8) : ℕ := (if a = 5 then NL else 0) + (if a = 1 then NB else 0) + ((if a = 7 then NL else 0) + (if a = 3 then NB else 0))

theorem pick {I : Type} [Fintype I] [DecidableEq I] (i : I) (p : Prop) [Decidable p] (n : ℕ) : (∑ j : I, if p ∧ i = j then n else 0) = if p then n else 0 := by
  by_cases h : p
  · simp [h]
  · simp [h]

theorem due0_d (c d : Dev nD) (a i : Fin 8) : due0 d (dcell c a i) ()
    = ((if d = p1 c then (if a = 5 then NL else 0) else 0) + (if d = p1 c then (if a = 1 then NB else 0) else 0))
      + ((if d = p2 c then (if a = 7 then NL else 0) else 0) + (if d = p2 c then (if a = 3 then NB else 0) else 0)) := by
  unfold due0 dueS due1 due2
  rw [Pi.add_apply, Finsupp.add_apply, Pi.add_apply, Finsupp.add_apply, Pi.add_apply, Finsupp.add_apply, tally_bd, tally_bd,
    Finset.sum_apply, Finset.sum_apply, Finsupp.finset_sum_apply, Finsupp.finset_sum_apply]
  simp only [Pi.add_apply, Finsupp.add_apply, tally_d, Finset.sum_add_distrib, ← and_assoc, pick, Nat.add_zero]
  simp only [ite_and, eq_p1 c d, eq_p2 c d]

theorem due0_b (c d : Dev nD) : due0 d (barCell c) () = (if d = p2 c then 1 else 0) + (if d = p1 c then 1 else 0) := by
  unfold due0 dueS due1 due2
  rw [Pi.add_apply, Finsupp.add_apply, Pi.add_apply, Finsupp.add_apply, Pi.add_apply, Finsupp.add_apply, tally_bb, tally_bb,
    Finset.sum_apply, Finset.sum_apply, Finsupp.finset_sum_apply, Finsupp.finset_sum_apply]
  simp only [Pi.add_apply, Finsupp.add_apply, tally_db, Finset.sum_const_zero, Nat.add_zero, Nat.zero_add, eq_p1 c d, eq_p2 c d]

theorem launch_bar (c : Dev nD) :
    tallyOn (barCell c) (launchCredit (Pipeline.owing due0) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => due0_b c d, Finset.sum_add_distrib,
    Finset.sum_ite_eq' Finset.univ (p2 c) fun _ => 1, Finset.sum_ite_eq' Finset.univ (p1 c) fun _ => 1, if_pos (Finset.mem_univ _), if_pos (Finset.mem_univ _)]

theorem launch_d (c : Dev nD) (a i : Fin 8) :
    tallyOn (dcell c a i) (launchCredit (Pipeline.owing due0) 0 (dcell c a i)) = (tallyAt (dcell c a i) () (credOf a) : CellTallies nD τ sig Unit) := by
  unfold tallyAt; refine congrArg _ (Finsupp.ext fun u => ?_); cases u
  rw [Pipeline.launchCredit_owing, Finsupp.single_eq_same, Finset.sum_congr rfl fun d _ => due0_d c d a i]
  simp only [Finset.sum_add_distrib, Finset.sum_ite_eq', Finset.mem_univ, if_true]
  rfl

theorem credOf_1 : credOf 1 = NB := by unfold credOf; simp
theorem credOf_3 : credOf 3 = NB := by unfold credOf; simp
theorem credOf_5 : credOf 5 = NL := by unfold credOf; simp
theorem credOf_7 : credOf 7 = NL := by unfold credOf; simp

/-- A device's credit at the launch: two units of its barrier, and its receive cells'. -/
theorem launch_creds (c : Dev nD) : (Pipeline.launchCred due0 c : sProp 𝕄)
    ⊢ iprop(cred (tallyAt (barCell c) () 2) ∗ bigSep Finset.univ fun i : Fin 8 => iprop(creds (F := F) c i 1 5 ∗ creds c i 3 7)) := by
  unfold Pipeline.launchCred
  have hsub : bigSep Finset.univ (fun sm : SemLoc sig => (cred (tallyOn ((c : Thread nD τ), sm) (launchCredit (Pipeline.owing due0) 0 ((c : Thread nD τ), sm))) : sProp 𝕄))
      ⊢ bigSep (Finset.univ.map ⟨csem, csem_injective⟩) (fun sm : SemLoc sig => (cred (tallyOn ((c : Thread nD τ), sm) (launchCredit (Pipeline.owing due0) 0 ((c : Thread nD τ), sm))) : sProp 𝕄)) :=
    BI.bigSep_subset (Finset.subset_univ _)
  refine hsub.trans ?_
  rw [bigSep_map, bigSep_opt, bigSep_univ_prod, bigSep_fin8]
  unfold creds
  simp only [bigSep_sep', ← credOf_1, ← credOf_5]
  show (iprop(((bigSep Finset.univ fun i : Fin 8 => cred (tallyOn (dcell c 0 i) (launchCredit (Pipeline.owing due0) 0 (dcell c 0 i)))) ∗ (bigSep Finset.univ fun i : Fin 8 => cred (tallyOn (dcell c 1 i) (launchCredit (Pipeline.owing due0) 0 (dcell c 1 i)))) ∗ (bigSep Finset.univ fun i : Fin 8 => cred (tallyOn (dcell c 2 i) (launchCredit (Pipeline.owing due0) 0 (dcell c 2 i)))) ∗ (bigSep Finset.univ fun i : Fin 8 => cred (tallyOn (dcell c 3 i) (launchCredit (Pipeline.owing due0) 0 (dcell c 3 i)))) ∗ (bigSep Finset.univ fun i : Fin 8 => cred (tallyOn (dcell c 4 i) (launchCredit (Pipeline.owing due0) 0 (dcell c 4 i)))) ∗ (bigSep Finset.univ fun i : Fin 8 => cred (tallyOn (dcell c 5 i) (launchCredit (Pipeline.owing due0) 0 (dcell c 5 i)))) ∗ (bigSep Finset.univ fun i : Fin 8 => cred (tallyOn (dcell c 6 i) (launchCredit (Pipeline.owing due0) 0 (dcell c 6 i)))) ∗ (bigSep Finset.univ fun i : Fin 8 => cred (tallyOn (dcell c 7 i) (launchCredit (Pipeline.owing due0) 0 (dcell c 7 i))))) ∗ cred (tallyOn (barCell c) (launchCredit (Pipeline.owing due0) 0 (barCell c)))) : sProp 𝕄) ⊢ _
  simp only [launch_d, launch_bar]
  iintro ⟨⟨-, C1, -, C3, -, C5, -, C7⟩, HB⟩
  isplitl [HB]; · iexact HB
  isplitl [C1 C5]
  · isplitl [C1]; · iexact C1
    iexact C5
  isplitl [C3]; · rw [credOf_1, ← credOf_3]; iexact C3
  rw [credOf_5, ← credOf_7]; iexact C7

end Cert.KernelIdeal.Proof
-- ==== Proof.KI.Launch.lean ====
/-
  The launch: what a device starts with becomes what it holds before its first grid point, what it holds after the last
  one gives back its buffers and counters, and the whole run ends with the arguments unchanged, every counter at zero and
  the result's array at `res`, the merged and normalised output.
-/
module

public import proofs.«01_k».proof.Proof.KI.Fund
public import Idealize.ShloMosaic.Lib.Pipeline.ArrRel
public import Idealize.ShloMosaic.Lib.Quiescent
public import Idealize.ShloMosaic.Lib.Pipeline.CollectiveSegs

@[expose] public section

noncomputable section

namespace Cert.KernelIdeal.Proof

open Cert.KernelIdeal Cert.KernelIdeal.Gen Idealize.ShloMosaic.ValueIdx
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## From the launch to the first point -/

/-- What a device starts with beside its buffers: the cells' records, its tokens and positions, and its credit. -/
def start (c : Dev nD) : sProp 𝕄 := iprop(held m c ∗ levAts L lv ∗ cred (tallyAt (barCell c) () 2)
  ∗ bigSep Finset.univ fun i : Fin 8 => iprop(creds (F := F) c i 1 5 ∗ creds c i 3 7))

theorem start_intro (c : Dev nD) :
    iprop(Pipeline.unscopedRestP Pipeline.Prefetch.none cfg0.spec c (fun b => m ((c : Thread nD τ).loc b)) ∗ levAts L lv
        ∗ Pipeline.launchCred due0 c ∗ prngReg c (ρ c) ∗ held m c)
      ⊢ (|={Set.univ}=> iprop(start m c ∗ emp) : sProp 𝕄) := by
  iintro ⟨-, Hlev, Hcr, -, HG⟩
  ihave Hc := (launch_creds (F := F) c) $$ Hcr
  icases Hc with ⟨H1, HN⟩
  imodintro
  unfold start
  isplitl
  · isplitl [HG]; · iexact HG
    isplitl [Hlev]; · iexact Hlev
    isplitl [H1]; · iexact H1
    iexact HN
  · iempintro

/-- A buffer at whatever contents, as rows. -/
theorem rows4_of_buf (b : Memref sig .tc .vmem S8x16x8x128 .bf16) (c : Dev nD) :
    (iprop(∃ X, owns (c : Thread nD τ) b fullShare X) : sProp 𝕄) ⊢ bigSep Finset.univ fun i : Fin 8 => iprop(∃ Y, row4 b c i fullShare Y) := by
  iintro ⟨%X, H⟩; iapply (rows4_of_whole b c) $$ H
theorem rows3_of_buf (b : Memref sig .tc .vmem S8x16x8 .f32) (c : Dev nD) :
    (iprop(∃ X, owns (c : Thread nD τ) b fullShare X) : sProp 𝕄) ⊢ bigSep Finset.univ fun i : Fin 8 => iprop(∃ Y, row3 b c i fullShare Y) := by
  iintro ⟨%X, H⟩; iapply (rows3_of_whole b c) $$ H

/-- A named buffer's ownership, as a points-to and back. -/
theorem owns_of_pts (c : Dev nD) (b : Ref sig .tc) :
    (iprop(∃ f : Buf (Elt F) ((c : Thread nD τ).loc b), ((c : Thread nD τ).loc b) ↦{fullShare} f) : sProp 𝕄)
      ⊢ iprop(∃ X, owns (c : Thread nD τ) (Memref.whole b) fullShare X) := by
  iintro ⟨%f, H⟩
  iexists f
  rw [owns_whole_eq]
  iexists f
  isplitr; · ipureintro; rfl
  iexact H
theorem pts_of_owns (c : Dev nD) (b : Ref sig .tc) :
    (iprop(∃ X, owns (c : Thread nD τ) (Memref.whole b) fullShare X) : sProp 𝕄)
      ⊢ iprop(∃ f : Buf (Elt F) ((c : Thread nD τ).loc b), ((c : Thread nD τ).loc b) ↦{fullShare} f) := by
  refine exists_elim fun X => ?_
  rw [owns_whole_eq]
  show (iprop(∃ f : Buf (Elt F) ((c : Thread nD τ).loc b), ⌜f = X⌝ ∗ (((c : Thread nD τ).loc b) ↦{fullShare} f)) : sProp 𝕄) ⊢ iprop(∃ f : Buf (Elt F) ((c : Thread nD τ).loc b), ((c : Thread nD τ).loc b) ↦{fullShare} f)
  iintro ⟨%f, -, H⟩
  iexists f
  iexact H

/-- A slot's rows of the device's own two buffers, as their halves. -/
theorem blanks (c : Dev nD) (i : Fin 8) :
    (iprop((∃ Y, row4 bO c i fullShare Y) ∗ ∃ Y, row3 bL c i fullShare Y) : sProp 𝕄) ⊢ iprop(blank (F := F) c i 0 ∗ blank (F := F) c i 1) := by
  iintro ⟨⟨%Y, H⟩, ⟨%Z, G⟩⟩
  ihave H := (halves4_of_row bO c i) $$ H
  ihave G := (halves3_of_row bL c i) $$ G
  icases H with ⟨H0, H1⟩
  icases G with ⟨G0, G1⟩
  unfold blank
  isplitl [H0 G0]
  · isplitl [H0]; · iexact H0
    iexact G0
  isplitl [H1]; · iexact H1
  iexact G1

theorem blankss (c : Dev nD) :
    (bigSep Finset.univ fun i : Fin 8 => (iprop((∃ Y, row4 bO c i fullShare Y) ∗ ∃ Y, row3 bL c i fullShare Y) : sProp 𝕄))
      ⊢ bigSep Finset.univ fun i : Fin 8 => iprop(blank (F := F) c i 0 ∗ blank (F := F) c i 1) :=
  BI.bigSep_mono fun i _ => blanks c i

/-- One slot's stock. -/
theorem stocked (c : Dev nD) (i : Fin 8) :
    (iprop(kept c i ∗ (creds (F := F) c i 1 5 ∗ creds c i 3 7) ∗ (∃ Y, row4 bC1 c i fullShare Y) ∗ ∃ Y, row3 bCl1 c i fullShare Y) : sProp 𝕄) ⊢ stock c i := by
  unfold kept stock await own2
  iintro ⟨⟨T1, T2, P0, P2, P1, P3⟩, ⟨C1, C3⟩, O⟩
  isplitl [T1]; · iexact T1
  isplitl [T2]; · iexact T2
  isplitl [P0]; · iexact P0
  isplitl [P2]; · iexact P2
  isplitl [C1 P1]
  · isplitl [C1]; · iexact C1
    iexact P1
  isplitl [C3 P3]
  · isplitl [C3]; · iexact C3
    iexact P3
  iexact O

theorem stocks (c : Dev nD) :
    (bigSep Finset.univ fun i : Fin 8 => (iprop(kept c i ∗ (creds (F := F) c i 1 5 ∗ creds c i 3 7) ∗ (∃ Y, row4 bC1 c i fullShare Y) ∗ ∃ Y, row3 bCl1 c i fullShare Y) : sProp 𝕄)) ⊢ bigSep Finset.univ fun i : Fin 8 => stock c i :=
  BI.bigSep_mono fun i _ => stocked c i

/-- Two families of rows, slot by slot. -/
theorem pair_up (Φ Ψ : Fin 8 → sProp 𝕄) :
    (iprop(bigSep Finset.univ Φ ∗ bigSep Finset.univ Ψ) : sProp 𝕄) ⊢ bigSep Finset.univ fun i => iprop(Φ i ∗ Ψ i) := by
  rw [bigSep_sep']

theorem assoc_up (c : Dev nD) :
    (bigSep Finset.univ fun i : Fin 8 => (iprop((blank (F := F) c i 0 ∗ blank (F := F) c i 1) ∗ stock c i) : sProp 𝕄))
      ⊢ bigSep Finset.univ fun i : Fin 8 => iprop(blank (F := F) c i 0 ∗ blank (F := F) c i 1 ∗ stock c i) :=
  BI.bigSep_mono fun i _ => show (iprop((blank (F := F) c i 0 ∗ blank (F := F) c i 1) ∗ stock c i) : sProp 𝕄) ⊢ iprop(blank (F := F) c i 0 ∗ blank (F := F) c i 1 ∗ stock c i) from by
    iintro ⟨⟨Ha, Hb⟩, Hc⟩
    isplitl [Ha]; · iexact Ha
    isplitl [Hb]; · iexact Hb
    iexact Hc

/-- What a device holds before its first point. -/
theorem phi0_intro (c : Dev nD) :
    (iprop(start m c ∗ Pipeline.prefHeld Pipeline.Prefetch.none c (fun _ => fullShare.right) (fun k => k.elim0) ∗ Pipeline.scopedRest cfg0.spec c) : sProp 𝕄)
      ⊢ Φat m c 0 := by
  unfold Φat
  rw [if_pos rfl, scopedRest0_eq]
  unfold start held start0 linear
  iintro ⟨⟨⟨%K, HR, D1, D2, A, HK⟩, Hlev, HB, HC⟩, -, ⟨B0, B1, B2, B3, B4, B5, B6, B7, B8⟩⟩
  iexists K
  ihave B0 := (owns_of_pts c cc0_scratch0) $$ B0
  ihave B1 := (owns_of_pts c cc0_scratch1) $$ B1
  ihave B2 := (owns_of_pts c cc0_scratch2) $$ B2
  ihave B3 := (owns_of_pts c cc0_scratch3) $$ B3
  ihave B4 := (owns_of_pts c cc0_scratch4) $$ B4
  ihave B5 := (owns_of_pts c cc0_scratch5) $$ B5
  ihave B6 := (owns_of_pts c cc0_scratch6) $$ B6
  ihave B7 := (owns_of_pts c cc0_scratch7) $$ B7
  ihave B8 := (owns_of_pts c cc0_scratch8) $$ B8
  ihave B1 := (rows4_of_buf bO c) $$ B1
  ihave B2 := (rows3_of_buf bL c) $$ B2
  ihave B3 := (rows4_of_buf bCo0 c) $$ B3
  ihave B4 := (rows4_of_buf bC1 c) $$ B4
  ihave B5 := (rows4_of_buf bCo2 c) $$ B5
  ihave B6 := (rows3_of_buf bCl0 c) $$ B6
  ihave B7 := (rows3_of_buf bCl1 c) $$ B7
  ihave B8 := (rows3_of_buf bCl2 c) $$ B8
  isplitl [HR Hlev D1 D2 HB A B3 B5 B6 B8]
  · isplitl [HR Hlev]
    · unfold env recds
      isplitl [HR]; · iexact HR
      iexact Hlev
    isplitl [D1]; · iexact D1
    isplitl [D2]; · iexact D2
    isplitl [B3 B6]
    · unfold land1
      iapply (pair_up _ _)
      isplitl [B3]; · iexact B3
      iexact B6
    isplitl [B5 B8]
    · unfold land2
      iapply (pair_up _ _)
      isplitl [B5]; · iexact B5
      iexact B8
    isplitl [HB]; · iexact HB
    iexact A
  isplitl [B0]; · iexact B0
  ihave BB := (pair_up (F := F) _ _) $$ [B1 B2]
  · isplitl [B1]; · iexact B1
    iexact B2
  ihave BO := (pair_up (F := F) _ _) $$ [B4 B7]
  · isplitl [B4]; · iexact B4
    iexact B7
  ihave BC := (pair_up (F := F) _ _) $$ [HC BO]
  · isplitl [HC]; · iexact HC
    iexact BO
  ihave BS := (pair_up (F := F) _ _) $$ [HK BC]
  · isplitl [HK]; · iexact HK
    iexact BC
  ihave BS := (stocks (F := F) c) $$ BS
  ihave BB := (blankss (F := F) c) $$ BB
  ihave H := (pair_up (F := F) _ _) $$ [BB BS]
  · isplitl [BB]; · iexact BB
    iexact BS
  iapply (assoc_up (F := F) c) $$ H

/-! ## After the last point -/

/-- After the last point every slot is back at its buffers and counters: the barrier's counter, the transfers'
    counters and the scratch buffers are returned. -/
theorem phi_exit (c : Dev nD) :
    Φat m c 16 ⊢ (iprop(unscopedSems0 c ∗ Pipeline.ownSems0 osem c ∗ Pipeline.scopedRest cfg0.spec c) : sProp 𝕄) := by
  unfold Φat
  rw [if_neg (by decide), scopedRest0_eq, unscopedSems0_eq]
  unfold Pipeline.ownSems0 mid ready slots
  have hph : ∀ i, ph 16 i = 6 := by decide
  simp only [hph, slot_6]
  unfold rowsBack zeros
  simp only [bigSep_sep']
  rw [bigSep_univ_prod, bigSep_fin8 (fun a => bigSep Finset.univ fun b : Fin 8 => (semVal ((c : Thread nD τ), osem (a, b)) 0 : sProp 𝕄))]
  iintro ⟨%K, ⟨-, ⟨B1, B2, B3, B4, B5, B6, B7, B8⟩, Z0, Z1, Z2, Z3, Z4, Z5, Z6, Z7⟩, HM, HB⟩
  isplitl [HB]; · iexact HB
  isplitl [Z0 Z1 Z2 Z3 Z4 Z5 Z6 Z7]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    iexact Z7
  isplitl [HM]
  · iapply (pts_of_owns c cc0_scratch0)
    iexists MASK; iexact HM
  isplitl [B1]
  · iapply (pts_of_owns c cc0_scratch1)
    iapply (whole_of_rows4 bO c) $$ B1
  isplitl [B2]
  · iapply (pts_of_owns c cc0_scratch2)
    iapply (whole_of_rows3 bL c) $$ B2
  isplitl [B3]
  · iapply (pts_of_owns c cc0_scratch3)
    iapply (whole_of_rows4 bCo0 c) $$ B3
  isplitl [B4]
  · iapply (pts_of_owns c cc0_scratch4)
    iapply (whole_of_rows4 bC1 c) $$ B4
  isplitl [B5]
  · iapply (pts_of_owns c cc0_scratch5)
    iapply (whole_of_rows4 bCo2 c) $$ B5
  isplitl [B6]
  · iapply (pts_of_owns c cc0_scratch6)
    iapply (whole_of_rows3 bCl0 c) $$ B6
  isplitl [B7]
  · iapply (pts_of_owns c cc0_scratch7)
    iapply (whole_of_rows3 bCl1 c) $$ B7
  iapply (pts_of_owns c cc0_scratch8)
  iapply (whole_of_rows3 bCl2 c) $$ B8

/-- The pipeline's own waits are below everything a device owes. -/
theorem waits (c : Dev nD) : (levAts L lv : sProp 𝕄) ⊢ Pipeline.RDat.cellsWaits cfgs (fun p c => (dats m p c).toRRel marked (Leaves m c)) () 0 c :=
  Pipeline.RDat.cellsWaits_intro cfgs _ () 0 c fun w s t => by
    have hl : lv ((c : Thread nD τ), .dma ((cfg0.win w).sem s)) () = 0 := by
      fin_cases w <;> fin_cases s <;> rfl
    have : (levAts L lv : sProp 𝕄) ⊢ MayWait (c : Thread nD τ) (.dma ((cfg0.win w).sem s)) () (owedAt c t.val) := by
      unfold owedAt owed
      split
      · exact mayWait_due0 c _ (le_of_eq hl)
      · split
        · rw [MayWait_zero]; exact BI.true_intro
        · exact mayWait_dueS c _ _ _ 0 (le_of_eq hl) (fun i _ => Nat.succ_pos _) (fun i _ => Nat.succ_pos _)
    exact this

/-! ## The run -/

/-- A device's result: row by row the slots' merged and normalised outputs. -/
def res (c : Dev nD) : S8x8x16x128.Idx → Elt F .f32 := fun x => outR (qB m) (kB m) (vB m) c (x 0) (ix4 0 (x 1) (x 2) (x 3))

theorem RO_split (x : S8x8x16x128.Idx) : (RO (x 0)).emb (ix4 0 (x 1) (x 2) (x 3)) = x := by
  funext a
  apply Fin.ext
  show _ + 1 * _ = _
  fin_cases a <;> simp

theorem res_of_outOK (c : Dev nD) {X : S8x8x16x128.Idx → Elt F .f32} (h : outOK (qB m) (kB m) (vB m) c (fin 16) X) : X = res m c := by
  funext x
  have := h (x 0) (Or.inr rfl) (ix4 0 (x 1) (x 2) (x 3))
  rw [RO_split] at this
  exact this

/-- The result's array is written whole, at the last point. -/
theorem whole_last : (cfg0.win 3).WholeAt ⟨15, by decide⟩ := by decide +kernel

set_option maxRecDepth 8000 in
/-- From any memory with zero counters, every weakly fair run ends; at its end every device's arguments are unchanged,
    its result's array holds `res`, and every counter is at zero. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v1) = res m c)
    ∧ r.2.sem = fun _ => 0) :=
  haveI : ∀ e, Nonempty (Elt F e) := elt_nonempty
  Pipeline.RDat.θ_run_region_owing_glob_pf (fun p => (cfgs p).toPCfg) (fun p => (cfgs p).toPCfg_adm)
    (fun p c => (dats m p c).toRRel marked (Leaves m c)) () cellOf_inj (0 : Fin 1)
    winFacts0.to₀ ownSemFacts (Pipeline.PreFacts.none _) EP defs₀ 𝒱₀ m ρ main
    (hmain := fun _ => rfl) (hbody := fun c => (body_obligation m c).toRRel) (hne := block_pos0) (harr := arr_whole0) (hstage := stage_whole0)
    (hshare := fun c w => by show (dats m 0 c).share w = fullShare; unfold Pipeline.Dat.share; split <;> rfl)
    (hdistinct := winFacts0.arr_inj) (O₀ := due0) (howed₀ := fun _ => rfl) (howedN := fun _ => rfl)
    (L := L) (lv := lv) (hL := L_of_ne) (hwaits := waits m) (G := dealt m) (G' := held m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m) (hA := fun _ _ => rfl) (hpf := fun _ k => k.elim0)
    (X := start m) (Y := fun c => unscopedSems0 c) (Z := fun _ => iprop(emp))
    (hX := start_intro m ρ) (hin := phi0_intro m) (hout := phi_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun s h hs => ⟨fun c => by
        have hin := fun w (hw : (cfg0.win w).isOut = false) => (Pipeline.RDat.ArrAt_in (rd := (dats m 0 c).toRRel marked (Leaves m c)) w hw cfg0.N) ▸ (h c).1 w
        refine ⟨hin 0 rfl, hin 1 rfl, hin 2 rfl, ?_⟩
        obtain ⟨X, hX, hj⟩ := ((h c).1 3).emb_eq_of_wholeAt whole_last
        have hX' : outOK (qB m) (kB m) (vB m) c (fin 16) X := (dats m 0 c).toRRel_leaves (w := 3) rfl hX
        rw [← res_of_outOK m c hX']
        exact funext fun j => hj j,
      sem_eq_zero hs fun c => (h c).2.2⟩)

end Cert.KernelIdeal.Proof
-- ==== Proof.Frames.lean ====
/-
  The frame claims and the named constant: every program ends with its arguments unchanged and every semaphore counter at
  zero. The kernel's runs are `run_main` (KI/Launch.lean over the extended reals, K/Launch.lean over float words)
  with the result dropped; the reference's is its host operations' run.
-/
module

public import proofs.«01_k».proof.Defs
public import proofs.«01_k».proof.Proof.KI.Launch
public import proofs.«01_k».proof.Proof.K.Launch
public import proofs.«01_k».proof.Proof.Gen.ReferenceIdeal.Run

@[expose] public section

noncomputable section

namespace Cert.Proof

open Idealize.ShloMosaic Idealize.ShloMosaic.TcCoe Idealize.SL.Sem

/-- The kernel, at float words. -/
theorem frame_p : Cert.quiescent_Kernel := fun m ρ _ =>
  (θ_run Cert.Kernel.defs _ _).mono (fun _ h => ⟨fun c => ⟨(h.1 c).1, (h.1 c).2.1, (h.1 c).2.2.1⟩, h.2⟩)
    (Cert.Kernel.Proof.run_main (F := Bits) m ρ)

/-- The idealized kernel, at the extended reals. -/
theorem frame_pi : Cert.quiescent_KernelIdeal := fun m ρ _ =>
  (θ_run Cert.KernelIdeal.defs _ _).mono (fun _ h => ⟨fun c => ⟨(h.1 c).1, (h.1 c).2.1, (h.1 c).2.2.1⟩, h.2⟩)
    (Cert.KernelIdeal.Proof.run_main (F := Ideal) m ρ)

/-- The reference, which has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The constant 0.08837890625 is the one named `(√128)⁻¹`. -/
theorem preserves : Cert.preserves_Kernel_KernelIdeal :=
  IdealRules.named_const.statement Cert.KernelIdeal.κ "scale" .bf16 0x3DB5#16 (((Real.sqrt 128)⁻¹ : ℝ) : EReal) rfl

end Cert.Proof

end
-- ==== Proof.Val.Algebra.lean ====
/-
  Softmax over the extended reals: the two ways of normalizing meet, and sums over rows and over devices regroup.
-/
module

public import Idealize.ShloMosaic.PureOps.Ideal.Laws
public import Idealize.ShloMosaic.Lib.Pointwise

@[expose] public section

noncomputable section

namespace Cert.Proof.Val

open Idealize.ShloMosaic

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Multiplying a finite sum by a nonnegative real, whatever the terms. -/
theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

/-- The greatest of finitely many reals, at least one, is a real. -/
theorem fold_max_real {ι : Type} [Fintype ι] [Nonempty ι] (s : ι → ℝ) :
    ∃ M : ℝ, (Finset.univ : Finset ι).fold max ⊥ (fun k => (s k : EReal)) = (M : EReal) := by
  classical
  have key : ∀ t : Finset ι, t.fold max (⊥ : EReal) (fun k => (s k : EReal)) = ⊥ ∧ t = ∅ ∨
      ∃ M : ℝ, t.fold max (⊥ : EReal) (fun k => (s k : EReal)) = (M : EReal) := by
    intro t
    induction t using Finset.induction_on with
    | empty => exact Or.inl ⟨rfl, rfl⟩
    | insert a t ha ih =>
      right
      rw [Finset.fold_insert ha]
      rcases ih with ⟨h, -⟩ | ⟨M, h⟩
      · exact ⟨s a, by rw [h]; exact max_bot_right _⟩
      · rw [h]
        rcases le_total (s a) M with hle | hle
        · exact ⟨M, max_eq_right (EReal.coe_le_coe_iff.2 hle)⟩
        · exact ⟨s a, max_eq_left (EReal.coe_le_coe_iff.2 hle)⟩
  rcases key Finset.univ with ⟨-, h⟩ | h
  · exact absurd h Finset.univ_nonempty.ne_empty
  · exact h

/-- **Shifting by the maximum and normalizing each weight, or summing first and dividing once**: the same value, for
    real scores and any values. -/
theorem softmax_eq {ι : Type} [Fintype ι] [Nonempty ι] (s : ι → ℝ) (v : ι → EReal) (M : ℝ) :
    (∑ k, v k * Ideal.div (Ideal.exp ((s k : EReal) - (M : EReal))) (∑ k', Ideal.exp ((s k' : EReal) - (M : EReal))))
      = Ideal.div (∑ k, Ideal.exp (s k : EReal) * v k) (∑ k, Ideal.exp (s k : EReal)) := by
  have hM : ∀ k, Ideal.exp ((s k : EReal) - (M : EReal)) = ((Real.exp (s k) * Real.exp (-M) : ℝ) : EReal) := fun k => by
    rw [← EReal.coe_sub, Ideal.exp_coe, sub_eq_add_neg, Real.exp_add]
  have hE : ∀ k, Ideal.exp (s k : EReal) = (Real.exp (s k) : EReal) := fun k => Ideal.exp_coe _
  simp only [hM, hE]
  rw [← coe_sum, ← coe_sum]
  have hL : 0 < ∑ k, Real.exp (s k) := Finset.sum_pos (fun k _ => Real.exp_pos _) Finset.univ_nonempty
  have hL' : 0 < ∑ k, Real.exp (s k) * Real.exp (-M) :=
    Finset.sum_pos (fun k _ => mul_pos (Real.exp_pos _) (Real.exp_pos _)) Finset.univ_nonempty
  rw [Ideal.div_coe hL.ne', sum_mul_real _ _ (by positivity)]
  refine Finset.sum_congr rfl fun k _ => ?_
  rw [Ideal.div_coe hL'.ne', ← EReal.coe_mul, mul_comm ((Real.exp (s k) : ℝ) : EReal) (v k), mul_assoc (v k), ← EReal.coe_mul]
  congr 2
  rw [← Finset.sum_mul]
  have := Real.exp_pos (-M)
  field_simp

/-- A sum over rows `key * 8 + head` is a sum over keys and heads. -/
theorem sum_rows (f : Fin 1024 → Fin 8 → EReal) :
    ∑ x : Fin 8192, f ⟨x.val / 8, by omega⟩ ⟨x.val % 8, by omega⟩ = ∑ k, ∑ h, f k h := by
  rw [← Fintype.sum_prod_type']
  exact Fintype.sum_equiv (finProdFinEquiv (m := 1024) (n := 8)).symm _ _ fun x => rfl

/-- A sum over all keys is a sum over devices and each device's keys. -/
theorem sum_keys (g : Fin 4096 → EReal) :
    ∑ k, g k = ∑ c : Fin 4, ∑ k : Fin 1024, g ⟨c.val * 1024 + k.val, by omega⟩ := by
  rw [← Fintype.sum_prod_type' (f := fun (c : Fin 4) (k : Fin 1024) => g ⟨c.val * 1024 + k.val, by omega⟩)]
  refine Fintype.sum_equiv (finProdFinEquiv (m := 4) (n := 1024)).symm _ _ fun x => congrArg g (Fin.ext ?_)
  show x.val = x.val / 1024 * 1024 + x.val % 1024
  omega

end Cert.Proof.Val

end
-- ==== Proof.Val.Part.lean ====
/-
  What one device's grid point computes, element by element over the extended reals: the sums over its keys of the
  weights and of the weighted values. The mask leaves, of every block of rows, the rows of the column's own head.
-/
module

public import proofs.«01_k».proof.Proof.KI.Body
public import proofs.«01_k».proof.Proof.Val.Algebra

@[expose] public section

noncomputable section

namespace Cert.Proof.Val

open Idealize.ShloMosaic Cert.KernelIdeal Cert.KernelIdeal.Gen
open Cert.KernelIdeal.Proof (MASK)

set_option maxRecDepth 16384

/-- The named constant. -/
theorem scale_eq : (Named.named (F := Ideal) Cert.KernelIdeal.κ "scale" (φ := .bf16) 0x3DB5#16) = (((Real.sqrt 128)⁻¹ : ℝ) : EReal) :=
  IdealRules.named_const.ideal_named_scalar _ _ _ _ rfl

/-! ## The mask -/

/-- A row's head, as a word. -/
theorem rowWord (r : Fin 8192) (cl : Fin 64) : k0_pay5 (ix2 r cl) = BitVec.ofNat 32 (r.val % 8) := by
  pointwise [k0_pay5]
  revert r; decide +kernel

/-- One bit of the mask: a row of head `h'` against column `cl`. -/
theorem colWord (h' : Fin 8) (cl : Fin 64) (v : IVec S8192x64 32) (r : Fin 8192) (hv : v (ix2 r cl) = BitVec.ofNat 32 h'.val) :
    k0_pay19 (F := Ideal) (iota .tc S8192x64 32 [1] iota_S8192x64_d1_w32) v 8#32 k0_pay6 k0_pay7 k0_pay8 (ix2 r cl)
      = if h'.val = cl.val / 8 then 1 else 0 := by
  pointwise [k0_pay19, k0_pay6, k0_pay7, k0_pay8]
  rw [hv]
  have e : ∀ (h' : Fin 8) (cl : Fin 64), (IntOp.cmpi CmpIPredicate.eq (BitVec.ofNat 32 h'.val)
        (Scalar.select
          (IntOp.andi
            (IntOp.cmpi CmpIPredicate.ne
              (IntOp.subi (BitVec.setWidth 32 (IntOp.cmpi CmpIPredicate.sgt (BitVec.ofNat 32 cl.val) 0#32))
                (BitVec.setWidth 32 (IntOp.cmpi CmpIPredicate.slt (BitVec.ofNat 32 cl.val) 0#32)))
              (Scalar.subi (Scalar.extui (Scalar.cmpi CmpIPredicate.sgt 8#32 0#32))
                (Scalar.extui (Scalar.cmpi CmpIPredicate.slt 8#32 0#32))))
            (IntOp.cmpi CmpIPredicate.ne (IntOp.remsi ArithUnit.vector (BitVec.ofNat 32 cl.val) 8#32) 0#32))
          (IntOp.subi (IntOp.divsi ArithUnit.vector (BitVec.ofNat 32 cl.val) 8#32) 1#32)
          (IntOp.divsi ArithUnit.vector (BitVec.ofNat 32 cl.val) 8#32))) = if h'.val = cl.val / 8 then 1#1 else 0#1 := by
    decide +kernel
  rw [e h' cl]
  split <;> rfl

/-- **The mask**: one where the row's head is the column's, zero elsewhere. -/
theorem mask_at (r : Fin 8192) (cl : Fin 64) : MASK (F := Ideal) (ix2 r cl) = if r.val % 8 = cl.val / 8 then 1 else 0 :=
  colWord ⟨r.val % 8, by omega⟩ cl k0_pay5 r (rowWord r cl)

/-! ## A point's weights and sums -/

/-- The score of key `k` for query `q`, at a head of the block. -/
def sc (K : FVec Ideal S1x1024x8x128 .bf16) (Q : FVec Ideal S1x8x8x128 .bf16) (h : Fin 8) (q : Fin 8) (k : Fin 1024) : EReal :=
  ∑ d : Fin 128, K (ix4 0 k h d) * (Q (ix4 0 q h d) * (((Real.sqrt 128)⁻¹ : ℝ) : EReal))

/-- The weight at a row and a column. -/
theorem pay20_at (K : FVec Ideal S1x1024x8x128 .bf16) (Q : FVec Ideal S1x8x8x128 .bf16) (r : Fin 8192) (h q : Fin 8) :
    k0_pay20 (F := Ideal) K Q MASK (ix2 r ⟨h.val * 8 + q.val, by omega⟩)
      = if r.val % 8 = h.val then Ideal.exp (sc K Q h q ⟨r.val / 8, by omega⟩) else
        Ideal.exp (∑ d : Fin 128, K (ix4 0 ⟨r.val / 8, by omega⟩ ⟨r.val % 8, by omega⟩ d) * (Q (ix4 0 q h d) * (((Real.sqrt 128)⁻¹ : ℝ) : EReal))) * 0 := by
  pointwise [k0_pay20]
  rw [mask_at, scale_eq]
  have e1 : (⟨(h.val * 8 + q.val) % 8, by omega⟩ : Fin 8) = q := Fin.ext (by show (h.val * 8 + q.val) % 8 = q.val; omega)
  have e2 : (⟨(h.val * 8 + q.val) / 8, by omega⟩ : Fin 8) = h := Fin.ext (by show (h.val * 8 + q.val) / 8 = h.val; omega)
  simp only [e1, e2, show (h.val * 8 + q.val) / 8 = h.val by omega]
  by_cases hh : r.val % 8 = h.val
  · have e3 : (⟨r.val % 8, by omega⟩ : Fin 8) = h := Fin.ext hh
    rw [if_pos hh, if_pos hh, mul_one, e3]; rfl
  · rw [if_neg hh, if_neg hh]

/-- **A point's weighted values**: the sum over the device's keys. -/
theorem oAt_at (K V : FVec Ideal S1x1024x8x128 .bf16) (Q : FVec Ideal S1x8x8x128 .bf16) (h q : Fin 8) (d : Fin 128) :
    k0_pay1 (k0_pay22 (F := Ideal) K V Q MASK) (ix4 0 h q d)
      = ∑ k : Fin 1024, Ideal.exp (sc K Q h q k) * V (ix4 0 k h d) := by
  pointwise [k0_pay22, k0_pay1]
  simp only [pay20_at]
  refine (sum_rows fun k h' => (if h'.val = h.val then Ideal.exp (sc K Q h q k) else
        Ideal.exp (∑ d : Fin 128, K (ix4 0 k h' d) * (Q (ix4 0 q h d) * (((Real.sqrt 128)⁻¹ : ℝ) : EReal))) * 0) * V (ix4 0 k h' d)).trans ?_
  refine Finset.sum_congr rfl fun k _ => ?_
  rw [Finset.sum_eq_single h]
  · rw [if_pos rfl]
  · intro b _ hb
    rw [if_neg (fun e => hb (Fin.ext e)), mul_zero, zero_mul]
  · intro hn; exact absurd (Finset.mem_univ _) hn

/-- **A point's weights**: the sum over the device's keys. -/
theorem lAt_at (K : FVec Ideal S1x1024x8x128 .bf16) (Q : FVec Ideal S1x8x8x128 .bf16) (h q : Fin 8) :
    k0_pay2 (k0_pay21 (F := Ideal) K Q MASK) (ix3 0 h q) = ∑ k : Fin 1024, Ideal.exp (sc K Q h q k) := by
  pointwise [k0_pay21, k0_pay2]
  simp only [pay20_at]
  refine (sum_rows fun k h' => (if h'.val = h.val then Ideal.exp (sc K Q h q k) else
        Ideal.exp (∑ d : Fin 128, K (ix4 0 k h' d) * (Q (ix4 0 q h d) * (((Real.sqrt 128)⁻¹ : ℝ) : EReal))) * 0)).trans ?_
  refine Finset.sum_congr rfl fun k _ => ?_
  rw [Finset.sum_eq_single h]
  · rw [if_pos rfl]
  · intro b _ hb
    rw [if_neg (fun e => hb (Fin.ext e)), mul_zero]
  · intro hn; exact absurd (Finset.mem_univ _) hn

/-! ## Adding devices' sums, and dividing -/

/-- A sum of two devices' weights. -/
theorem pay3_at (A B : FVec Ideal S1x16x8 .f32) (a : Fin 16) (b : Fin 8) :
    k0_pay3 (F := Ideal) A B (ix3 0 a b) = A (ix3 0 a b) + B (ix3 0 a b) := by
  pointwise [k0_pay3]
/-- A sum of two devices' weighted values. -/
theorem pay9_at (A B : FVec Ideal S1x16x8x128 .bf16) (a : Fin 16) (b : Fin 8) (d : Fin 128) :
    k0_pay9 (F := Ideal) A B (ix4 0 a b d) = A (ix4 0 a b d) + B (ix4 0 a b d) := by
  pointwise [k0_pay9]
/-- The last sums and the quotient. -/
theorem pay4_at (A B : FVec Ideal S1x16x8x128 .bf16) (C D : FVec Ideal S1x16x8 .f32) (a : Fin 16) (b : Fin 8) (d : Fin 128) :
    k0_pay4 (F := Ideal) (k0_pay10 A B) (k0_pay11 C D) (ix4 0 b a d)
      = Ideal.div (A (ix4 0 a b d) + B (ix4 0 a b d)) (C (ix3 0 a b) + D (ix3 0 a b)) := by
  pointwise [k0_pay4, k0_pay10, k0_pay11]

end Cert.Proof.Val

end
-- ==== Proof.Val.Ref.lean ====
/-
  The reference's result, element by element over the extended reals.
-/
module

public import proofs.«01_k».proof.Proof.Gen.ReferenceIdeal.Run
public import proofs.«01_k».proof.Proof.Val.Algebra

@[expose] public section

noncomputable section

namespace Cert.Proof.Val

open Idealize.ShloMosaic Cert.ReferenceIdeal Cert.ReferenceIdeal.Gen

set_option maxRecDepth 16384

/-- The scores' array. -/
def refS (Q : FVec Ideal S8x8x16x128 .bf16) (K : FVec Ideal S8x4096x16x128 .bf16) : FVec Ideal S8x16x8x4096 .f32 :=
  mulf (Host.dotGeneral dot_S8x8x16x128_S8x4096x16x128_S8x16x8x4096_3_3_1_1_02_02 none (extf .f32 Q bitsLt_bf16_f32) (extf .f32 K bitsLt_bf16_f32)) (broadcastInDim S8x16x8x4096 ![] bcast_S_S8x16x8x4096 (Host.divf (constant S_ .f32 0x3F800000#32) (Host.sqrt (constant S_ .f32 0x43000000#32))))

/-- The weights' array: every score less its row's maximum, then the exponential. -/
def refE (Q : FVec Ideal S8x8x16x128 .bf16) (K : FVec Ideal S8x4096x16x128 .bf16) : FVec Ideal S8x16x8x4096 .f32 :=
  Host.exp (subf (refS Q K) (broadcastInDim S8x16x8x4096 ![0, 1, 2, 3] bcast_S8x16x8x1_S8x16x8x4096_0_1_2_3 (broadcastInDim S8x16x8x1 ![0, 1, 2] bcast_S8x16x8_S8x16x8x1_0_1_2 (Host.reduce FloatOps.maximumf (refS Q K) (constant S_ .f32 0xFF800000#32) reducesTo_S8x16x8x4096_S8x16x8_d3 h_S_))))

/-- The result's array. -/
def refO (Q : FVec Ideal S8x8x16x128 .bf16) (K V : FVec Ideal S8x4096x16x128 .bf16) : FVec Ideal S8x8x16x128 .f32 :=
  transpose S8x8x16x128 [0, 3, 1, 2] (Host.dotGeneral dot_S8x4096x16x128_S8x16x8x4096_S8x16x128x8_1_3_3_2_02_01 none (extf .f32 V bitsLt_bf16_f32) (Host.divf (refE Q K) (broadcastInDim S8x16x8x4096 ![0, 1, 2, 3] bcast_S8x16x8x1_S8x16x8x4096_0_1_2_3 (broadcastInDim S8x16x8x1 ![0, 1, 2] bcast_S8x16x8_S8x16x8x1_0_1_2 (Host.reduceAdd (refE Q K) (constant S_ .f32 0x00000000#32) reducesTo_S8x16x8x4096_S8x16x8_d3 h_S_))))) transposes_S8x16x128x8_S8x8x16x128_0_3_1_2

/-- The head dimension. -/
theorem bits_128 : Ideal.ofBits .f32 0x43000000#32 = ((128 : ℝ) : EReal) := by simp [Ideal.ofBits, Ideal.ieee, -EReal.coe_mul]; norm_num

/-- The maximum's start. -/
theorem bits_neg_inf : Ideal.ofBits .f32 0xFF800000#32 = ⊥ := by simp [Ideal.ofBits, Ideal.ieee]

/-- A score: the dot product, scaled. -/
theorem refS_at (Q : FVec Ideal S8x8x16x128 .bf16) (K : FVec Ideal S8x4096x16x128 .bf16) (b : Fin 8) (h : Fin 16) (q : Fin 8) (k : Fin 4096) :
    refS Q K (ix4 b h q k) = (∑ d : Fin 128, Q (ix4 b q h d) * K (ix4 b k h d)) * (((Real.sqrt 128)⁻¹ : ℝ) : EReal) := by
  pointwise [refS]
  rw [bits_128, Ideal.sqrt_coe, if_neg (by norm_num), Ideal.div_coe (Real.sqrt_ne_zero'.2 (by norm_num)), one_mul, one_div]

/-- A weight. -/
theorem refE_at (Q : FVec Ideal S8x8x16x128 .bf16) (K : FVec Ideal S8x4096x16x128 .bf16) (b : Fin 8) (h : Fin 16) (q : Fin 8) (k : Fin 4096) :
    refE Q K (ix4 b h q k) = Ideal.exp (refS Q K (ix4 b h q k) - (Finset.univ : Finset (Fin 4096)).fold max ⊥ (fun k' => refS Q K (ix4 b h q k'))) := by
  pointwise [refE]
  rw [bits_neg_inf]

/-- A result: the values weighted by the normalized weights. -/
theorem refO_at (Q : FVec Ideal S8x8x16x128 .bf16) (K V : FVec Ideal S8x4096x16x128 .bf16) (b : Fin 8) (q : Fin 8) (h : Fin 16) (d : Fin 128) :
    refO Q K V (ix4 b q h d) = ∑ k : Fin 4096, V (ix4 b k h d) * Ideal.div (refE Q K (ix4 b h q k)) (∑ k' : Fin 4096, refE Q K (ix4 b h q k')) := by
  pointwise [refO]

end Cert.Proof.Val

end
-- ==== Proof.Val.Value.lean ====
/-
  The kernel's result is the reference's, element by element over the extended reals, where every query and key is finite.
-/
module

public import proofs.«01_k».proof.Proof.KI.Launch
public import Idealize.ShloMosaic.Lib.Pipeline.ValueKit
public import proofs.«01_k».proof.Proof.Val.Part
public import proofs.«01_k».proof.Proof.Val.Ref

@[expose] public section

noncomputable section

namespace Cert.Proof.Val

open Idealize.ShloMosaic Idealize.ShloMosaic.TcCoe Cert.KernelIdeal Cert.KernelIdeal.Gen
open Cert.KernelIdeal.Proof (MASK Pt ptOf p1 p2 qB kB vB oAt lAt oA lB om lm c1 cl1 outRow outR res)

set_option maxRecDepth 16384

variable (m : (ℓ : Loc nD τ sig) → Buf (Elt Ideal) ℓ)

/-- A device's queries. -/
abbrev aQ (c : Dev nD) : FVec Ideal S8x8x16x128 .bf16 := m ((c : Thread nD τ).loc main_arg0)
/-- A device's keys. -/
abbrev aK (c : Dev nD) : FVec Ideal S8x1024x16x128 .bf16 := m ((c : Thread nD τ).loc main_arg1)
/-- A device's values. -/
abbrev aV (c : Dev nD) : FVec Ideal S8x1024x16x128 .bf16 := m ((c : Thread nD τ).loc main_arg2)

/-! ## What a grid point's blocks hold -/

/-- The block of queries a slot's half fetches: its batch entry, its eight heads. -/
theorem idx0 (i : Fin 8) (h2 : Fin 2) : win0_0.index (ptOf i h2) = ![i.val, 0, h2.val, 0] := by
  fin_cases i <;> fin_cases h2 <;> rfl
/-- The block of keys. -/
theorem idx1 (i : Fin 8) (h2 : Fin 2) : win0_1.index (ptOf i h2) = ![i.val, 0, h2.val, 0] := by
  fin_cases i <;> fin_cases h2 <;> rfl
/-- The block of values. -/
theorem idx2 (i : Fin 8) (h2 : Fin 2) : win0_2.index (ptOf i h2) = ![i.val, 0, h2.val, 0] := by
  fin_cases i <;> fin_cases h2 <;> rfl

/-- The queries' block, element by element. -/
theorem qB_at (c : Dev nD) (i : Fin 8) (h2 : Fin 2) (q h : Fin 8) (d : Fin 128) :
    qB m c (ptOf i h2) (ix4 0 q h d) = aQ m c (ix4 i q ⟨h2.val * 8 + h.val, by omega⟩ d) := by
  show iblk m c 0 (ptOf i h2) (ix4 0 q h d) = _
  blk_ext [iblk, V, idx0 i h2]
/-- The keys' block, element by element. -/
theorem kB_at (c : Dev nD) (i : Fin 8) (h2 : Fin 2) (k : Fin 1024) (h : Fin 8) (d : Fin 128) :
    kB m c (ptOf i h2) (ix4 0 k h d) = aK m c (ix4 i k ⟨h2.val * 8 + h.val, by omega⟩ d) := by
  show iblk m c 1 (ptOf i h2) (ix4 0 k h d) = _
  blk_ext [iblk, V, idx1 i h2]
/-- The values' block, element by element. -/
theorem vB_at (c : Dev nD) (i : Fin 8) (h2 : Fin 2) (k : Fin 1024) (h : Fin 8) (d : Fin 128) :
    vB m c (ptOf i h2) (ix4 0 k h d) = aV m c (ix4 i k ⟨h2.val * 8 + h.val, by omega⟩ d) := by
  show iblk m c 2 (ptOf i h2) (ix4 0 k h d) = _
  blk_ext [iblk, V, idx2 i h2]

/-! ## One device's sums -/

/-- The score of a device's key, from its arrays. -/
def dsc (c : Dev nD) (b q : Fin 8) (h : Fin 16) (k : Fin 1024) : EReal :=
  ∑ d : Fin 128, aK m c (ix4 b k h d) * (aQ m c (ix4 b q h d) * (((Real.sqrt 128)⁻¹ : ℝ) : EReal))

/-- A point's scores are its device's. -/
theorem sc_eq (c : Dev nD) (i : Fin 8) (h2 : Fin 2) (h q : Fin 8) (k : Fin 1024) :
    sc (kB m c (ptOf i h2)) (qB m c (ptOf i h2)) h q k = dsc m c i q ⟨h2.val * 8 + h.val, by omega⟩ k := by
  unfold sc dsc
  exact Finset.sum_congr rfl fun d _ => by rw [kB_at, qB_at]

/-- **A device's weighted values**, at every head. -/
theorem om_at (c : Dev nD) (i : Fin 8) (h : Fin 16) (q : Fin 8) (d : Fin 128) :
    om (qB m) (kB m) (vB m) c i (ix4 0 h q d)
      = ∑ k : Fin 1024, Ideal.exp (dsc m c i q h k) * aV m c (ix4 i k h d) := by
  have half : ∀ (h2 : Fin 2) (h' : Fin 8), oA (qB m) (kB m) (vB m) c i h2 (ix4 0 h' q d)
      = ∑ k : Fin 1024, Ideal.exp (dsc m c i q ⟨h2.val * 8 + h'.val, by omega⟩ k) * aV m c (ix4 i k ⟨h2.val * 8 + h'.val, by omega⟩ d) := fun h2 h' => by
    refine (oAt_at (kB m c (ptOf i h2)) (vB m c (ptOf i h2)) (qB m c (ptOf i h2)) h' q d).trans ?_
    exact Finset.sum_congr rfl fun k _ => by rw [sc_eq, vB_at]
  by_cases hlt : h.val < 8
  · refine (dif_pos hlt).trans ((half 0 ⟨h.val, hlt⟩).trans ?_)
    have e : (⟨(0 : Fin 2).val * 8 + h.val, by omega⟩ : Fin 16) = h := Fin.ext (by simp)
    rw [e]
  · refine (dif_neg hlt).trans ((half 1 ⟨h.val - 8, by omega⟩).trans ?_)
    have e : (⟨(1 : Fin 2).val * 8 + (h.val - 8), by omega⟩ : Fin 16) = h := Fin.ext (by simp; omega)
    rw [e]

/-- **A device's weights**, at every head. -/
theorem lm_at (c : Dev nD) (i : Fin 8) (h : Fin 16) (q : Fin 8) :
    lm (qB m) (kB m) c i (ix3 0 h q) = ∑ k : Fin 1024, Ideal.exp (dsc m c i q h k) := by
  have half : ∀ (h2 : Fin 2) (h' : Fin 8), lB (qB m) (kB m) c i h2 (ix3 0 h' q)
      = ∑ k : Fin 1024, Ideal.exp (dsc m c i q ⟨h2.val * 8 + h'.val, by omega⟩ k) := fun h2 h' => by
    refine (lAt_at (kB m c (ptOf i h2)) (qB m c (ptOf i h2)) h' q).trans ?_
    exact Finset.sum_congr rfl fun k _ => by rw [sc_eq]
  by_cases hlt : h.val < 8
  · refine (dif_pos hlt).trans ((half 0 ⟨h.val, hlt⟩).trans ?_)
    have e : (⟨(0 : Fin 2).val * 8 + h.val, by omega⟩ : Fin 16) = h := Fin.ext (by simp)
    rw [e]
  · refine (dif_neg hlt).trans ((half 1 ⟨h.val - 8, by omega⟩).trans ?_)
    have e : (⟨(1 : Fin 2).val * 8 + (h.val - 8), by omega⟩ : Fin 16) = h := Fin.ext (by simp; omega)
    rw [e]

/-! ## All devices' sums -/

/-- The two exchanges reach every device once. -/
theorem sum_dev (f : Dev nD → EReal) (c : Dev nD) : (f c + f (p1 c)) + (f (p2 c) + f (p1 (p2 c))) = ∑ c' : Fin 4, f c' := by
  have e : ∀ c : Fin 4, (c = 0 ∧ p1 c = 1 ∧ p2 c = 3 ∧ p1 (p2 c) = 2) ∨ (c = 1 ∧ p1 c = 0 ∧ p2 c = 2 ∧ p1 (p2 c) = 3)
      ∨ (c = 2 ∧ p1 c = 3 ∧ p2 c = 1 ∧ p1 (p2 c) = 0) ∨ (c = 3 ∧ p1 c = 2 ∧ p2 c = 0 ∧ p1 (p2 c) = 1) := by decide
  rw [Fin.sum_univ_four]
  rcases e c with ⟨h1, h2, h3, h4⟩ | ⟨h1, h2, h3, h4⟩ | ⟨h1, h2, h3, h4⟩ | ⟨h1, h2, h3, h4⟩ <;> rw [h4, h2, h3, h1] <;> abel

/-- **The kernel's result**: the weighted values summed over every device's keys, over the summed weights. -/
theorem res_at (c : Dev nD) (b q : Fin 8) (h : Fin 16) (d : Fin 128) :
    res m c (ix4 b q h d)
      = Ideal.div (∑ c' : Fin 4, ∑ k : Fin 1024, Ideal.exp (dsc m c' b q h k) * aV m c' (ix4 b k h d))
          (∑ c' : Fin 4, ∑ k : Fin 1024, Ideal.exp (dsc m c' b q h k)) := by
  show outR (qB m) (kB m) (vB m) c b (ix4 0 q h d) = _
  refine (pay4_at _ _ _ _ h q d).trans ?_
  congr 1
  · refine Eq.trans ?_ (sum_dev (fun c' => ∑ k : Fin 1024, Ideal.exp (dsc m c' b q h k) * aV m c' (ix4 b k h d)) c)
    unfold c1
    rw [pay9_at, pay9_at, om_at, om_at, om_at, om_at]
  · refine Eq.trans ?_ (sum_dev (fun c' => ∑ k : Fin 1024, Ideal.exp (dsc m c' b q h k)) c)
    unfold cl1
    rw [pay3_at, pay3_at, lm_at, lm_at, lm_at, lm_at]

/-! ## Against the reference -/

variable (Q : FVec Ideal S8x8x16x128 .bf16) (K V : FVec Ideal Cert.ReferenceIdeal.S8x4096x16x128 .bf16)

/-- **The kernel's result is the reference's**: device `c`'s arrays hold all queries and keys (and values) `1024 c` to
    `1024 c + 1023`; queries and keys are finite. -/
theorem res_eq (hQ : ∀ c : Dev nD, aQ m c = Q)
    (hK : ∀ (c : Dev nD) (b : Fin 8) (k : Fin 1024) (h : Fin 16) (d : Fin 128),
      aK m c (ix4 b k h d) = K (ix4 b ⟨c.val * 1024 + k.val, by have : c.val < 4 := c.isLt; omega⟩ h d))
    (hV : ∀ (c : Dev nD) (b : Fin 8) (k : Fin 1024) (h : Fin 16) (d : Fin 128),
      aV m c (ix4 b k h d) = V (ix4 b ⟨c.val * 1024 + k.val, by have : c.val < 4 := c.isLt; omega⟩ h d))
    (fQ : ∀ x, ∃ r : ℝ, Q x = (r : EReal)) (fK : ∀ x, ∃ r : ℝ, K x = (r : EReal)) (c : Dev nD) :
    res m c = refO Q K V := by
  choose rQ hrQ using fQ
  choose rK hrK using fK
  funext x
  obtain ⟨b, q, h, d, rfl⟩ : ∃ (b q : Fin 8) (h : Fin 16) (d : Fin 128), x = ix4 b q h d := ⟨x 0, x 1, x 2, x 3, eq_ix4 x⟩
  rw [res_at, refO_at]
  -- the scores, as reals
  set s : Fin 4096 → ℝ := fun k => (∑ d : Fin 128, rQ (ix4 b q h d) * rK (ix4 b k h d)) * (Real.sqrt 128)⁻¹ with hs
  have eS : ∀ k, refS Q K (ix4 b h q k) = (s k : EReal) := fun k => by
    rw [refS_at, hs, EReal.coe_mul, coe_sum]
    exact congrArg (· * _) (Finset.sum_congr rfl fun d _ => by rw [hrQ, hrK, EReal.coe_mul])
  have eD : ∀ (c' : Fin 4) (k : Fin 1024), dsc m c' b q h k = (s ⟨c'.val * 1024 + k.val, by omega⟩ : EReal) := fun c' k => by
    have e : s ⟨c'.val * 1024 + k.val, by omega⟩ = (∑ d : Fin 128, rQ (ix4 b q h d) * rK (ix4 b ⟨c'.val * 1024 + k.val, by omega⟩ h d)) * (Real.sqrt 128)⁻¹ := rfl
    unfold dsc
    rw [e, Finset.sum_mul, coe_sum]
    refine Finset.sum_congr rfl fun d _ => ?_
    rw [hK c' b k h d, hQ c', hrQ, hrK, ← EReal.coe_mul, ← EReal.coe_mul]
    congr 1
    ring
  obtain ⟨M, hM⟩ := fold_max_real s
  have eE : ∀ k, refE Q K (ix4 b h q k) = Ideal.exp ((s k : EReal) - (M : EReal)) := fun k => by
    rw [refE_at, eS, ← hM]
    simp only [eS]
  simp only [eE, eD]
  rw [softmax_eq s (fun k => V (ix4 b k h d)) M, sum_keys (fun k => Ideal.exp (s k : EReal) * V (ix4 b k h d)), sum_keys (fun k => Ideal.exp (s k : EReal))]
  refine congrArg₂ Ideal.div ?_ rfl
  exact Finset.sum_congr rfl fun c' _ => Finset.sum_congr rfl fun k _ => by rw [hV c' b k h d]

end Cert.Proof.Val

end
-- ==== Proof.Val.Claim.lean ====
/-
  The value claim: from memories where each device holds its part of the reference's arrays, queries and keys finite,
  every device's result is the reference's.
-/
module

public import proofs.«01_k».proof.Defs
public import proofs.«01_k».proof.Proof.Val.Value
public import proofs.«01_k».proof.Proof.Frames

@[expose] public section

noncomputable section

namespace Cert.Proof

open Idealize.ShloMosaic Idealize.ShloMosaic.TcCoe Idealize.SL.Sem

/-- The precondition's shape facts, at the kernel's blocks. -/
theorem preFacts_pi : Cert.Pre_finite_scores_KernelIdeal.Facts := ⟨by decide, by decide⟩
/-- The precondition's shape facts, at the reference's arrays. -/
theorem preFacts_ri : Cert.Pre_finite_scores_ReferenceIdeal.Facts := ⟨by decide, by decide⟩

/-- The idealized kernel's frame, where queries and keys are finite. -/
theorem frame_pi_pre : Cert.quiescent_KernelIdeal_pre_finite_scores_KernelIdeal (hPre_finite_scores_KernelIdeal := preFacts_pi) :=
  fun m ρ _ => (θ_run Cert.KernelIdeal.defs _ _).mono (fun _ h => ⟨fun c => ⟨(h.1 c).1, (h.1 c).2.1, (h.1 c).2.2.1⟩, h.2⟩)
    (Cert.KernelIdeal.Proof.run_main (F := Ideal) m ρ)
/-- The reference's frame, where queries and keys are finite. -/
theorem frame_ri_pre : Cert.quiescent_ReferenceIdeal_pre_finite_scores_ReferenceIdeal (hPre_finite_scores_ReferenceIdeal := preFacts_ri) :=
  fun m ρ _ => (θ_run Cert.ReferenceIdeal.defs _ _).mono (fun r h => ⟨fun c => (h c).2, sem_eq_zero_of_no_sems (by decide) r.2⟩)
    (Cert.ReferenceIdeal.Value.run (F := Ideal) m ρ)

/-- An extended real whose absolute value is below infinity is a real. -/
theorem real_of_abs_lt {x : EReal} (h : FloatOps.cmpf (F := Ideal) (φ := .bf16) .olt (FloatOps.hostAbsf (F := Ideal) (φ := .bf16) x) (Ideal.ofBits .bf16 0x7F80#16) = 1#1) :
    ∃ r : ℝ, x = (r : EReal) := by
  have e : Ideal.ofBits .bf16 0x7F80#16 = ⊤ := by simp [Ideal.ofBits, Ideal.ieee]
  rw [e] at h
  induction x using EReal.rec with
  | bot => exact absurd h (by show ¬ Ideal.cmp .olt (max (⊥ : EReal) (-⊥)) ⊤ = 1#1; simp [Ideal.cmp])
  | coe r => exact ⟨r, rfl⟩
  | top => exact absurd h (by show ¬ Ideal.cmp .olt (max (⊤ : EReal) (-⊤)) ⊤ = 1#1; simp [Ideal.cmp])

open Cert.KernelIdeal in
/-- **The value claim.** -/
theorem algebraic : Cert.algebraic_KernelIdeal_ReferenceIdeal_pre_finite_scores_KernelIdeal (hPre_finite_scores_KernelIdeal := preFacts_pi) := by
  intro m g m' g' hpre hin
  refine ⟨Val.refO (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ⟨(h.1 c).2.2.2.trans ?_, (h.1 c).1, (h.1 c).2.1, (h.1 c).2.2.1⟩)
      (Cert.KernelIdeal.Proof.run_main (F := Ideal) m g)
    have blk : ∀ (c : Dev nD) (b : Fin 8) (k : Fin 1024) (h : Fin 16) (d : Fin 128) (T : FVec Ideal Cert.ReferenceIdeal.S8x4096x16x128 .bf16),
        (Layout.block ⟨4, ![8, 1024, 16, 128]⟩ ⟨4, ![8, 4096, 16, 128]⟩ 1 4 c T : FVec Ideal S8x1024x16x128 .bf16) (ix4 b k h d)
          = T (ix4 b ⟨c.val * 1024 + k.val, by have : c.val < 4 := c.isLt; omega⟩ h d) := fun c b k h d T => by
      rw [Layout.block_apply]
      refine congrArg T (funext fun a => Fin.ext ?_)
      fin_cases a <;> rfl
    refine Val.res_eq m _ _ _ (fun c => (hin c).1) (fun c b k h d => ?_) (fun c b k h d => ?_) (fun x => ?_) (fun x => ?_) c
    · show m ((c : Thread nD τ).loc main_arg1) (ix4 b k h d) = _
      rw [(hin c).2.1]; exact blk c b k h d _
    · show m ((c : Thread nD τ).loc main_arg2) (ix4 b k h d) = _
      rw [(hin c).2.2]; exact blk c b k h d _
    · have := congrFun (hpre 0).1 x
      rw [← (hin 0).1]
      exact real_of_abs_lt this
    · obtain ⟨b, k, h, d, rfl⟩ : ∃ (b : Fin 8) (k : Fin 4096) (h : Fin 16) (d : Fin 128), x = ix4 b k h d := ⟨x 0, x 1, x 2, x 3, eq_ix4 x⟩
      have hc : k.val / 1024 < 4 := by omega
      have e : (⟨k.val / 1024 * 1024 + k.val % 1024, by omega⟩ : Fin 4096) = k := Fin.ext (by show k.val / 1024 * 1024 + k.val % 1024 = k.val; omega)
      have hb := blk ⟨k.val / 1024, hc⟩ b ⟨k.val % 1024, by omega⟩ h d (m' (((0 : Dev Cert.ReferenceIdeal.nD).tc : Thread Cert.ReferenceIdeal.nD Cert.ReferenceIdeal.τ).loc Cert.ReferenceIdeal.main_arg1))
      rw [e, ← (hin ⟨k.val / 1024, hc⟩).2.1] at hb
      rw [← hb]
      exact real_of_abs_lt (congrFun (hpre ⟨k.val / 1024, hc⟩).2 (ix4 b ⟨k.val % 1024, by omega⟩ h d))
  · exact (θ_run Cert.ReferenceIdeal.defs _ _).mono (fun r h => h 0) (Cert.ReferenceIdeal.Value.run (F := Ideal) m' g')

end Cert.Proof

end
-- ==== Proof.lean ====
/-
  The proof of `Cert.Claim`: the witnesses of the programs' stated facts, then the claims (Proof/Frames.lean: the frames and the
  named constant; Proof/Val/Claim.lean: the value claim and the frames under its precondition).
-/

module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Val.Claim
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, preFacts_pi, preFacts_ri,
    frame_p, frame_pi, frame_pi_pre, frame_ri, frame_ri_pre, preserves, algebraic⟩

end Cert.Proof

end
